-- ==== Defs.lean ====
def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def preserves_Kernel7_Kernel7Ideal : Prop :=
  IdealRules.named_const.Statement Cert.Kernel7Ideal.κ "mask" .f32 0xF149F2CA#32 ⊥

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)) →
    ∃ (v0 : (c : Dev Cert.Kernel7Ideal.nD) → Buf (Elt Ideal) ((c.tc : Thread Cert.Kernel7Ideal.nD Cert.Kernel7Ideal.τ).loc Cert.Kernel7Ideal.main_v6)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v6) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v78) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v20) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v16) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def Claim : Prop :=
  ∃ (hKernel7 : Cert.Kernel7.Facts) (hKernel7Ideal : Cert.Kernel7Ideal.Facts) (hReference7Ideal : Cert.Reference7Ideal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts),
    quiescent_Kernel7 (hKernel7 := hKernel7)
    ∧ quiescent_Kernel7Ideal (hKernel7Ideal := hKernel7Ideal)
    ∧ quiescent_Reference7Ideal (hReference7Ideal := hReference7Ideal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Kernel7.lean ====
abbrev S2x4x4x8192x128 : Shape := ⟨5, ![2, 4, 4, 8192, 128]⟩
abbrev S2x4x8192x128 : Shape := ⟨4, ![2, 4, 8192, 128]⟩
abbrev S2x4x8192x16 : Shape := ⟨4, ![2, 4, 8192, 16]⟩
abbrev S4x1x16 : Shape := ⟨3, ![4, 1, 16]⟩
abbrev S8192x128 : Shape := ⟨2, ![8192, 128]⟩
abbrev S_ : Shape := ⟨0, ![]⟩
abbrev S2x8192x2048 : Shape := ⟨3, ![2, 8192, 2048]⟩
abbrev S1x1x4x256x128 : Shape := ⟨5, ![1, 1, 4, 256, 128]⟩
abbrev S1x1x256x128 : Shape := ⟨4, ![1, 1, 256, 128]⟩
abbrev S1x1x8192x128 : Shape := ⟨4, ![1, 1, 8192, 128]⟩
abbrev S1x1x256x16 : Shape := ⟨4, ![1, 1, 256, 16]⟩
abbrev S1x1x16 : Shape := ⟨3, ![1, 1, 16]⟩
abbrev S1x256x512 : Shape := ⟨3, ![1, 256, 512]⟩
abbrev S1024x128 : Shape := ⟨2, ![1024, 128]⟩
abbrev S4x256x128 : Shape := ⟨3, ![4, 256, 128]⟩
abbrev S256x128 : Shape := ⟨2, ![256, 128]⟩
abbrev S1024x256 : Shape := ⟨2, ![1024, 256]⟩
abbrev S256x256 : Shape := ⟨2, ![256, 256]⟩
abbrev S1024 : Shape := ⟨1, ![1024]⟩
abbrev S1024x1 : Shape := ⟨2, ![1024, 1]⟩
abbrev S256x16 : Shape := ⟨2, ![256, 16]⟩
abbrev S1x16 : Shape := ⟨2, ![1, 16]⟩
abbrev S256x1 : Shape := ⟨2, ![256, 1]⟩
abbrev S1x1x1x256x128 : Shape := ⟨5, ![1, 1, 1, 256, 128]⟩
abbrev S1x256x128 : Shape := ⟨3, ![1, 256, 128]⟩

abbrev nBuf : Space → Nat
  | .hbm => 37
  | .vmem => 27
  | .smem => 0
  | _ => 0

abbrev bufTy : (tb : Table) → Fin (tcTables nBuf tb) → BufTy
  | .hbm, ⟨0, _⟩ => ⟨S2x4x4x8192x128, .bf16⟩
  | .hbm, ⟨1, _⟩ => ⟨S2x4x8192x128, .bf16⟩
  | .hbm, ⟨2, _⟩ => ⟨S2x4x8192x128, .bf16⟩
  | .hbm, ⟨3, _⟩ => ⟨S2x4x8192x128, .bf16⟩
  | .hbm, ⟨4, _⟩ => ⟨S2x4x8192x128, .bf16⟩
  | .hbm, ⟨5, _⟩ => ⟨S2x4x8192x128, .bf16⟩
  | .hbm, ⟨6, _⟩ => ⟨S2x4x4x8192x128, .f32⟩
  | .hbm, ⟨7, _⟩ => ⟨S2x4x8192x16, .f32⟩
  | .hbm, ⟨8, _⟩ => ⟨S4x1x16, .f32⟩
  | .hbm, ⟨9, _⟩ => ⟨S8192x128, .i32⟩
  | .hbm, ⟨10, _⟩ => ⟨S_, .i32⟩
  | .hbm, ⟨11, _⟩ => ⟨S_, .i32⟩
  | .hbm, ⟨12, _⟩ => ⟨S8192x128, .i32⟩
  | .hbm, ⟨13, _⟩ => ⟨S8192x128, .i32⟩
  | .hbm, ⟨14, _⟩ => ⟨S8192x128, .i32⟩
  | .hbm, ⟨15, _⟩ => ⟨S_, .i32⟩
  | .hbm, ⟨16, _⟩ => ⟨S8192x128, .i32⟩
  | .hbm, ⟨17, _⟩ => ⟨S8192x128, .i1⟩
  | .hbm, ⟨18, _⟩ => ⟨S8192x128, .i32⟩
  | .hbm, ⟨19, _⟩ => ⟨S8192x128, .i32⟩
  | .hbm, ⟨20, _⟩ => ⟨S_, .i32⟩
  | .hbm, ⟨21, _⟩ => ⟨S8192x128, .i32⟩
  | .hbm, ⟨22, _⟩ => ⟨S8192x128, .i1⟩
  | .hbm, ⟨23, _⟩ => ⟨S8192x128, .i1⟩
  | .hbm, ⟨24, _⟩ => ⟨S_, .i32⟩
  | .hbm, ⟨25, _⟩ => ⟨S8192x128, .i32⟩
  | .hbm, ⟨26, _⟩ => ⟨S8192x128, .i32⟩
  | .hbm, ⟨27, _⟩ => ⟨S8192x128, .i32⟩
  | .hbm, ⟨28, _⟩ => ⟨S8192x128, .i32⟩
  | .hbm, ⟨29, _⟩ => ⟨S8192x128, .i1⟩
  | .hbm, ⟨30, _⟩ => ⟨S_, .f32⟩
  | .hbm, ⟨31, _⟩ => ⟨S_, .f32⟩
  | .hbm, ⟨32, _⟩ => ⟨S8192x128, .f32⟩
  | .hbm, ⟨33, _⟩ => ⟨S8192x128, .f32⟩
  | .hbm, ⟨34, _⟩ => ⟨S8192x128, .f32⟩
  | .hbm, ⟨35, _⟩ => ⟨S8192x128, .bf16⟩
  | .hbm, ⟨36, _⟩ => ⟨S2x8192x2048, .bf16⟩
  | .local _ .vmem, ⟨0, _⟩ => ⟨S1x1x4x256x128, .bf16⟩
  | .local _ .vmem, ⟨1, _⟩ => ⟨S1x1x4x256x128, .bf16⟩
  | .local _ .vmem, ⟨2, _⟩ => ⟨S1x1x256x128, .bf16⟩
  | .local _ .vmem, ⟨3, _⟩ => ⟨S1x1x256x128, .bf16⟩
  | .local _ .vmem, ⟨4, _⟩ => ⟨S1x1x8192x128, .bf16⟩
  | .local _ .vmem, ⟨5, _⟩ => ⟨S1x1x8192x128, .bf16⟩
  | .local _ .vmem, ⟨6, _⟩ => ⟨S8192x128, .bf16⟩
  | .local _ .vmem, ⟨7, _⟩ => ⟨S1x1x8192x128, .bf16⟩
  | .local _ .vmem, ⟨8, _⟩ => ⟨S1x1x8192x128, .bf16⟩
  | .local _ .vmem, ⟨9, _⟩ => ⟨S1x1x8192x128, .bf16⟩
  | .local _ .vmem, ⟨10, _⟩ => ⟨S1x1x8192x128, .bf16⟩
  | .local _ .vmem, ⟨11, _⟩ => ⟨S1x1x8192x128, .bf16⟩
  | .local _ .vmem, ⟨12, _⟩ => ⟨S1x1x8192x128, .bf16⟩
  | .local _ .vmem, ⟨13, _⟩ => ⟨S1x1x4x256x128, .f32⟩
  | .local _ .vmem, ⟨14, _⟩ => ⟨S1x1x4x256x128, .f32⟩
  | .local _ .vmem, ⟨15, _⟩ => ⟨S1x1x256x16, .f32⟩
  | .local _ .vmem, ⟨16, _⟩ => ⟨S1x1x256x16, .f32⟩
  | .local _ .vmem, ⟨17, _⟩ => ⟨S1x1x16, .f32⟩
  | .local _ .vmem, ⟨18, _⟩ => ⟨S1x1x16, .f32⟩
  | .local _ .vmem, ⟨19, _⟩ => ⟨S1x256x512, .bf16⟩
  | .local _ .vmem, ⟨20, _⟩ => ⟨S1x256x512, .bf16⟩
  | .local _ .vmem, ⟨21, _⟩ => ⟨S1024x128, .f32⟩
  | .local _ .vmem, ⟨22, _⟩ => ⟨S1024x128, .f32⟩
  | .local _ .vmem, ⟨23, _⟩ => ⟨S1024x128, .f32⟩
  | .local _ .vmem, ⟨24, _⟩ => ⟨S1024x128, .f32⟩
  | .local _ .vmem, ⟨25, _⟩ => ⟨S1024x128, .f32⟩
  | .local _ .vmem, ⟨26, _⟩ => ⟨S1024x128, .f32⟩
  | _, _ => ⟨S2x4x4x8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_cst : Ref sig .tc := ⟨.hbm, 30, rfl⟩
abbrev main_cst_0 : Ref sig .tc := ⟨.hbm, 31, rfl⟩
abbrev main_call1_v0 : Ref sig .tc := ⟨.hbm, 32, rfl⟩
abbrev main_call1_v1 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_scratch5 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨3, ![2, 4, 32], ![false, false, false]⟩

def k0_mult1 (i : grid0.Coords) : BitVec 32 :=
  let arg2 : BitVec 32 := BitVec.ofNat 32 (i 2).val
  let c256_i32 : BitVec 32 := 256#32
  let v35 : BitVec 32 := Scalar.muli arg2 c256_i32
  v35
def k0_off1 (i : grid0.Coords) : Fin 4 → Nat :=
  let c0_25 : Index := 0#32
  let c0_26 : Index := 0#32
  let arg2 : BitVec 32 := BitVec.ofNat 32 (i 2).val
  let c256_i32 : BitVec 32 := 256#32
  let v35 : BitVec 32 := Scalar.muli arg2 c256_i32
  let v36 : BitVec 32 := v35
  let v37 : Index := Scalar.indexCast v36
  let c0_27 : Index := 0#32
  ![0, 0, v37.toNat, 0]
def k0_off2 (i : grid0.Coords) : Fin 2 → Nat :=
  let arg2 : BitVec 32 := BitVec.ofNat 32 (i 2).val
  let c256_i32 : BitVec 32 := 256#32
  let v35 : BitVec 32 := Scalar.muli arg2 c256_i32
  let v36 : BitVec 32 := v35
  let v40 : Index := Scalar.indexCast v36
  let c0_28 : Index := 0#32
  ![v40.toNat, 0]
@[reducible] def k0_t1_loop (i : grid0.Coords) : Scf.Loop 32 :=
  let c0_i32_51 : BitVec 32 := 0#32
  let arg2 : BitVec 32 := BitVec.ofNat 32 (i 2).val
  let c1_i32 : BitVec 32 := 1#32
  let v95 : BitVec 32 := Scalar.shrui arg2 c1_i32
  let v96 : BitVec 32 := Scalar.subi v95 c0_i32_51
  let c1_i32_52 : BitVec 32 := 1#32
  let v98 : BitVec 32 := Scalar.divsi v96 c1_i32_52
  let v99 : BitVec 32 := Scalar.muli v98 c1_i32_52
  let v100 : BitVec 32 := Scalar.addi c0_i32_51 v99
  let c1_i32_53 : BitVec 32 := 1#32
  ⟨c0_i32_51, v100, c1_i32_53⟩
def k0_mult2 (i : grid0.Coords) (k0_t1 : Fin (k0_t1_loop i).trips) : BitVec 32 :=
  let c2_i32_134 : BitVec 32 := 2#32
  let c0_i32_51 : BitVec 32 := 0#32
  let c1_i32_53 : BitVec 32 := 1#32
  let arg20 : BitVec 32 := Scf.iv c0_i32_51 c1_i32_53 k0_t1
  let v261 : BitVec 32 := Scalar.muli c2_i32_134 arg20
  let c256_i32_135 : BitVec 32 := 256#32
  let v262 : BitVec 32 := Scalar.muli v261 c256_i32_135
  v262
def k0_off3 (i : grid0.Coords) (k0_t1 : Fin (k0_t1_loop i).trips) : Fin 4 → Nat :=
  let c0_136 : Index := 0#32
  let c0_137 : Index := 0#32
  let c2_i32_134 : BitVec 32 := 2#32
  let c0_i32_51 : BitVec 32 := 0#32
  let c1_i32_53 : BitVec 32 := 1#32
  let arg20 : BitVec 32 := Scf.iv c0_i32_51 c1_i32_53 k0_t1
  let v261 : BitVec 32 := Scalar.muli c2_i32_134 arg20
  let c256_i32_135 : BitVec 32 := 256#32
  let v262 : BitVec 32 := Scalar.muli v261 c256_i32_135
  let v263 : BitVec 32 := v262
  let v264 : Index := Scalar.indexCast v263
  let c0_138 : Index := 0#32
  ![0, 0, v264.toNat, 0]
def k0_off4 (i : grid0.Coords) (k0_t1 : Fin (k0_t1_loop i).trips) : Fin 2 → Nat :=
  let c2_i32_134 : BitVec 32 := 2#32
  let c0_i32_51 : BitVec 32 := 0#32
  let c1_i32_53 : BitVec 32 := 1#32
  let arg20 : BitVec 32 := Scf.iv c0_i32_51 c1_i32_53 k0_t1
  let v261 : BitVec 32 := Scalar.muli c2_i32_134 arg20
  let c256_i32_135 : BitVec 32 := 256#32
  let v262 : BitVec 32 := Scalar.muli v261 c256_i32_135
  let v263 : BitVec 32 := v262
  let v267 : Index := Scalar.indexCast v263
  let c0_139 : Index := 0#32
  ![v267.toNat, 0]
def k0_mult3 (i : grid0.Coords) (k0_t1 : Fin (k0_t1_loop i).trips) : BitVec 32 :=
  let c2_i32_144 : BitVec 32 := 2#32
  let c0_i32_51 : BitVec 32 := 0#32
  let c1_i32_53 : BitVec 32 := 1#32
  let arg20 : BitVec 32 := Scf.iv c0_i32_51 c1_i32_53 k0_t1
  let v277 : BitVec 32 := Scalar.muli c2_i32_144 arg20
  let c1_i32_145 : BitVec 32 := 1#32
  let v278 : BitVec 32 := Scalar.addi v277 c1_i32_145
  let c256_i32_146 : BitVec 32 := 256#32
  let v279 : BitVec 32 := Scalar.muli v278 c256_i32_146
  v279
def k0_off5 (i : grid0.Coords) (k0_t1 : Fin (k0_t1_loop i).trips) : Fin 4 → Nat :=
  let c0_147 : Index := 0#32
  let c0_148 : Index := 0#32
  let c2_i32_144 : BitVec 32 := 2#32
  let c0_i32_51 : BitVec 32 := 0#32
  let c1_i32_53 : BitVec 32 := 1#32
  let arg20 : BitVec 32 := Scf.iv c0_i32_51 c1_i32_53 k0_t1
  let v277 : BitVec 32 := Scalar.muli c2_i32_144 arg20
  let c1_i32_145 : BitVec 32 := 1#32
  let v278 : BitVec 32 := Scalar.addi v277 c1_i32_145
  let c256_i32_146 : BitVec 32 := 256#32
  let v279 : BitVec 32 := Scalar.muli v278 c256_i32_146
  let v280 : BitVec 32 := v279
  let v281 : Index := Scalar.indexCast v280
  let c0_149 : Index := 0#32
  ![0, 0, v281.toNat, 0]
def k0_off6 (i : grid0.Coords) (k0_t1 : Fin (k0_t1_loop i).trips) : Fin 2 → Nat :=
  let c2_i32_144 : BitVec 32 := 2#32
  let c0_i32_51 : BitVec 32 := 0#32
  let c1_i32_53 : BitVec 32 := 1#32
  let arg20 : BitVec 32 := Scf.iv c0_i32_51 c1_i32_53 k0_t1
  let v277 : BitVec 32 := Scalar.muli c2_i32_144 arg20
  let c1_i32_145 : BitVec 32 := 1#32
  let v278 : BitVec 32 := Scalar.addi v277 c1_i32_145
  let c256_i32_146 : BitVec 32 := 256#32
  let v279 : BitVec 32 := Scalar.muli v278 c256_i32_146
  let v280 : BitVec 32 := v279
  let v284 : Index := Scalar.indexCast v280
  let c0_150 : Index := 0#32
  ![v284.toNat, 0]
@[reducible] def k0_t2_loop (i : grid0.Coords) : Scf.Loop 32 :=
  let c0_i32_51 : BitVec 32 := 0#32
  let arg2 : BitVec 32 := BitVec.ofNat 32 (i 2).val
  let c1_i32 : BitVec 32 := 1#32
  let v95 : BitVec 32 := Scalar.shrui arg2 c1_i32
  let v96 : BitVec 32 := Scalar.subi v95 c0_i32_51
  let c1_i32_52 : BitVec 32 := 1#32
  let v98 : BitVec 32 := Scalar.divsi v96 c1_i32_52
  let v99 : BitVec 32 := Scalar.muli v98 c1_i32_52
  let v100 : BitVec 32 := Scalar.addi c0_i32_51 v99
  let v97 : BitVec 32 := Scalar.addi c0_i32_51 v96
  let c1_i32_54 : BitVec 32 := 1#32
  ⟨v100, v97, c1_i32_54⟩
def k0_mult4 (i : grid0.Coords) (k0_t2 : Fin (k0_t2_loop i).trips) : BitVec 32 :=
  let c2_i32_134 : BitVec 32 := 2#32
  let c0_i32_51 : BitVec 32 := 0#32
  let arg2 : BitVec 32 := BitVec.ofNat 32 (i 2).val
  let c1_i32 : BitVec 32 := 1#32
  let v95 : BitVec 32 := Scalar.shrui arg2 c1_i32
  let v96 : BitVec 32 := Scalar.subi v95 c0_i32_51
  let c1_i32_52 : BitVec 32 := 1#32
  let v98 : BitVec 32 := Scalar.divsi v96 c1_i32_52
  let v99 : BitVec 32 := Scalar.muli v98 c1_i32_52
  let v100 : BitVec 32 := Scalar.addi c0_i32_51 v99
  let c1_i32_54 : BitVec 32 := 1#32
  let arg20 : BitVec 32 := Scf.iv v100 c1_i32_54 k0_t2
  let v261 : BitVec 32 := Scalar.muli c2_i32_134 arg20
  let c256_i32_135 : BitVec 32 := 256#32
  let v262 : BitVec 32 := Scalar.muli v261 c256_i32_135
  v262
def k0_off7 (i : grid0.Coords) (k0_t2 : Fin (k0_t2_loop i).trips) : Fin 4 → Nat :=
  let c0_136 : Index := 0#32
  let c0_137 : Index := 0#32
  let c2_i32_134 : BitVec 32 := 2#32
  let c0_i32_51 : BitVec 32 := 0#32
  let arg2 : BitVec 32 := BitVec.ofNat 32 (i 2).val
  let c1_i32 : BitVec 32 := 1#32
  let v95 : BitVec 32 := Scalar.shrui arg2 c1_i32
  let v96 : BitVec 32 := Scalar.subi v95 c0_i32_51
  let c1_i32_52 : BitVec 32 := 1#32
  let v98 : BitVec 32 := Scalar.divsi v96 c1_i32_52
  let v99 : BitVec 32 := Scalar.muli v98 c1_i32_52
  let v100 : BitVec 32 := Scalar.addi c0_i32_51 v99
  let c1_i32_54 : BitVec 32 := 1#32
  let arg20 : BitVec 32 := Scf.iv v100 c1_i32_54 k0_t2
  let v261 : BitVec 32 := Scalar.muli c2_i32_134 arg20
  let c256_i32_135 : BitVec 32 := 256#32
  let v262 : BitVec 32 := Scalar.muli v261 c256_i32_135
  let v263 : BitVec 32 := v262
  let v264 : Index := Scalar.indexCast v263
  let c0_138 : Index := 0#32
  ![0, 0, v264.toNat, 0]
def k0_off8 (i : grid0.Coords) (k0_t2 : Fin (k0_t2_loop i).trips) : Fin 2 → Nat :=
  let c2_i32_134 : BitVec 32 := 2#32
  let c0_i32_51 : BitVec 32 := 0#32
  let arg2 : BitVec 32 := BitVec.ofNat 32 (i 2).val
  let c1_i32 : BitVec 32 := 1#32
  let v95 : BitVec 32 := Scalar.shrui arg2 c1_i32
  let v96 : BitVec 32 := Scalar.subi v95 c0_i32_51
  let c1_i32_52 : BitVec 32 := 1#32
  let v98 : BitVec 32 := Scalar.divsi v96 c1_i32_52
  let v99 : BitVec 32 := Scalar.muli v98 c1_i32_52
  let v100 : BitVec 32 := Scalar.addi c0_i32_51 v99
  let c1_i32_54 : BitVec 32 := 1#32
  let arg20 : BitVec 32 := Scf.iv v100 c1_i32_54 k0_t2
  let v261 : BitVec 32 := Scalar.muli c2_i32_134 arg20
  let c256_i32_135 : BitVec 32 := 256#32
  let v262 : BitVec 32 := Scalar.muli v261 c256_i32_135
  let v263 : BitVec 32 := v262
  let v267 : Index := Scalar.indexCast v263
  let c0_139 : Index := 0#32
  ![v267.toNat, 0]
def k0_mult5 (i : grid0.Coords) (k0_t2 : Fin (k0_t2_loop i).trips) : BitVec 32 :=
  let c2_i32_144 : BitVec 32 := 2#32
  let c0_i32_51 : BitVec 32 := 0#32
  let arg2 : BitVec 32 := BitVec.ofNat 32 (i 2).val
  let c1_i32 : BitVec 32 := 1#32
  let v95 : BitVec 32 := Scalar.shrui arg2 c1_i32
  let v96 : BitVec 32 := Scalar.subi v95 c0_i32_51
  let c1_i32_52 : BitVec 32 := 1#32
  let v98 : BitVec 32 := Scalar.divsi v96 c1_i32_52
  let v99 : BitVec 32 := Scalar.muli v98 c1_i32_52
  let v100 : BitVec 32 := Scalar.addi c0_i32_51 v99
  let c1_i32_54 : BitVec 32 := 1#32
  let arg20 : BitVec 32 := Scf.iv v100 c1_i32_54 k0_t2
  let v277 : BitVec 32 := Scalar.muli c2_i32_144 arg20
  let c1_i32_145 : BitVec 32 := 1#32
  let v278 : BitVec 32 := Scalar.addi v277 c1_i32_145
  let c256_i32_146 : BitVec 32 := 256#32
  let v279 : BitVec 32 := Scalar.muli v278 c256_i32_146
  v279
def k0_off9 (i : grid0.Coords) (k0_t2 : Fin (k0_t2_loop i).trips) : Fin 4 → Nat :=
  let c0_147 : Index := 0#32
  let c0_148 : Index := 0#32
  let c2_i32_144 : BitVec 32 := 2#32
  let c0_i32_51 : BitVec 32 := 0#32
  let arg2 : BitVec 32 := BitVec.ofNat 32 (i 2).val
  let c1_i32 : BitVec 32 := 1#32
  let v95 : BitVec 32 := Scalar.shrui arg2 c1_i32
  let v96 : BitVec 32 := Scalar.subi v95 c0_i32_51
  let c1_i32_52 : BitVec 32 := 1#32
  let v98 : BitVec 32 := Scalar.divsi v96 c1_i32_52
  let v99 : BitVec 32 := Scalar.muli v98 c1_i32_52
  let v100 : BitVec 32 := Scalar.addi c0_i32_51 v99
  let c1_i32_54 : BitVec 32 := 1#32
  let arg20 : BitVec 32 := Scf.iv v100 c1_i32_54 k0_t2
  let v277 : BitVec 32 := Scalar.muli c2_i32_144 arg20
  let c1_i32_145 : BitVec 32 := 1#32
  let v278 : BitVec 32 := Scalar.addi v277 c1_i32_145
  let c256_i32_146 : BitVec 32 := 256#32
  let v279 : BitVec 32 := Scalar.muli v278 c256_i32_146
  let v280 : BitVec 32 := v279
  let v281 : Index := Scalar.indexCast v280
  let c0_149 : Index := 0#32
  ![0, 0, v281.toNat, 0]
def k0_off10 (i : grid0.Coords) (k0_t2 : Fin (k0_t2_loop i).trips) : Fin 2 → Nat :=
  let c2_i32_144 : BitVec 32 := 2#32
  let c0_i32_51 : BitVec 32 := 0#32
  let arg2 : BitVec 32 := BitVec.ofNat 32 (i 2).val
  let c1_i32 : BitVec 32 := 1#32
  let v95 : BitVec 32 := Scalar.shrui arg2 c1_i32
  let v96 : BitVec 32 := Scalar.subi v95 c0_i32_51
  let c1_i32_52 : BitVec 32 := 1#32
  let v98 : BitVec 32 := Scalar.divsi v96 c1_i32_52
  let v99 : BitVec 32 := Scalar.muli v98 c1_i32_52
  let v100 : BitVec 32 := Scalar.addi c0_i32_51 v99
  let c1_i32_54 : BitVec 32 := 1#32
  let arg20 : BitVec 32 := Scf.iv v100 c1_i32_54 k0_t2
  let v277 : BitVec 32 := Scalar.muli c2_i32_144 arg20
  let c1_i32_145 : BitVec 32 := 1#32
  let v278 : BitVec 32 := Scalar.addi v277 c1_i32_145
  let c256_i32_146 : BitVec 32 := 256#32
  let v279 : BitVec 32 := Scalar.muli v278 c256_i32_146
  let v280 : BitVec 32 := v279
  let v284 : Index := Scalar.indexCast v280
  let c0_150 : Index := 0#32
  ![v284.toNat, 0]
def k0_cond1 (i : grid0.Coords) : BitVec 1 :=
  let arg2 : BitVec 32 := BitVec.ofNat 32 (i 2).val
  let c1_i32_55 : BitVec 32 := 1#32
  let v101 : BitVec 32 := Scalar.andi arg2 c1_i32_55
  let c1_i32_56 : BitVec 32 := 1#32
  let v102 : BitVec 1 := Scalar.cmpi .eq v101 c1_i32_56
  let v103 : BitVec 32 := Scalar.extui v102
  let c0_i32_57 : BitVec 32 := 0#32
  let v104 : BitVec 1 := Scalar.cmpi .ne v103 c0_i32_57
  v104

def k0_mult6 (i : grid0.Coords) : BitVec 32 :=
  let arg2 : BitVec 32 := BitVec.ofNat 32 (i 2).val
  let c1_i32_134 : BitVec 32 := 1#32
  let v261 : BitVec 32 := Scalar.subi arg2 c1_i32_134
  let c256_i32_135 : BitVec 32 := 256#32
  let v262 : BitVec 32 := Scalar.muli v261 c256_i32_135
  v262
def k0_off11 (i : grid0.Coords) : Fin 4 → Nat :=
  let c0_136 : Index := 0#32
  let c0_137 : Index := 0#32
  let arg2 : BitVec 32 := BitVec.ofNat 32 (i 2).val
  let c1_i32_134 : BitVec 32 := 1#32
  let v261 : BitVec 32 := Scalar.subi arg2 c1_i32_134
  let c256_i32_135 : BitVec 32 := 256#32
  let v262 : BitVec 32 := Scalar.muli v261 c256_i32_135
  let v263 : BitVec 32 := v262
  let v264 : Index := Scalar.indexCast v263
  let c0_138 : Index := 0#32
  ![0, 0, v264.toNat, 0]
def k0_off12 (i : grid0.Coords) : Fin 2 → Nat :=
  let arg2 : BitVec 32 := BitVec.ofNat 32 (i 2).val
  let c1_i32_134 : BitVec 32 := 1#32
  let v261 : BitVec 32 := Scalar.subi arg2 c1_i32_134
  let c256_i32_135 : BitVec 32 := 256#32
  let v262 : BitVec 32 := Scalar.muli v261 c256_i32_135
  let v263 : BitVec 32 := v262
  let v267 : Index := Scalar.indexCast v263
  let c0_139 : Index := 0#32
  ![v267.toNat, 0]
def k0_mult7 (i : grid0.Coords) : BitVec 32 :=
  let arg2 : BitVec 32 := BitVec.ofNat 32 (i 2).val
  let c256_i32_58 : BitVec 32 := 256#32
  let v105 : BitVec 32 := Scalar.muli arg2 c256_i32_58
  v105
@[reducible] def k0_t3_loop (i : grid0.Coords) : Scf.Loop 32 :=
  let arg2 : BitVec 32 := BitVec.ofNat 32 (i 2).val
  let c2_i32 : BitVec 32 := 2#32
  let v161 : BitVec 32 := Scalar.subi arg2 c2_i32
  let c1_i32_85 : BitVec 32 := 1#32
  let v162 : BitVec 32 := Scalar.addi v161 c1_i32_85
  let c0_i32_86 : BitVec 32 := 0#32
  let v163 : BitVec 32 := Scalar.maxsi v162 c0_i32_86
  let v164 : BitVec 32 := Scalar.subi arg2 v163
  let c1_i32_88 : BitVec 32 := 1#32
  let v166 : BitVec 32 := Scalar.divsi v164 c1_i32_88
  let v167 : BitVec 32 := Scalar.muli v166 c1_i32_88
  let v168 : BitVec 32 := Scalar.addi v163 v167
  let c1_i32_89 : BitVec 32 := 1#32
  ⟨v163, v168, c1_i32_89⟩
def k0_mult8 (i : grid0.Coords) (k0_t3 : Fin (k0_t3_loop i).trips) : BitVec 32 :=
  let arg2 : BitVec 32 := BitVec.ofNat 32 (i 2).val
  let c2_i32 : BitVec 32 := 2#32
  let v161 : BitVec 32 := Scalar.subi arg2 c2_i32
  let c1_i32_85 : BitVec 32 := 1#32
  let v162 : BitVec 32 := Scalar.addi v161 c1_i32_85
  let c0_i32_86 : BitVec 32 := 0#32
  let v163 : BitVec 32 := Scalar.maxsi v162 c0_i32_86
  let c1_i32_89 : BitVec 32 := 1#32
  let arg20 : BitVec 32 := Scf.iv v163 c1_i32_89 k0_t3
  let c256_i32_134 : BitVec 32 := 256#32
  let v261 : BitVec 32 := Scalar.muli arg20 c256_i32_134
  v261
def k0_off13 (i : grid0.Coords) (k0_t3 : Fin (k0_t3_loop i).trips) : Fin 4 → Nat :=
  let c0_135 : Index := 0#32
  let c0_136 : Index := 0#32
  let arg2 : BitVec 32 := BitVec.ofNat 32 (i 2).val
  let c2_i32 : BitVec 32 := 2#32
  let v161 : BitVec 32 := Scalar.subi arg2 c2_i32
  let c1_i32_85 : BitVec 32 := 1#32
  let v162 : BitVec 32 := Scalar.addi v161 c1_i32_85
  let c0_i32_86 : BitVec 32 := 0#32
  let v163 : BitVec 32 := Scalar.maxsi v162 c0_i32_86
  let c1_i32_89 : BitVec 32 := 1#32
  let arg20 : BitVec 32 := Scf.iv v163 c1_i32_89 k0_t3
  let c256_i32_134 : BitVec 32 := 256#32
  let v261 : BitVec 32 := Scalar.muli arg20 c256_i32_134
  let v262 : BitVec 32 := v261
  let v263 : Index := Scalar.indexCast v262
  let c0_137 : Index := 0#32
  ![0, 0, v263.toNat, 0]
@[reducible] def k0_t4_loop (i : grid0.Coords) : Scf.Loop 32 :=
  let arg2 : BitVec 32 := BitVec.ofNat 32 (i 2).val
  let c2_i32 : BitVec 32 := 2#32
  let v161 : BitVec 32 := Scalar.subi arg2 c2_i32
  let c1_i32_85 : BitVec 32 := 1#32
  let v162 : BitVec 32 := Scalar.addi v161 c1_i32_85
  let c0_i32_86 : BitVec 32 := 0#32
  let v163 : BitVec 32 := Scalar.maxsi v162 c0_i32_86
  let v164 : BitVec 32 := Scalar.subi arg2 v163
  let c1_i32_88 : BitVec 32 := 1#32
  let v166 : BitVec 32 := Scalar.divsi v164 c1_i32_88
  let v167 : BitVec 32 := Scalar.muli v166 c1_i32_88
  let v168 : BitVec 32 := Scalar.addi v163 v167
  let v165 : BitVec 32 := Scalar.addi v163 v164
  let c1_i32_90 : BitVec 32 := 1#32
  ⟨v168, v165, c1_i32_90⟩
def k0_mult9 (i : grid0.Coords) (k0_t4 : Fin (k0_t4_loop i).trips) : BitVec 32 :=
  let arg2 : BitVec 32 := BitVec.ofNat 32 (i 2).val
  let c2_i32 : BitVec 32 := 2#32
  let v161 : BitVec 32 := Scalar.subi arg2 c2_i32
  let c1_i32_85 : BitVec 32 := 1#32
  let v162 : BitVec 32 := Scalar.addi v161 c1_i32_85
  let c0_i32_86 : BitVec 32 := 0#32
  let v163 : BitVec 32 := Scalar.maxsi v162 c0_i32_86
  let v164 : BitVec 32 := Scalar.subi arg2 v163
  let c1_i32_88 : BitVec 32 := 1#32
  let v166 : BitVec 32 := Scalar.divsi v164 c1_i32_88
  let v167 : BitVec 32 := Scalar.muli v166 c1_i32_88
  let v168 : BitVec 32 := Scalar.addi v163 v167
  let c1_i32_90 : BitVec 32 := 1#32
  let arg20 : BitVec 32 := Scf.iv v168 c1_i32_90 k0_t4
  let c256_i32_134 : BitVec 32 := 256#32
  let v261 : BitVec 32 := Scalar.muli arg20 c256_i32_134
  v261
def k0_off14 (i : grid0.Coords) (k0_t4 : Fin (k0_t4_loop i).trips) : Fin 4 → Nat :=
  let c0_135 : Index := 0#32
  let c0_136 : Index := 0#32
  let arg2 : BitVec 32 := BitVec.ofNat 32 (i 2).val
  let c2_i32 : BitVec 32 := 2#32
  let v161 : BitVec 32 := Scalar.subi arg2 c2_i32
  let c1_i32_85 : BitVec 32 := 1#32
  let v162 : BitVec 32 := Scalar.addi v161 c1_i32_85
  let c0_i32_86 : BitVec 32 := 0#32
  let v163 : BitVec 32 := Scalar.maxsi v162 c0_i32_86
  let v164 : BitVec 32 := Scalar.subi arg2 v163
  let c1_i32_88 : BitVec 32 := 1#32
  let v166 : BitVec 32 := Scalar.divsi v164 c1_i32_88
  let v167 : BitVec 32 := Scalar.muli v166 c1_i32_88
  let v168 : BitVec 32 := Scalar.addi v163 v167
  let c1_i32_90 : BitVec 32 := 1#32
  let arg20 : BitVec 32 := Scf.iv v168 c1_i32_90 k0_t4
  let c256_i32_134 : BitVec 32 := 256#32
  let v261 : BitVec 32 := Scalar.muli arg20 c256_i32_134
  let v262 : BitVec 32 := v261
  let v263 : Index := Scalar.indexCast v262
  let c0_137 : Index := 0#32
  ![0, 0, v263.toNat, 0]
def k0_cond2 (i : grid0.Coords) : BitVec 1 :=
  let arg2 : BitVec 32 := BitVec.ofNat 32 (i 2).val
  let c2_i32_91 : BitVec 32 := 2#32
  let v169 : BitVec 1 := Scalar.cmpi .sge arg2 c2_i32_91
  let v170 : BitVec 32 := Scalar.extui v169
  let c0_i32_92 : BitVec 32 := 0#32
  let v171 : BitVec 1 := Scalar.cmpi .ne v170 c0_i32_92
  v171

def k0_mult10 (i : grid0.Coords) : BitVec 32 :=
  let arg2 : BitVec 32 := BitVec.ofNat 32 (i 2).val
  let c2_i32_134 : BitVec 32 := 2#32
  let v261 : BitVec 32 := Scalar.subi arg2 c2_i32_134
  let c256_i32_135 : BitVec 32 := 256#32
  let v262 : BitVec 32 := Scalar.muli v261 c256_i32_135
  v262
def k0_off15 (i : grid0.Coords) : Fin 4 → Nat :=
  let c0_136 : Index := 0#32
  let c0_137 : Index := 0#32
  let arg2 : BitVec 32 := BitVec.ofNat 32 (i 2).val
  let c2_i32_134 : BitVec 32 := 2#32
  let v261 : BitVec 32 := Scalar.subi arg2 c2_i32_134
  let c256_i32_135 : BitVec 32 := 256#32
  let v262 : BitVec 32 := Scalar.muli v261 c256_i32_135
  let v263 : BitVec 32 := v262
  let v264 : Index := Scalar.indexCast v263
  let c0_138 : Index := 0#32
  ![0, 0, v264.toNat, 0]
def cc0_transform_0 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, arg2.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, arg2.toNat, c0_i32_0.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1x4x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S8192x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x1x8192x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x8192x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x1x8192x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x1x4x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x256x16 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x1x16 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true, false]

abbrev stage0_10 : Fin 2 → Memref sig .tc .vmem S1x256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== Kernel7Ideal.lean ====
variable {F : FTy → Type} [FloatOps F] [Named F]
def κ : String → Option EReal := fun
  | "mask" => some ⊥
  | _ => none
-- ==== Reference7Ideal.lean ====
abbrev S2x4x4x8192x128 : Shape := ⟨5, ![2, 4, 4, 8192, 128]⟩
abbrev S2x4x8192x128 : Shape := ⟨4, ![2, 4, 8192, 128]⟩
abbrev S2x4x8192x16 : Shape := ⟨4, ![2, 4, 8192, 16]⟩
abbrev S4x1x16 : Shape := ⟨3, ![4, 1, 16]⟩
abbrev S8192 : Shape := ⟨1, ![8192]⟩
abbrev S8192x1 : Shape := ⟨2, ![8192, 1]⟩
abbrev S1x8192 : Shape := ⟨2, ![1, 8192]⟩
abbrev S2x4x8192x128x1 : Shape := ⟨5, ![2, 4, 8192, 128, 1]⟩
abbrev S2x4x8192x128x64 : Shape := ⟨5, ![2, 4, 8192, 128, 64]⟩
abbrev S2x4x1x8192x8192 : Shape := ⟨5, ![2, 4, 1, 8192, 8192]⟩
abbrev S2x4x4x8192x8192 : Shape := ⟨5, ![2, 4, 4, 8192, 8192]⟩
abbrev S8192x8192 : Shape := ⟨2, ![8192, 8192]⟩
abbrev S_ : Shape := ⟨0, ![]⟩
abbrev S2x4x4x8192 : Shape := ⟨4, ![2, 4, 4, 8192]⟩
abbrev S2x4x4x8192x1 : Shape := ⟨5, ![2, 4, 4, 8192, 1]⟩
abbrev S1x4x1x16 : Shape := ⟨4, ![1, 4, 1, 16]⟩
abbrev S2x4x8192x12 : Shape := ⟨4, ![2, 4, 8192, 12]⟩
abbrev S2x4x8192x4x3 : Shape := ⟨5, ![2, 4, 8192, 4, 3]⟩
abbrev S2x4x4x8192x3 : Shape := ⟨5, ![2, 4, 4, 8192, 3]⟩
abbrev S2x8192x4x4x128 : Shape := ⟨5, ![2, 8192, 4, 4, 128]⟩
abbrev S2x8192x2048 : Shape := ⟨3, ![2, 8192, 2048]⟩

abbrev nBuf : Space → Nat
  | .hbm => 111
  | .vmem => 0
  | .smem => 0
  | _ => 0

abbrev bufTy : (tb : Table) → Fin (tcTables nBuf tb) → BufTy
  | .hbm, ⟨0, _⟩ => ⟨S2x4x4x8192x128, .bf16⟩
  | .hbm, ⟨1, _⟩ => ⟨S2x4x8192x128, .bf16⟩
  | .hbm, ⟨2, _⟩ => ⟨S2x4x8192x128, .bf16⟩
  | .hbm, ⟨3, _⟩ => ⟨S2x4x8192x128, .bf16⟩
  | .hbm, ⟨4, _⟩ => ⟨S2x4x8192x128, .bf16⟩
  | .hbm, ⟨5, _⟩ => ⟨S2x4x8192x128, .bf16⟩
  | .hbm, ⟨6, _⟩ => ⟨S2x4x4x8192x128, .f32⟩
  | .hbm, ⟨7, _⟩ => ⟨S2x4x8192x16, .f32⟩
  | .hbm, ⟨8, _⟩ => ⟨S4x1x16, .f32⟩
  | .hbm, ⟨9, _⟩ => ⟨S2x4x4x8192x128, .f32⟩
  | .hbm, ⟨10, _⟩ => ⟨S2x4x8192x128, .f32⟩
  | .hbm, ⟨11, _⟩ => ⟨S2x4x8192x128, .f32⟩
  | .hbm, ⟨12, _⟩ => ⟨S2x4x8192x128, .f32⟩
  | .hbm, ⟨13, _⟩ => ⟨S2x4x8192x128, .f32⟩
  | .hbm, ⟨14, _⟩ => ⟨S2x4x8192x128, .f32⟩
  | .hbm, ⟨15, _⟩ => ⟨S8192, .i32⟩
  | .hbm, ⟨16, _⟩ => ⟨S8192x1, .i32⟩
  | .hbm, ⟨17, _⟩ => ⟨S8192, .i32⟩
  | .hbm, ⟨18, _⟩ => ⟨S1x8192, .i32⟩
  | .hbm, ⟨19, _⟩ => ⟨S2x4x8192x128x1, .f32⟩
  | .hbm, ⟨20, _⟩ => ⟨S2x4x8192x128x64, .f32⟩
  | .hbm, ⟨21, _⟩ => ⟨S2x4x1x8192x8192, .f32⟩
  | .hbm, ⟨22, _⟩ => ⟨S2x4x4x8192x8192, .f32⟩
  | .hbm, ⟨23, _⟩ => ⟨S2x4x4x8192x8192, .f32⟩
  | .hbm, ⟨24, _⟩ => ⟨S2x4x4x8192x8192, .f32⟩
  | .hbm, ⟨25, _⟩ => ⟨S8192x8192, .i32⟩
  | .hbm, ⟨26, _⟩ => ⟨S8192x8192, .i32⟩
  | .hbm, ⟨27, _⟩ => ⟨S8192x8192, .i1⟩
  | .hbm, ⟨28, _⟩ => ⟨S_, .f32⟩
  | .hbm, ⟨29, _⟩ => ⟨S_, .f32⟩
  | .hbm, ⟨30, _⟩ => ⟨S2x4x4x8192x8192, .i1⟩
  | .hbm, ⟨31, _⟩ => ⟨S2x4x4x8192x8192, .f32⟩
  | .hbm, ⟨32, _⟩ => ⟨S2x4x4x8192x8192, .f32⟩
  | .hbm, ⟨33, _⟩ => ⟨S_, .f32⟩
  | .hbm, ⟨34, _⟩ => ⟨S2x4x4x8192, .f32⟩
  | .hbm, ⟨35, _⟩ => ⟨S2x4x4x8192x1, .f32⟩
  | .hbm, ⟨36, _⟩ => ⟨S2x4x4x8192x8192, .f32⟩
  | .hbm, ⟨37, _⟩ => ⟨S2x4x4x8192x8192, .f32⟩
  | .hbm, ⟨38, _⟩ => ⟨S2x4x4x8192x8192, .f32⟩
  | .hbm, ⟨39, _⟩ => ⟨S_, .f32⟩
  | .hbm, ⟨40, _⟩ => ⟨S_, .f32⟩
  | .hbm, ⟨41, _⟩ => ⟨S2x4x4x8192x8192, .i1⟩
  | .hbm, ⟨42, _⟩ => ⟨S2x4x4x8192x8192, .f32⟩
  | .hbm, ⟨43, _⟩ => ⟨S2x4x4x8192x8192, .f32⟩
  | .hbm, ⟨44, _⟩ => ⟨S2x4x4x8192x128, .f32⟩
  | .hbm, ⟨45, _⟩ => ⟨S_, .f32⟩
  | .hbm, ⟨46, _⟩ => ⟨S2x4x4x8192, .f32⟩
  | .hbm, ⟨47, _⟩ => ⟨S2x4x4x8192x1, .f32⟩
  | .hbm, ⟨48, _⟩ => ⟨S2x4x4x8192x128, .f32⟩
  | .hbm, ⟨49, _⟩ => ⟨S2x4x4x8192x128, .f32⟩
  | .hbm, ⟨50, _⟩ => ⟨S2x4x4x8192x8192, .f32⟩
  | .hbm, ⟨51, _⟩ => ⟨S8192x8192, .i32⟩
  | .hbm, ⟨52, _⟩ => ⟨S8192x8192, .i32⟩
  | .hbm, ⟨53, _⟩ => ⟨S8192x8192, .i1⟩
  | .hbm, ⟨54, _⟩ => ⟨S_, .i32⟩
  | .hbm, ⟨55, _⟩ => ⟨S8192x1, .i32⟩
  | .hbm, ⟨56, _⟩ => ⟨S8192x1, .i32⟩
  | .hbm, ⟨57, _⟩ => ⟨S8192x8192, .i32⟩
  | .hbm, ⟨58, _⟩ => ⟨S8192x8192, .i32⟩
  | .hbm, ⟨59, _⟩ => ⟨S8192x8192, .i1⟩
  | .hbm, ⟨60, _⟩ => ⟨S8192x8192, .i1⟩
  | .hbm, ⟨61, _⟩ => ⟨S_, .f32⟩
  | .hbm, ⟨62, _⟩ => ⟨S_, .f32⟩
  | .hbm, ⟨63, _⟩ => ⟨S2x4x4x8192x8192, .i1⟩
  | .hbm, ⟨64, _⟩ => ⟨S2x4x4x8192x8192, .f32⟩
  | .hbm, ⟨65, _⟩ => ⟨S2x4x4x8192x8192, .f32⟩
  | .hbm, ⟨66, _⟩ => ⟨S_, .f32⟩
  | .hbm, ⟨67, _⟩ => ⟨S2x4x4x8192, .f32⟩
  | .hbm, ⟨68, _⟩ => ⟨S2x4x4x8192x1, .f32⟩
  | .hbm, ⟨69, _⟩ => ⟨S2x4x4x8192x8192, .f32⟩
  | .hbm, ⟨70, _⟩ => ⟨S2x4x4x8192x8192, .f32⟩
  | .hbm, ⟨71, _⟩ => ⟨S2x4x4x8192x8192, .f32⟩
  | .hbm, ⟨72, _⟩ => ⟨S_, .f32⟩
  | .hbm, ⟨73, _⟩ => ⟨S_, .f32⟩
  | .hbm, ⟨74, _⟩ => ⟨S2x4x4x8192x8192, .i1⟩
  | .hbm, ⟨75, _⟩ => ⟨S2x4x4x8192x8192, .f32⟩
  | .hbm, ⟨76, _⟩ => ⟨S2x4x4x8192x8192, .f32⟩
  | .hbm, ⟨77, _⟩ => ⟨S2x4x4x8192x128, .f32⟩
  | .hbm, ⟨78, _⟩ => ⟨S_, .f32⟩
  | .hbm, ⟨79, _⟩ => ⟨S2x4x4x8192, .f32⟩
  | .hbm, ⟨80, _⟩ => ⟨S2x4x4x8192x1, .f32⟩
  | .hbm, ⟨81, _⟩ => ⟨S2x4x4x8192x128, .f32⟩
  | .hbm, ⟨82, _⟩ => ⟨S2x4x4x8192x128, .f32⟩
  | .hbm, ⟨83, _⟩ => ⟨S1x4x1x16, .f32⟩
  | .hbm, ⟨84, _⟩ => ⟨S2x4x8192x16, .f32⟩
  | .hbm, ⟨85, _⟩ => ⟨S2x4x8192x16, .f32⟩
  | .hbm, ⟨86, _⟩ => ⟨S2x4x8192x16, .f32⟩
  | .hbm, ⟨87, _⟩ => ⟨S2x4x8192x16, .f32⟩
  | .hbm, ⟨88, _⟩ => ⟨S_, .f32⟩
  | .hbm, ⟨89, _⟩ => ⟨S2x4x8192x16, .f32⟩
  | .hbm, ⟨90, _⟩ => ⟨S2x4x8192x16, .f32⟩
  | .hbm, ⟨91, _⟩ => ⟨S_, .f32⟩
  | .hbm, ⟨92, _⟩ => ⟨S2x4x8192x16, .f32⟩
  | .hbm, ⟨93, _⟩ => ⟨S2x4x8192x16, .f32⟩
  | .hbm, ⟨94, _⟩ => ⟨S2x4x8192x12, .f32⟩
  | .hbm, ⟨95, _⟩ => ⟨S2x4x8192x4x3, .f32⟩
  | .hbm, ⟨96, _⟩ => ⟨S2x4x4x8192x3, .f32⟩
  | .hbm, ⟨97, _⟩ => ⟨S2x4x4x8192x1, .f32⟩
  | .hbm, ⟨98, _⟩ => ⟨S2x4x4x8192x128, .f32⟩
  | .hbm, ⟨99, _⟩ => ⟨S2x4x4x8192x128, .f32⟩
  | .hbm, ⟨100, _⟩ => ⟨S2x4x4x8192x1, .f32⟩
  | .hbm, ⟨101, _⟩ => ⟨S2x4x4x8192x128, .f32⟩
  | .hbm, ⟨102, _⟩ => ⟨S2x4x4x8192x128, .f32⟩
  | .hbm, ⟨103, _⟩ => ⟨S2x4x4x8192x128, .f32⟩
  | .hbm, ⟨104, _⟩ => ⟨S2x4x4x8192x1, .f32⟩
  | .hbm, ⟨105, _⟩ => ⟨S2x4x4x8192x128, .f32⟩
  | .hbm, ⟨106, _⟩ => ⟨S2x4x4x8192x128, .f32⟩
  | .hbm, ⟨107, _⟩ => ⟨S2x4x4x8192x128, .f32⟩
  | .hbm, ⟨108, _⟩ => ⟨S2x8192x4x4x128, .f32⟩
  | .hbm, ⟨109, _⟩ => ⟨S2x8192x2048, .f32⟩
  | .hbm, ⟨110, _⟩ => ⟨S2x8192x2048, .bf16⟩
  | _, _ => ⟨S2x4x4x8192x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v19 : Ref sig .tc := ⟨.hbm, 32, rfl⟩
abbrev main_cst_0 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_1 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v25 : Ref sig .tc := ⟨.hbm, 43, rfl⟩
abbrev main_v26 : Ref sig .tc := ⟨.hbm, 44, rfl⟩
abbrev main_cst_2 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_3 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_v41 : Ref sig .tc := ⟨.hbm, 65, rfl⟩
abbrev main_cst_4 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_5 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_v47 : Ref sig .tc := ⟨.hbm, 76, rfl⟩
abbrev main_v48 : Ref sig .tc := ⟨.hbm, 77, rfl⟩
abbrev main_cst_6 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_7 : Ref sig .tc := ⟨.hbm, 88, rfl⟩
abbrev main_v58 : Ref sig .tc := ⟨.hbm, 89, rfl⟩
abbrev main_v59 : Ref sig .tc := ⟨.hbm, 90, rfl⟩
abbrev main_cst_8 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩

abbrev nD : Nat := 1
abbrev τ : Topo := Topo.v7x

variable {F : FTy → Type} [FloatOps F]

def κ : String → Option EReal := fun
  | "mask" => some ⊥
  | _ => none
-- ==== Kernel2.lean ====
abbrev S16384x2048 : Shape := ⟨2, ![16384, 2048]⟩
abbrev S2048 : Shape := ⟨1, ![2048]⟩
abbrev S2048x5504 : Shape := ⟨2, ![2048, 5504]⟩
abbrev S5504x2048 : Shape := ⟨2, ![5504, 2048]⟩
abbrev S1x2048 : Shape := ⟨2, ![1, 2048]⟩
abbrev S_ : Shape := ⟨0, ![]⟩
abbrev S2048x5632 : Shape := ⟨2, ![2048, 5632]⟩
abbrev S5632x2048 : Shape := ⟨2, ![5632, 2048]⟩
abbrev S1024x2048 : Shape := ⟨2, ![1024, 2048]⟩
abbrev S2048x256 : Shape := ⟨2, ![2048, 256]⟩
abbrev S256x2048 : Shape := ⟨2, ![256, 2048]⟩
abbrev S1024 : Shape := ⟨1, ![1024]⟩
abbrev S1024x1 : Shape := ⟨2, ![1024, 1]⟩
abbrev S1024x256 : Shape := ⟨2, ![1024, 256]⟩

abbrev nBuf : Space → Nat
  | .hbm => 19
  | .vmem => 12
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x5504, .f32⟩
  | .hbm, ⟨3, _⟩ => ⟨S2048x5504, .f32⟩
  | .hbm, ⟨4, _⟩ => ⟨S5504x2048, .f32⟩
  | .hbm, ⟨5, _⟩ => ⟨S1x2048, .f32⟩
  | .hbm, ⟨6, _⟩ => ⟨S_, .i32⟩
  | .hbm, ⟨7, _⟩ => ⟨S_, .f32⟩
  | .hbm, ⟨8, _⟩ => ⟨S2048x5632, .f32⟩
  | .hbm, ⟨9, _⟩ => ⟨S2048x5632, .bf16⟩
  | .hbm, ⟨10, _⟩ => ⟨S_, .i32⟩
  | .hbm, ⟨11, _⟩ => ⟨S_, .f32⟩
  | .hbm, ⟨12, _⟩ => ⟨S2048x5632, .f32⟩
  | .hbm, ⟨13, _⟩ => ⟨S2048x5632, .bf16⟩
  | .hbm, ⟨14, _⟩ => ⟨S_, .i32⟩
  | .hbm, ⟨15, _⟩ => ⟨S_, .f32⟩
  | .hbm, ⟨16, _⟩ => ⟨S5632x2048, .f32⟩
  | .hbm, ⟨17, _⟩ => ⟨S5632x2048, .bf16⟩
  | .hbm, ⟨18, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S256x2048, .bf16⟩
  | .local _ .vmem, ⟨8, _⟩ => ⟨S256x2048, .bf16⟩
  | .local _ .vmem, ⟨9, _⟩ => ⟨S1024x2048, .f32⟩
  | .local _ .vmem, ⟨10, _⟩ => ⟨S1024x2048, .f32⟩
  | .local _ .vmem, ⟨11, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_call1_v0 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_call2_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S16384x2048 : Shape := ⟨2, ![16384, 2048]⟩
abbrev S2048 : Shape := ⟨1, ![2048]⟩
abbrev S2048x5504 : Shape := ⟨2, ![2048, 5504]⟩
abbrev S5504x2048 : Shape := ⟨2, ![5504, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x5504 : Shape := ⟨2, ![16384, 5504]⟩

abbrev nBuf : Space → Nat
  | .hbm => 38
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x5504, .f32⟩
  | .hbm, ⟨3, _⟩ => ⟨S2048x5504, .f32⟩
  | .hbm, ⟨4, _⟩ => ⟨S5504x2048, .f32⟩
  | .hbm, ⟨5, _⟩ => ⟨S16384x2048, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x2048, .f32⟩
  | .hbm, ⟨17, _⟩ => ⟨S16384x2048, .f32⟩
  | .hbm, ⟨18, _⟩ => ⟨S1x2048, .f32⟩
  | .hbm, ⟨19, _⟩ => ⟨S16384x2048, .f32⟩
  | .hbm, ⟨20, _⟩ => ⟨S16384x2048, .f32⟩
  | .hbm, ⟨21, _⟩ => ⟨S16384x5504, .f32⟩
  | .hbm, ⟨22, _⟩ => ⟨S16384x5504, .f32⟩
  | .hbm, ⟨23, _⟩ => ⟨S16384x5504, .f32⟩
  | .hbm, ⟨24, _⟩ => ⟨S_, .f32⟩
  | .hbm, ⟨25, _⟩ => ⟨S16384x5504, .f32⟩
  | .hbm, ⟨26, _⟩ => ⟨S16384x5504, .f32⟩
  | .hbm, ⟨27, _⟩ => ⟨S_, .f32⟩
  | .hbm, ⟨28, _⟩ => ⟨S16384x5504, .f32⟩
  | .hbm, ⟨29, _⟩ => ⟨S16384x5504, .f32⟩
  | .hbm, ⟨30, _⟩ => ⟨S16384x5504, .f32⟩
  | .hbm, ⟨31, _⟩ => ⟨S16384x5504, .f32⟩
  | .hbm, ⟨32, _⟩ => ⟨S16384x5504, .f32⟩
  | .hbm, ⟨33, _⟩ => ⟨S16384x2048, .f32⟩
  | .hbm, ⟨34, _⟩ => ⟨S_, .f32⟩
  | .hbm, ⟨35, _⟩ => ⟨S16384x2048, .f32⟩
  | .hbm, ⟨36, _⟩ => ⟨S16384x2048, .f32⟩
  | .hbm, ⟨37, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩

abbrev nD : Nat := 1
abbrev τ : Topo := Topo.v7x

variable {F : FTy → Type} [FloatOps F]
-- ==== Kernel3.lean ====
abbrev S16384x2048 : Shape := ⟨2, ![16384, 2048]⟩
abbrev S2048 : Shape := ⟨1, ![2048]⟩
abbrev S2048x7176 : Shape := ⟨2, ![2048, 7176]⟩
abbrev S2048x3072 : Shape := ⟨2, ![2048, 3072]⟩
abbrev S2048x4096 : Shape := ⟨2, ![2048, 4096]⟩
abbrev S2048x7168 : Shape := ⟨2, ![2048, 7168]⟩
abbrev S1x2048 : Shape := ⟨2, ![1, 2048]⟩
abbrev S16384x7168 : Shape := ⟨2, ![16384, 7168]⟩
abbrev S1024x2048 : Shape := ⟨2, ![1024, 2048]⟩
abbrev S2048x512 : Shape := ⟨2, ![2048, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 9
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x7176, .f32⟩
  | .hbm, ⟨3, _⟩ => ⟨S2048x3072, .f32⟩
  | .hbm, ⟨4, _⟩ => ⟨S2048x4096, .f32⟩
  | .hbm, ⟨5, _⟩ => ⟨S2048x7168, .f32⟩
  | .hbm, ⟨6, _⟩ => ⟨S2048x7168, .bf16⟩
  | .hbm, ⟨7, _⟩ => ⟨S1x2048, .f32⟩
  | .hbm, ⟨8, _⟩ => ⟨S16384x7168, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S1024x512, .f32⟩
  | .local _ .vmem, ⟨6, _⟩ => ⟨S1024x512, .f32⟩
  | .local _ .vmem, ⟨7, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 14], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S16384x2048 : Shape := ⟨2, ![16384, 2048]⟩
abbrev S2048 : Shape := ⟨1, ![2048]⟩
abbrev S2048x7176 : Shape := ⟨2, ![2048, 7176]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x7176 : Shape := ⟨2, ![16384, 7176]⟩
abbrev S16384x3072 : Shape := ⟨2, ![16384, 3072]⟩
abbrev S16384x4096 : Shape := ⟨2, ![16384, 4096]⟩
abbrev S16384x7168 : Shape := ⟨2, ![16384, 7168]⟩

abbrev nBuf : Space → Nat
  | .hbm => 23
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x7176, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S16384x7176, .f32⟩
  | .hbm, ⟨20, _⟩ => ⟨S16384x3072, .f32⟩
  | .hbm, ⟨21, _⟩ => ⟨S16384x4096, .f32⟩
  | .hbm, ⟨22, _⟩ => ⟨S16384x7168, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel4.lean ====
abbrev S16384x2048 : Shape := ⟨2, ![16384, 2048]⟩
abbrev S2048 : Shape := ⟨1, ![2048]⟩
abbrev S2048x5168 : Shape := ⟨2, ![2048, 5168]⟩
abbrev S1x2048 : Shape := ⟨2, ![1, 2048]⟩
abbrev S2048x5120 : Shape := ⟨2, ![2048, 5120]⟩
abbrev S16384x5120 : Shape := ⟨2, ![16384, 5120]⟩
abbrev S1024x2048 : Shape := ⟨2, ![1024, 2048]⟩
abbrev S2048x512 : Shape := ⟨2, ![2048, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 7
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x5168, .f32⟩
  | .hbm, ⟨3, _⟩ => ⟨S1x2048, .f32⟩
  | .hbm, ⟨4, _⟩ => ⟨S2048x5120, .f32⟩
  | .hbm, ⟨5, _⟩ => ⟨S2048x5120, .bf16⟩
  | .hbm, ⟨6, _⟩ => ⟨S16384x5120, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S1024x512, .f32⟩
  | .local _ .vmem, ⟨6, _⟩ => ⟨S1024x512, .f32⟩
  | .local _ .vmem, ⟨7, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S16384x2048 : Shape := ⟨2, ![16384, 2048]⟩
abbrev S2048 : Shape := ⟨1, ![2048]⟩
abbrev S2048x5168 : Shape := ⟨2, ![2048, 5168]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x5168 : Shape := ⟨2, ![16384, 5168]⟩
abbrev S16384x5120 : Shape := ⟨2, ![16384, 5120]⟩

abbrev nBuf : Space → Nat
  | .hbm => 21
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x5168, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S16384x5168, .f32⟩
  | .hbm, ⟨20, _⟩ => ⟨S16384x5120, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel5.lean ====
abbrev S16384x2048 : Shape := ⟨2, ![16384, 2048]⟩
abbrev S16384x1024 : Shape := ⟨2, ![16384, 1024]⟩
abbrev S2048x2048 : Shape := ⟨2, ![2048, 2048]⟩
abbrev S1024x2048 : Shape := ⟨2, ![1024, 2048]⟩
abbrev S512x2048 : Shape := ⟨2, ![512, 2048]⟩
abbrev S512x1024 : Shape := ⟨2, ![512, 1024]⟩

abbrev nBuf : Space → Nat
  | .hbm => 8
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S16384x1024, .bf16⟩
  | .hbm, ⟨2, _⟩ => ⟨S16384x1024, .bf16⟩
  | .hbm, ⟨3, _⟩ => ⟨S2048x2048, .f32⟩
  | .hbm, ⟨4, _⟩ => ⟨S2048x2048, .bf16⟩
  | .hbm, ⟨5, _⟩ => ⟨S1024x2048, .bf16⟩
  | .hbm, ⟨6, _⟩ => ⟨S1024x2048, .bf16⟩
  | .hbm, ⟨7, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1024x2048, .bf16⟩
  | .local _ .vmem, ⟨7, _⟩ => ⟨S1024x2048, .bf16⟩
  | .local _ .vmem, ⟨8, _⟩ => ⟨S512x2048, .f32⟩
  | .local _ .vmem, ⟨9, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S16384x2048 : Shape := ⟨2, ![16384, 2048]⟩
abbrev S16384x1024 : Shape := ⟨2, ![16384, 1024]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x1024, .bf16⟩
  | .hbm, ⟨2, _⟩ => ⟨S16384x1024, .bf16⟩
  | .hbm, ⟨3, _⟩ => ⟨S2048x2048, .f32⟩
  | .hbm, ⟨4, _⟩ => ⟨S16384x1024, .f32⟩
  | .hbm, ⟨5, _⟩ => ⟨S16384x1024, .f32⟩
  | .hbm, ⟨6, _⟩ => ⟨S16384x2048, .f32⟩
  | .hbm, ⟨7, _⟩ => ⟨S16384x2048, .f32⟩
  | .hbm, ⟨8, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel6.lean ====
abbrev S16384x2048 : Shape := ⟨2, ![16384, 2048]⟩
abbrev S2048x2048 : Shape := ⟨2, ![2048, 2048]⟩
abbrev S512x2048 : Shape := ⟨2, ![512, 2048]⟩

abbrev nBuf : Space → Nat
  | .hbm => 5
  | .vmem => 7
  | .smem => 0
  | _ => 0

abbrev bufTy : (tb : Table) → Fin (tcTables nBuf tb) → BufTy
  | .hbm, ⟨0, _⟩ => ⟨S16384x2048, .f32⟩
  | .hbm, ⟨1, _⟩ => ⟨S16384x2048, .bf16⟩
  | .hbm, ⟨2, _⟩ => ⟨S2048x2048, .f32⟩
  | .hbm, ⟨3, _⟩ => ⟨S2048x2048, .bf16⟩
  | .hbm, ⟨4, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S2048x2048, .bf16⟩
  | .local _ .vmem, ⟨5, _⟩ => ⟨S512x2048, .f32⟩
  | .local _ .vmem, ⟨6, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S16384x2048 : Shape := ⟨2, ![16384, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .bf16⟩
  | .hbm, ⟨2, _⟩ => ⟨S2048x2048, .f32⟩
  | .hbm, ⟨3, _⟩ => ⟨S16384x2048, .f32⟩
  | .hbm, ⟨4, _⟩ => ⟨S16384x2048, .f32⟩
  | .hbm, ⟨5, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.SelStep.lean ====
module

public import proofs.«01_k».proof.Proof.Gen.Kernel7Ideal.Loops
public import Idealize.ShloMosaic.Lib.Pointwise
public import Idealize.ShloMosaic.Lib.Pipeline.ValueKit.Acc
public import Idealize.ShloMosaic.Lib.Pipeline.Kit
public import Idealize.ShloMosaic.Lib.VecWindow

@[expose] public section

set_option maxRecDepth 16384

noncomputable section

namespace Cert.Sel

open Idealize.ShloMosaic Idealize.ShloMosaic.TcCoe Idealize.SL.Sem
open Cert.Kernel7Ideal Cert.Kernel7Ideal.Gen

/-- A block of 1024 query rows by 128 lanes. -/
abbrev T := FVec Ideal S1024x128 .f32

/-- The greatest lane of each row, on every lane. -/
def rmax (s : T) : T := broadcastTo S1024x128 (shapeCast S1024x1 (multiReduction .maximumf [1] S1024 s 0xFF800000#32 reduces_S1024x128_S1024
  (.inl rfl) rfl) shapeCasts_S1024_S1024x1) broadcasts_S1024x1_S1024x128

/-- The sum of the lanes of each row, on every lane. -/
def rsum (s : T) : T := broadcastTo S1024x128 (shapeCast S1024x1 (multiReduction .add [1] S1024 s 0x00000000#32 reduces_S1024x128_S1024
  (.inl rfl) rfl) shapeCasts_S1024_S1024x1) broadcasts_S1024x1_S1024x128

/-- The weights of a tile, its two lane groups side by side. -/
def cat (p0 p1 : T) : FVec Ideal S1024x256 .bf16 := concatenate S1024x256 1 [⟨S1024x128, truncf .bf16 p0 bitsLt_bf16_f32⟩,
  ⟨S1024x128, truncf .bf16 p1 bitsLt_bf16_f32⟩] concatenates_S1024x128_S1024x128_S1024x256_d1

/-- The weights times the values. -/
def wv (p0 p1 : T) (v : FVec Ideal S256x128 .bf16) : T :=
  matmul dot_S1024x256_S256x128_S1024x128_1_0_0_1_n_n none (cat p0 p1) v (constant S1024x128 .f32 0x00000000#32)

/-- The keys of a tile beside the block table. -/
def keys (k e : FVec Ideal S256x128 .bf16) : FVec Ideal S256x256 .bf16 :=
  concatenate S256x256 1 [⟨S256x128, k⟩, ⟨S256x128, (shapeCast S256x128 e shapeCasts_S256x128_S256x128 : FVec Ideal S256x128 .bf16)⟩] concatenates_S256x128_S256x128_S256x256_d1

/-- The running maximum after a tile of scores, in two lane groups `s0` and `s1`. -/
def nxt (m s0 s1 : T) : T := maximumf m (rmax (maximumf s0 s1))

/-- The running sum of weights after the tile. -/
def den (m l s0 s1 : T) : T := addf (mulf (exp (subf m (nxt m s0 s1))) l) (rsum (addf (exp (subf s0 (nxt m s0 s1))) (exp (subf s1 (nxt m s0 s1)))))

/-- The running weighted sum of the values `v` after the tile. -/
def num (m a s0 s1 : T) (v : FVec Ideal S256x128 .bf16) : T :=
  addf (mulf (exp (subf m (nxt m s0 s1))) a) (wv (exp (subf s0 (nxt m s0 s1))) (exp (subf s1 (nxt m s0 s1))) v)

/-- The running softmax of a block: maximum, sum of weights, weighted sum. -/
structure St where
  m : T
  l : T
  a : T

/-- One tile of scores and values taken in. -/
def St.step (s : St) (s0 s1 : T) (v : FVec Ideal S256x128 .bf16) : St := ⟨nxt s.m s0 s1, den s.m s.l s0 s1, num s.m s.a s0 s1 v⟩

/-- The left lane group of a tile of scores. -/
def left (s : FVec Ideal S1024x256 .f32) : T := extractStridedSlice S1024x128 ![0, 0] s slices_S1024x256_o0_0_S1024x128
/-- The right lane group of a tile of scores. -/
def right (s : FVec Ideal S1024x256 .f32) : T := extractStridedSlice S1024x128 ![0, 128] s slices_S1024x256_o0_128_S1024x128
/-- The values of a tile as a matrix. -/
def vals (v : Vec Ideal S1x1x256x128 .bf16) : FVec Ideal S256x128 .bf16 := shapeCast S256x128 v shapeCasts_S1x1x256x128_S256x128

/-- The scores of a tile of the selected branch: queries and penalties `qa` against the keys and the block table. -/
def selS (qa : FVec Ideal S1024x256 .bf16) (k : Vec Ideal S1x1x256x128 .bf16) (e : Vec Ideal S256x128 .bf16) : FVec Ideal S1024x256 .f32 :=
  matmul dot_S1024x256_S256x256_S1024x256_1_1_0_0_n_n none qa (keys (vals k) e) (constant S1024x256 .f32 0x00000000#32)

/-- The scores of a tile of the window branch. -/
def winS (q : FVec Ideal S1024x128 .bf16) (k : Vec Ideal S1x1x256x128 .bf16) : FVec Ideal S1024x256 .f32 :=
  matmul dot_S1024x128_S256x128_S1024x256_1_1_0_0_n_n none q (vals k) (constant S1024x256 .f32 0x00000000#32)

/-- A tile of the selected branch. -/
def St.sel (s : St) (qa : FVec Ideal S1024x256 .bf16) (k : Vec Ideal S1x1x256x128 .bf16) (e : Vec Ideal S256x128 .bf16)
    (v : Vec Ideal S1x1x256x128 .bf16) : St := s.step (left (selS qa k e)) (right (selS qa k e)) (vals v)

/-- A tile of the window branch. -/
def St.win (s : St) (q : FVec Ideal S1024x128 .bf16) (k v : Vec Ideal S1x1x256x128 .bf16) : St :=
  s.step (left (winS q k)) (right (winS q k)) (vals v)

section views
variable {sg : RefSig} {κ : Kind} {sp : Space} (v : View sg κ sp S1024x128 .f32)

theorem load_full (f : v.ty.Contents (Elt Ideal)) (inb : ∀ a, (![0, 0] : Fin 2 → ℕ) a + (![1024, 128] : Fin 2 → ℕ) a ≤ S1024x128.size a) :
    v.readAt (Elt Ideal) (Rect.unit (s := S1024x128) ![0, 0] ![1024, 128] inb).toLoadRect f = v.read (Elt Ideal) f :=
  View.readAt_full v f inb

theorem load_cov (inb inb' : ∀ a, (![0, 0] : Fin 2 → ℕ) a + (![1024, 128] : Fin 2 → ℕ) a ≤ S1024x128.size a)
    (w : (Rect.unit (s := S1024x128) ![0, 0] ![1024, 128] inb').shape.Idx → Elt Ideal .f32) (L : List (View.Piece (Elt Ideal) S1024x128 .f32)) :
    v.readCov (⟨Rect.unit (s := S1024x128) ![0, 0] ![1024, 128] inb', w⟩ :: L) (Rect.unit (s := S1024x128) ![0, 0] ![1024, 128] inb).toLoadRect = w :=
  View.readCov_full v inb inb' w L
end views
section k0_t1
variable (𝒱 : Variants) (c : Dev nD) (bd : Option 𝒱.V) (i : grid0.Coords) (arg3 : Memref sig .tc .vmem S1x1x4x256x128 .bf16) (harg3 : arg3.IsWhole) (arg4 : Memref sig .tc .vmem S1x1x256x128 .bf16) (harg4 : arg4.IsWhole) (arg5 : Memref sig .tc .vmem S1x1x8192x128 .bf16) (harg5 : arg5.IsWhole) (arg6 : Memref sig .tc .vmem S8192x128 .bf16) (harg6 : arg6.IsWhole) (arg7 : Memref sig .tc .vmem S1x1x8192x128 .bf16) (harg7 : arg7.IsWhole) (arg8 : Memref sig .tc .vmem S1x1x8192x128 .bf16) (harg8 : arg8.IsWhole) (arg9 : Memref sig .tc .vmem S1x1x8192x128 .bf16) (harg9 : arg9.IsWhole) (arg10 : Memref sig .tc .vmem S1x1x4x256x128 .f32) (harg10 : arg10.IsWhole) (arg11 : Memref sig .tc .vmem S1x1x256x16 .f32) (harg11 : arg11.IsWhole) (arg12 : Memref sig .tc .vmem S1x1x16 .f32) (harg12 : arg12.IsWhole) (arg13 : Memref sig .tc .vmem S1x256x512 .bf16) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (arg2 : BitVec 32) (v6 : FVec Ideal S1024x256 .bf16) (v49 : FVec Ideal S256x128 .bf16) (v54 : FVec Ideal S1024x128 .f32) (v59 : FVec Ideal S1024x128 .f32) (v65 : FVec Ideal S1024x128 .f32) (v66 : FVec Ideal S1024x128 .f32) (X_arg5 : BufTy.Contents (Elt Ideal) arg5.view.ty) (X_arg6 : BufTy.Contents (Elt Ideal) arg6.view.ty) (X_arg7 : BufTy.Contents (Elt Ideal) arg7.view.ty) (k : Fin (k0_t1_loop i).trips) (f_arg14 : BufTy.Contents (Elt Ideal) arg14.view.ty) (f_arg15 : BufTy.Contents (Elt Ideal) arg15.view.ty) (f_arg16 : BufTy.Contents (Elt Ideal) arg16.view.ty)

set_option maxHeartbeats 400000 in
theorem k0_t1_m :
    arg14.view.read (Elt Ideal) (arg14.view.writes (Elt Ideal) f_arg14 (tripL_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 v6 v49 v54 v59 v65 v66 X_arg5 X_arg6 X_arg7 k f_arg14 f_arg15 f_arg16).1)
      = (((⟨arg14.view.read (Elt Ideal) f_arg14, arg15.view.read (Elt Ideal) f_arg15, arg16.view.read (Elt Ideal) f_arg16⟩ : St).sel v6 (arg5.view.readAt (Elt Ideal) (Rect.unit (s := S1x1x8192x128) (k0_off3 i k) S1x1x256x128.size (k0_off3_inb i k)).toLoadRect X_arg5) (arg6.view.readAt (Elt Ideal) (Rect.unit (s := S8192x128) (k0_off4 i k) S256x128.size (k0_off4_inb i k)).toLoadRect X_arg6) (arg7.view.readAt (Elt Ideal) (Rect.unit (s := S1x1x8192x128) (k0_off3 i k) S1x1x256x128.size (k0_off3_inb i k)).toLoadRect X_arg7)).sel v6 (arg5.view.readAt (Elt Ideal) (Rect.unit (s := S1x1x8192x128) (k0_off5 i k) S1x1x256x128.size (k0_off5_inb i k)).toLoadRect X_arg5) (arg6.view.readAt (Elt Ideal) (Rect.unit (s := S8192x128) (k0_off6 i k) S256x128.size (k0_off6_inb i k)).toLoadRect X_arg6) (arg7.view.readAt (Elt Ideal) (Rect.unit (s := S1x1x8192x128) (k0_off5 i k) S1x1x256x128.size (k0_off5_inb i k)).toLoadRect X_arg7)).m := by
  rw [show ((⟨arg14.view.read (Elt Ideal) f_arg14, arg15.view.read (Elt Ideal) f_arg15, arg16.view.read (Elt Ideal) f_arg16⟩ : St) : St) = (⟨arg14.view.readAt (Elt Ideal) (Rect.unit (s := S1024x128) ![0, 0] ![1024, 128] inb_S1024x128_S1024x128_0_0).toLoadRect f_arg14, arg15.view.readAt (Elt Ideal) (Rect.unit (s := S1024x128) ![0, 0] ![1024, 128] inb_S1024x128_S1024x128_0_0).toLoadRect f_arg15, arg16.view.readAt (Elt Ideal) (Rect.unit (s := S1024x128) ![0, 0] ![1024, 128] inb_S1024x128_S1024x128_0_0).toLoadRect f_arg16⟩ : St) from by simp only [load_full]]
  unfold tripL_k0_t1 trip_k0_t1
  dsimp only
  rw [View.read_writes_full]
  try simp only [trip_k0_t1.sl.v336, trip_k0_t1.sl.v335, trip_k0_t1.sl.v337, trip_k0_t1.sl.v334, trip_k0_t1.sl.v329, trip_k0_t1.sl.v341, trip_k0_t1.sl.v354, trip_k0_t1.sl.HW_arg14_1, trip_k0_t1.sl.HW_arg15_1, trip_k0_t1.sl.HW_arg16_1, trip_k0_t1.sl.v315, trip_k0_t1.sl.v325, trip_k0_t1.sl.v328, k0_pay103, k0_pay104, k0_pay105, load_cov, shapeCast_self]
  rfl

set_option maxHeartbeats 400000 in
theorem k0_t1_l :
    arg15.view.read (Elt Ideal) (arg15.view.writes (Elt Ideal) f_arg15 (tripL_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 v6 v49 v54 v59 v65 v66 X_arg5 X_arg6 X_arg7 k f_arg14 f_arg15 f_arg16).2.1)
      = (((⟨arg14.view.read (Elt Ideal) f_arg14, arg15.view.read (Elt Ideal) f_arg15, arg16.view.read (Elt Ideal) f_arg16⟩ : St).sel v6 (arg5.view.readAt (Elt Ideal) (Rect.unit (s := S1x1x8192x128) (k0_off3 i k) S1x1x256x128.size (k0_off3_inb i k)).toLoadRect X_arg5) (arg6.view.readAt (Elt Ideal) (Rect.unit (s := S8192x128) (k0_off4 i k) S256x128.size (k0_off4_inb i k)).toLoadRect X_arg6) (arg7.view.readAt (Elt Ideal) (Rect.unit (s := S1x1x8192x128) (k0_off3 i k) S1x1x256x128.size (k0_off3_inb i k)).toLoadRect X_arg7)).sel v6 (arg5.view.readAt (Elt Ideal) (Rect.unit (s := S1x1x8192x128) (k0_off5 i k) S1x1x256x128.size (k0_off5_inb i k)).toLoadRect X_arg5) (arg6.view.readAt (Elt Ideal) (Rect.unit (s := S8192x128) (k0_off6 i k) S256x128.size (k0_off6_inb i k)).toLoadRect X_arg6) (arg7.view.readAt (Elt Ideal) (Rect.unit (s := S1x1x8192x128) (k0_off5 i k) S1x1x256x128.size (k0_off5_inb i k)).toLoadRect X_arg7)).l := by
  rw [show ((⟨arg14.view.read (Elt Ideal) f_arg14, arg15.view.read (Elt Ideal) f_arg15, arg16.view.read (Elt Ideal) f_arg16⟩ : St) : St) = (⟨arg14.view.readAt (Elt Ideal) (Rect.unit (s := S1024x128) ![0, 0] ![1024, 128] inb_S1024x128_S1024x128_0_0).toLoadRect f_arg14, arg15.view.readAt (Elt Ideal) (Rect.unit (s := S1024x128) ![0, 0] ![1024, 128] inb_S1024x128_S1024x128_0_0).toLoadRect f_arg15, arg16.view.readAt (Elt Ideal) (Rect.unit (s := S1024x128) ![0, 0] ![1024, 128] inb_S1024x128_S1024x128_0_0).toLoadRect f_arg16⟩ : St) from by simp only [load_full]]
  unfold tripL_k0_t1 trip_k0_t1
  dsimp only
  rw [View.read_writes_full]
  try simp only [trip_k0_t1.sl.v336, trip_k0_t1.sl.v335, trip_k0_t1.sl.v337, trip_k0_t1.sl.v334, trip_k0_t1.sl.v329, trip_k0_t1.sl.v341, trip_k0_t1.sl.v354, trip_k0_t1.sl.HW_arg14_1, trip_k0_t1.sl.HW_arg15_1, trip_k0_t1.sl.HW_arg16_1, trip_k0_t1.sl.v315, trip_k0_t1.sl.v325, trip_k0_t1.sl.v328, k0_pay103, k0_pay104, k0_pay105, load_cov, shapeCast_self]
  rfl

set_option maxHeartbeats 400000 in
theorem k0_t1_a :
    arg16.view.read (Elt Ideal) (arg16.view.writes (Elt Ideal) f_arg16 (tripL_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 v6 v49 v54 v59 v65 v66 X_arg5 X_arg6 X_arg7 k f_arg14 f_arg15 f_arg16).2.2)
      = (((⟨arg14.view.read (Elt Ideal) f_arg14, arg15.view.read (Elt Ideal) f_arg15, arg16.view.read (Elt Ideal) f_arg16⟩ : St).sel v6 (arg5.view.readAt (Elt Ideal) (Rect.unit (s := S1x1x8192x128) (k0_off3 i k) S1x1x256x128.size (k0_off3_inb i k)).toLoadRect X_arg5) (arg6.view.readAt (Elt Ideal) (Rect.unit (s := S8192x128) (k0_off4 i k) S256x128.size (k0_off4_inb i k)).toLoadRect X_arg6) (arg7.view.readAt (Elt Ideal) (Rect.unit (s := S1x1x8192x128) (k0_off3 i k) S1x1x256x128.size (k0_off3_inb i k)).toLoadRect X_arg7)).sel v6 (arg5.view.readAt (Elt Ideal) (Rect.unit (s := S1x1x8192x128) (k0_off5 i k) S1x1x256x128.size (k0_off5_inb i k)).toLoadRect X_arg5) (arg6.view.readAt (Elt Ideal) (Rect.unit (s := S8192x128) (k0_off6 i k) S256x128.size (k0_off6_inb i k)).toLoadRect X_arg6) (arg7.view.readAt (Elt Ideal) (Rect.unit (s := S1x1x8192x128) (k0_off5 i k) S1x1x256x128.size (k0_off5_inb i k)).toLoadRect X_arg7)).a := by
  rw [show ((⟨arg14.view.read (Elt Ideal) f_arg14, arg15.view.read (Elt Ideal) f_arg15, arg16.view.read (Elt Ideal) f_arg16⟩ : St) : St) = (⟨arg14.view.readAt (Elt Ideal) (Rect.unit (s := S1024x128) ![0, 0] ![1024, 128] inb_S1024x128_S1024x128_0_0).toLoadRect f_arg14, arg15.view.readAt (Elt Ideal) (Rect.unit (s := S1024x128) ![0, 0] ![1024, 128] inb_S1024x128_S1024x128_0_0).toLoadRect f_arg15, arg16.view.readAt (Elt Ideal) (Rect.unit (s := S1024x128) ![0, 0] ![1024, 128] inb_S1024x128_S1024x128_0_0).toLoadRect f_arg16⟩ : St) from by simp only [load_full]]
  unfold tripL_k0_t1 trip_k0_t1
  dsimp only
  rw [View.read_writes_full]
  have e0 : trip_k0_t1.sl.v299 (F := Ideal) i arg5 arg6 arg14 v6 X_arg5 X_arg6 k f_arg14 = nxt (arg14.view.readAt (Elt Ideal) (Rect.unit (s := S1024x128) ![0, 0] ![1024, 128] inb_S1024x128_S1024x128_0_0).toLoadRect f_arg14) (left (selS v6 (arg5.view.readAt (Elt Ideal) (Rect.unit (s := S1x1x8192x128) (k0_off3 i k) S1x1x256x128.size (k0_off3_inb i k)).toLoadRect X_arg5) (arg6.view.readAt (Elt Ideal) (Rect.unit (s := S8192x128) (k0_off4 i k) S256x128.size (k0_off4_inb i k)).toLoadRect X_arg6))) (right (selS v6 (arg5.view.readAt (Elt Ideal) (Rect.unit (s := S1x1x8192x128) (k0_off3 i k) S1x1x256x128.size (k0_off3_inb i k)).toLoadRect X_arg5) (arg6.view.readAt (Elt Ideal) (Rect.unit (s := S8192x128) (k0_off4 i k) S256x128.size (k0_off4_inb i k)).toLoadRect X_arg6))) := rfl
  have e1 : trip_k0_t1.sl.v322 (F := Ideal) i arg5 arg6 arg7 arg14 arg16 v6 X_arg5 X_arg6 X_arg7 k f_arg14 f_arg16
      = num (arg14.view.readAt (Elt Ideal) (Rect.unit (s := S1024x128) ![0, 0] ![1024, 128] inb_S1024x128_S1024x128_0_0).toLoadRect f_arg14) (arg16.view.readAt (Elt Ideal) (Rect.unit (s := S1024x128) ![0, 0] ![1024, 128] inb_S1024x128_S1024x128_0_0).toLoadRect f_arg16) (left (selS v6 (arg5.view.readAt (Elt Ideal) (Rect.unit (s := S1x1x8192x128) (k0_off3 i k) S1x1x256x128.size (k0_off3_inb i k)).toLoadRect X_arg5) (arg6.view.readAt (Elt Ideal) (Rect.unit (s := S8192x128) (k0_off4 i k) S256x128.size (k0_off4_inb i k)).toLoadRect X_arg6))) (right (selS v6 (arg5.view.readAt (Elt Ideal) (Rect.unit (s := S1x1x8192x128) (k0_off3 i k) S1x1x256x128.size (k0_off3_inb i k)).toLoadRect X_arg5) (arg6.view.readAt (Elt Ideal) (Rect.unit (s := S8192x128) (k0_off4 i k) S256x128.size (k0_off4_inb i k)).toLoadRect X_arg6))) (vals (arg7.view.readAt (Elt Ideal) (Rect.unit (s := S1x1x8192x128) (k0_off3 i k) S1x1x256x128.size (k0_off3_inb i k)).toLoadRect X_arg7)) := rfl
  have e2 : trip_k0_t1.sl.v289 (F := Ideal) i arg5 arg6 v6 X_arg5 X_arg6 k = left (selS v6 (arg5.view.readAt (Elt Ideal) (Rect.unit (s := S1x1x8192x128) (k0_off5 i k) S1x1x256x128.size (k0_off5_inb i k)).toLoadRect X_arg5) (arg6.view.readAt (Elt Ideal) (Rect.unit (s := S8192x128) (k0_off6 i k) S256x128.size (k0_off6_inb i k)).toLoadRect X_arg6)) := rfl
  have e3 : trip_k0_t1.sl.v290 (F := Ideal) i arg5 arg6 v6 X_arg5 X_arg6 k = right (selS v6 (arg5.view.readAt (Elt Ideal) (Rect.unit (s := S1x1x8192x128) (k0_off5 i k) S1x1x256x128.size (k0_off5_inb i k)).toLoadRect X_arg5) (arg6.view.readAt (Elt Ideal) (Rect.unit (s := S8192x128) (k0_off6 i k) S256x128.size (k0_off6_inb i k)).toLoadRect X_arg6)) := rfl
  have e4 : trip_k0_t1.sl.v293 (F := Ideal) i arg7 X_arg7 k = vals (arg7.view.readAt (Elt Ideal) (Rect.unit (s := S1x1x8192x128) (k0_off5 i k) S1x1x256x128.size (k0_off5_inb i k)).toLoadRect X_arg7) := rfl
  have e5 : trip_k0_t1.sl.v333 (F := Ideal) i arg5 arg6 v6 X_arg5 X_arg6 k = rmax (maximumf (left (selS v6 (arg5.view.readAt (Elt Ideal) (Rect.unit (s := S1x1x8192x128) (k0_off5 i k) S1x1x256x128.size (k0_off5_inb i k)).toLoadRect X_arg5) (arg6.view.readAt (Elt Ideal) (Rect.unit (s := S8192x128) (k0_off6 i k) S256x128.size (k0_off6_inb i k)).toLoadRect X_arg6))) (right (selS v6 (arg5.view.readAt (Elt Ideal) (Rect.unit (s := S1x1x8192x128) (k0_off5 i k) S1x1x256x128.size (k0_off5_inb i k)).toLoadRect X_arg5) (arg6.view.readAt (Elt Ideal) (Rect.unit (s := S8192x128) (k0_off6 i k) S256x128.size (k0_off6_inb i k)).toLoadRect X_arg6)))) := rfl
  simp only [trip_k0_t1.sl.v336, trip_k0_t1.sl.v335, trip_k0_t1.sl.v337, trip_k0_t1.sl.v334, trip_k0_t1.sl.v329, trip_k0_t1.sl.v354, trip_k0_t1.sl.HW_arg14_1, trip_k0_t1.sl.HW_arg16_1, trip_k0_t1.sl.v325, trip_k0_t1.sl.v328, load_cov, shapeCast_self, e0, e1, e2, e3, e4, e5]
  unfold St.sel St.step
  dsimp only
  generalize nxt (arg14.view.readAt (Elt Ideal) (Rect.unit (s := S1024x128) ![0, 0] ![1024, 128] inb_S1024x128_S1024x128_0_0).toLoadRect f_arg14) (left (selS v6 (arg5.view.readAt (Elt Ideal) (Rect.unit (s := S1x1x8192x128) (k0_off3 i k) S1x1x256x128.size (k0_off3_inb i k)).toLoadRect X_arg5) (arg6.view.readAt (Elt Ideal) (Rect.unit (s := S8192x128) (k0_off4 i k) S256x128.size (k0_off4_inb i k)).toLoadRect X_arg6))) (right (selS v6 (arg5.view.readAt (Elt Ideal) (Rect.unit (s := S1x1x8192x128) (k0_off3 i k) S1x1x256x128.size (k0_off3_inb i k)).toLoadRect X_arg5) (arg6.view.readAt (Elt Ideal) (Rect.unit (s := S8192x128) (k0_off4 i k) S256x128.size (k0_off4_inb i k)).toLoadRect X_arg6))) = m
  generalize num (arg14.view.readAt (Elt Ideal) (Rect.unit (s := S1024x128) ![0, 0] ![1024, 128] inb_S1024x128_S1024x128_0_0).toLoadRect f_arg14) (arg16.view.readAt (Elt Ideal) (Rect.unit (s := S1024x128) ![0, 0] ![1024, 128] inb_S1024x128_S1024x128_0_0).toLoadRect f_arg16) (left (selS v6 (arg5.view.readAt (Elt Ideal) (Rect.unit (s := S1x1x8192x128) (k0_off3 i k) S1x1x256x128.size (k0_off3_inb i k)).toLoadRect X_arg5) (arg6.view.readAt (Elt Ideal) (Rect.unit (s := S8192x128) (k0_off4 i k) S256x128.size (k0_off4_inb i k)).toLoadRect X_arg6))) (right (selS v6 (arg5.view.readAt (Elt Ideal) (Rect.unit (s := S1x1x8192x128) (k0_off3 i k) S1x1x256x128.size (k0_off3_inb i k)).toLoadRect X_arg5) (arg6.view.readAt (Elt Ideal) (Rect.unit (s := S8192x128) (k0_off4 i k) S256x128.size (k0_off4_inb i k)).toLoadRect X_arg6))) (vals (arg7.view.readAt (Elt Ideal) (Rect.unit (s := S1x1x8192x128) (k0_off3 i k) S1x1x256x128.size (k0_off3_inb i k)).toLoadRect X_arg7)) = a
  generalize left (selS v6 (arg5.view.readAt (Elt Ideal) (Rect.unit (s := S1x1x8192x128) (k0_off5 i k) S1x1x256x128.size (k0_off5_inb i k)).toLoadRect X_arg5) (arg6.view.readAt (Elt Ideal) (Rect.unit (s := S8192x128) (k0_off6 i k) S256x128.size (k0_off6_inb i k)).toLoadRect X_arg6)) = s0
  generalize right (selS v6 (arg5.view.readAt (Elt Ideal) (Rect.unit (s := S1x1x8192x128) (k0_off5 i k) S1x1x256x128.size (k0_off5_inb i k)).toLoadRect X_arg5) (arg6.view.readAt (Elt Ideal) (Rect.unit (s := S8192x128) (k0_off6 i k) S256x128.size (k0_off6_inb i k)).toLoadRect X_arg6)) = s1
  generalize vals (arg7.view.readAt (Elt Ideal) (Rect.unit (s := S1x1x8192x128) (k0_off5 i k) S1x1x256x128.size (k0_off5_inb i k)).toLoadRect X_arg7) = v
  unfold k0_pay104
  dsimp only
  rw [shapeCast_self]
  rfl

end k0_t1
section k0_t3
variable (𝒱 : Variants) (c : Dev nD) (bd : Option 𝒱.V) (i : grid0.Coords) (arg3 : Memref sig .tc .vmem S1x1x4x256x128 .bf16) (harg3 : arg3.IsWhole) (arg4 : Memref sig .tc .vmem S1x1x256x128 .bf16) (harg4 : arg4.IsWhole) (arg5 : Memref sig .tc .vmem S1x1x8192x128 .bf16) (harg5 : arg5.IsWhole) (arg6 : Memref sig .tc .vmem S8192x128 .bf16) (harg6 : arg6.IsWhole) (arg7 : Memref sig .tc .vmem S1x1x8192x128 .bf16) (harg7 : arg7.IsWhole) (arg8 : Memref sig .tc .vmem S1x1x8192x128 .bf16) (harg8 : arg8.IsWhole) (arg9 : Memref sig .tc .vmem S1x1x8192x128 .bf16) (harg9 : arg9.IsWhole) (arg10 : Memref sig .tc .vmem S1x1x4x256x128 .f32) (harg10 : arg10.IsWhole) (arg11 : Memref sig .tc .vmem S1x1x256x16 .f32) (harg11 : arg11.IsWhole) (arg12 : Memref sig .tc .vmem S1x1x16 .f32) (harg12 : arg12.IsWhole) (arg13 : Memref sig .tc .vmem S1x256x512 .bf16) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (arg2 : BitVec 32) (v2 : FVec Ideal S1024x128 .bf16) (v9 : IVec S1024x128 32) (v10 : IVec S1024x128 32) (v115 : FVec Ideal S256x128 .bf16) (v131 : FVec Ideal S1024x128 .f32) (v133 : FVec Ideal S1024x128 .f32) (v135 : FVec Ideal S1024x128 .f32) (v137 : FVec Ideal S1024x128 .f32) (v139 : FVec Ideal S1024x128 .f32) (v141 : FVec Ideal S1024 .f32) (v163 : BitVec 32) (X_arg8 : BufTy.Contents (Elt Ideal) arg8.view.ty) (X_arg9 : BufTy.Contents (Elt Ideal) arg9.view.ty) (k : Fin (k0_t3_loop i).trips) (f_arg17 : BufTy.Contents (Elt Ideal) arg17.view.ty) (f_arg18 : BufTy.Contents (Elt Ideal) arg18.view.ty) (f_arg19 : BufTy.Contents (Elt Ideal) arg19.view.ty)

set_option maxHeartbeats 400000 in
theorem k0_t3_m :
    arg17.view.read (Elt Ideal) (arg17.view.writes (Elt Ideal) f_arg17 (tripL_k0_t3 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 v2 v9 v10 v115 v131 v133 v135 v137 v139 v141 v163 X_arg8 X_arg9 k f_arg17 f_arg18 f_arg19).1)
      = ((⟨arg17.view.read (Elt Ideal) f_arg17, arg18.view.read (Elt Ideal) f_arg18, arg19.view.read (Elt Ideal) f_arg19⟩ : St).win v2 (arg8.view.readAt (Elt Ideal) (Rect.unit (s := S1x1x8192x128) (k0_off13 i k) S1x1x256x128.size (k0_off13_inb i k)).toLoadRect X_arg8) (arg9.view.readAt (Elt Ideal) (Rect.unit (s := S1x1x8192x128) (k0_off13 i k) S1x1x256x128.size (k0_off13_inb i k)).toLoadRect X_arg9)).m := by
  rw [show ((⟨arg17.view.read (Elt Ideal) f_arg17, arg18.view.read (Elt Ideal) f_arg18, arg19.view.read (Elt Ideal) f_arg19⟩ : St) : St) = (⟨arg17.view.readAt (Elt Ideal) (Rect.unit (s := S1024x128) ![0, 0] ![1024, 128] inb_S1024x128_S1024x128_0_0).toLoadRect f_arg17, arg18.view.readAt (Elt Ideal) (Rect.unit (s := S1024x128) ![0, 0] ![1024, 128] inb_S1024x128_S1024x128_0_0).toLoadRect f_arg18, arg19.view.readAt (Elt Ideal) (Rect.unit (s := S1024x128) ![0, 0] ![1024, 128] inb_S1024x128_S1024x128_0_0).toLoadRect f_arg19⟩ : St) from by simp only [load_full]]
  unfold tripL_k0_t3 trip_k0_t3
  dsimp only
  rw [View.read_writes_full]
  simp only [trip_k0_t3.sl.v293, k0_pay126, k0_pay127, shapeCast_self]
  rfl

set_option maxHeartbeats 400000 in
theorem k0_t3_l :
    arg18.view.read (Elt Ideal) (arg18.view.writes (Elt Ideal) f_arg18 (tripL_k0_t3 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 v2 v9 v10 v115 v131 v133 v135 v137 v139 v141 v163 X_arg8 X_arg9 k f_arg17 f_arg18 f_arg19).2.1)
      = ((⟨arg17.view.read (Elt Ideal) f_arg17, arg18.view.read (Elt Ideal) f_arg18, arg19.view.read (Elt Ideal) f_arg19⟩ : St).win v2 (arg8.view.readAt (Elt Ideal) (Rect.unit (s := S1x1x8192x128) (k0_off13 i k) S1x1x256x128.size (k0_off13_inb i k)).toLoadRect X_arg8) (arg9.view.readAt (Elt Ideal) (Rect.unit (s := S1x1x8192x128) (k0_off13 i k) S1x1x256x128.size (k0_off13_inb i k)).toLoadRect X_arg9)).l := by
  rw [show ((⟨arg17.view.read (Elt Ideal) f_arg17, arg18.view.read (Elt Ideal) f_arg18, arg19.view.read (Elt Ideal) f_arg19⟩ : St) : St) = (⟨arg17.view.readAt (Elt Ideal) (Rect.unit (s := S1024x128) ![0, 0] ![1024, 128] inb_S1024x128_S1024x128_0_0).toLoadRect f_arg17, arg18.view.readAt (Elt Ideal) (Rect.unit (s := S1024x128) ![0, 0] ![1024, 128] inb_S1024x128_S1024x128_0_0).toLoadRect f_arg18, arg19.view.readAt (Elt Ideal) (Rect.unit (s := S1024x128) ![0, 0] ![1024, 128] inb_S1024x128_S1024x128_0_0).toLoadRect f_arg19⟩ : St) from by simp only [load_full]]
  unfold tripL_k0_t3 trip_k0_t3
  dsimp only
  rw [View.read_writes_full]
  simp only [trip_k0_t3.sl.v293, k0_pay126, k0_pay127, shapeCast_self]
  rfl

set_option maxHeartbeats 400000 in
theorem k0_t3_a :
    arg19.view.read (Elt Ideal) (arg19.view.writes (Elt Ideal) f_arg19 (tripL_k0_t3 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 v2 v9 v10 v115 v131 v133 v135 v137 v139 v141 v163 X_arg8 X_arg9 k f_arg17 f_arg18 f_arg19).2.2)
      = ((⟨arg17.view.read (Elt Ideal) f_arg17, arg18.view.read (Elt Ideal) f_arg18, arg19.view.read (Elt Ideal) f_arg19⟩ : St).win v2 (arg8.view.readAt (Elt Ideal) (Rect.unit (s := S1x1x8192x128) (k0_off13 i k) S1x1x256x128.size (k0_off13_inb i k)).toLoadRect X_arg8) (arg9.view.readAt (Elt Ideal) (Rect.unit (s := S1x1x8192x128) (k0_off13 i k) S1x1x256x128.size (k0_off13_inb i k)).toLoadRect X_arg9)).a := by
  rw [show ((⟨arg17.view.read (Elt Ideal) f_arg17, arg18.view.read (Elt Ideal) f_arg18, arg19.view.read (Elt Ideal) f_arg19⟩ : St) : St) = (⟨arg17.view.readAt (Elt Ideal) (Rect.unit (s := S1024x128) ![0, 0] ![1024, 128] inb_S1024x128_S1024x128_0_0).toLoadRect f_arg17, arg18.view.readAt (Elt Ideal) (Rect.unit (s := S1024x128) ![0, 0] ![1024, 128] inb_S1024x128_S1024x128_0_0).toLoadRect f_arg18, arg19.view.readAt (Elt Ideal) (Rect.unit (s := S1024x128) ![0, 0] ![1024, 128] inb_S1024x128_S1024x128_0_0).toLoadRect f_arg19⟩ : St) from by simp only [load_full]]
  unfold tripL_k0_t3 trip_k0_t3
  dsimp only
  rw [View.read_writes_full]
  simp only [trip_k0_t3.sl.v293, k0_pay126, k0_pay127, shapeCast_self]
  rfl

end k0_t3

end Cert.Sel
-- ==== Proof.Flash.lean ====
module

public import Idealize.ShloMosaic.PureOps.Ideal.Laws
public import Mathlib.Data.EReal.Inv

@[expose] public section

noncomputable section

namespace Cert.Flash

open Idealize.ShloMosaic

theorem exp_bot : Ideal.exp (⊥ : EReal) = 0 := rfl
theorem exp_coe (r : ℝ) : Ideal.exp (r : EReal) = (Real.exp r : EReal) := rfl

/-- A weight is not negative. -/
theorem exp_nonneg (x : EReal) : 0 ≤ Ideal.exp x := by
  induction x with
  | bot => exact le_refl _
  | top => exact le_top
  | coe r => rw [exp_coe]; exact_mod_cast (Real.exp_pos r).le

/-- The difference of a number and a greater one has a finite weight. -/
theorem exp_sub_ne_top {s m : EReal} (h : s ≤ m) : Ideal.exp (s - m) ≠ ⊤ := by
  induction m with
  | bot =>
    obtain rfl : s = ⊥ := le_bot_iff.mp h
    exact EReal.zero_ne_top
  | top =>
    have e : s - ⊤ = ⊥ := by induction s <;> rfl
    rw [e]; exact EReal.zero_ne_top
  | coe r =>
    induction s with
    | bot => exact EReal.zero_ne_top
    | top => exact absurd h (by simp)
    | coe q =>
      rw [← EReal.coe_sub, exp_coe]
      exact EReal.coe_ne_top _

/-- Changing the reference maximum of a weight: `exp (m - m') * exp (s - m) = exp (s - m')`. -/
theorem rescale {s m m' : EReal} (h : s ≤ m) (h' : m ≤ m') : Ideal.exp (m - m') * Ideal.exp (s - m) = Ideal.exp (s - m') := by
  induction s with
  | bot =>
    have e : ∀ x : EReal, ⊥ - x = ⊥ := fun x => EReal.bot_add (-x)
    rw [e, e, exp_bot, mul_zero]
  | top =>
    obtain rfl : m = ⊤ := top_le_iff.mp h
    obtain rfl : m' = ⊤ := top_le_iff.mp h'
    show (0 : EReal) * 0 = 0
    rw [mul_zero]
  | coe q =>
    induction m with
    | bot => exact absurd h (by simp)
    | top =>
      obtain rfl : m' = ⊤ := top_le_iff.mp h'
      show (0 : EReal) * 0 = 0
      rw [mul_zero]
    | coe r =>
      induction m' with
      | bot => exact absurd h' (by simp)
      | top =>
        show (0 : EReal) * _ = 0
        rw [zero_mul]
      | coe r' =>
        rw [← EReal.coe_sub, ← EReal.coe_sub, ← EReal.coe_sub, exp_coe, exp_coe, exp_coe, ← EReal.coe_mul, ← Real.exp_add]
        congr 2
        ring

/-- A finite factor that is not negative moves into a sum. -/
theorem mul_sum {ι : Type} (a : EReal) (h : 0 ≤ a) (h' : a ≠ ⊤) (K : Finset ι) (f : ι → EReal) :
    a * ∑ k ∈ K, f k = ∑ k ∈ K, a * f k := by
  classical
  induction K using Finset.induction_on with
  | empty => simp
  | insert i K hi ih => rw [Finset.sum_insert hi, Finset.sum_insert hi, EReal.left_distrib_of_nonneg_of_ne_top h h', ih]

/-- The running softmax over the keys `K` with the scores `σ`: the maximum, and the sum of the weights times `v`. -/
structure Inv {n : ℕ} (σ v : Fin n → EReal) (K : Finset (Fin n)) (m a : EReal) : Prop where
  hm : m = K.sup σ
  ha : a = ∑ k ∈ K, Ideal.exp (σ k - m) * v k

/-- Nothing has been seen at the start. -/
theorem Inv.empty {n : ℕ} (σ v : Fin n → EReal) : Inv σ v ∅ ⊥ 0 := ⟨by simp, by simp⟩

/-- One step of the running softmax takes in the keys `T`. -/
theorem Inv.step {n : ℕ} {σ v : Fin n → EReal} {K : Finset (Fin n)} {m a : EReal} (h : Inv σ v K m a) (T : Finset (Fin n))
    (hd : Disjoint K T) : Inv σ v (K ∪ T) (max m (T.sup σ))
      (Ideal.exp (m - max m (T.sup σ)) * a + ∑ k ∈ T, Ideal.exp (σ k - max m (T.sup σ)) * v k) := by
  refine ⟨by rw [Finset.sup_union, h.hm], ?_⟩
  rw [Finset.sum_union hd]
  congr 1
  rw [h.ha, mul_sum _ (exp_nonneg _) (exp_sub_ne_top (le_max_left _ _))]
  refine Finset.sum_congr rfl fun k hk => ?_
  rw [← mul_assoc, rescale (h.hm ▸ Finset.le_sup hk) (le_max_left _ _)]

/-- Keys whose score is `⊥` do not count. -/
theorem Inv.total {n : ℕ} {σ v : Fin n → EReal} {K : Finset (Fin n)} {m a : EReal} (h : Inv σ v K m a)
    (hσ : ∀ k, k ∉ K → σ k = ⊥) : Inv σ v Finset.univ m a := by
  have e : K.sup σ = Finset.univ.sup σ := by
    refine le_antisymm (Finset.sup_mono (Finset.subset_univ K)) (Finset.sup_le fun k _ => ?_)
    by_cases hk : k ∈ K
    · exact Finset.le_sup hk
    · rw [hσ k hk]; exact bot_le
  refine ⟨h.hm.trans e, h.ha.trans ?_⟩
  refine Finset.sum_subset (Finset.subset_univ K) fun k _ hk => ?_
  rw [hσ k hk]
  show Ideal.exp (⊥ - m) * _ = 0
  have e : ⊥ - m = ⊥ := EReal.bot_add (-m)
  rw [e, exp_bot, zero_mul]

end Cert.Flash
-- ==== Proof.SelRow.lean ====
module

public import proofs.«01_k».proof.Proof.SelStep
public import proofs.«01_k».proof.Proof.Flash
public import Idealize.ShloMosaic.Lib.Pointwise

@[expose] public section

set_option maxRecDepth 16384

noncomputable section

namespace Cert.Sel

open Cert.Kernel7Ideal Cert.Kernel7Ideal.Gen Idealize.ShloMosaic Idealize.ShloMosaic.TcCoe

/-- The greatest lane of a row. -/
theorem rmax_apply (s : T) (r : Fin 1024) (l : Fin 128) :
    rmax s (ix2 r l) = (Finset.univ : Finset (Fin 128)).sup fun k => s (ix2 r k) := by
  unfold rmax
  pointwise
  rfl

/-- The sum of the lanes of a row. -/
theorem rsum_apply (s : T) (r : Fin 1024) (l : Fin 128) : rsum s (ix2 r l) = ∑ k : Fin 128, s (ix2 r k) := by
  pointwise [rsum]

/-- The weighted sum of the values of a tile. -/
theorem wv_apply (p0 p1 : T) (v : FVec Ideal S256x128 .bf16) (r : Fin 1024) (d : Fin 128) :
    wv p0 p1 v (ix2 r d) = (∑ k : Fin 128, p0 (ix2 r k) * v (ix2 ⟨k.val, by omega⟩ d)) + ∑ k : Fin 128, p1 (ix2 r k) * v (ix2 ⟨128 + k.val, by omega⟩ d) := by
  pointwise [wv, cat]

/-- A score of the selected branch. -/
theorem selS_apply (qa : FVec Ideal S1024x256 .bf16) (k : Vec Ideal S1x1x256x128 .bf16) (e : Vec Ideal S256x128 .bf16) (r : Fin 1024) (j : Fin 256) :
    selS qa k e (ix2 r j) = (∑ d : Fin 128, qa (ix2 r ⟨d.val, by omega⟩) * k (ix4 0 0 j d)) + ∑ d : Fin 128, qa (ix2 r ⟨128 + d.val, by omega⟩) * e (ix2 j d) := by
  pointwise [selS, keys, vals]

/-- A score of the window branch. -/
theorem winS_apply (q : FVec Ideal S1024x128 .bf16) (k : Vec Ideal S1x1x256x128 .bf16) (r : Fin 1024) (j : Fin 256) :
    winS q k (ix2 r j) = ∑ d : Fin 128, q (ix2 r d) * k (ix4 0 0 j d) := by
  pointwise [winS, vals]

theorem left_apply (s : FVec Ideal S1024x256 .f32) (r : Fin 1024) (l : Fin 128) : left s (ix2 r l) = s (ix2 r ⟨l.val, by omega⟩) := by
  pointwise [left]

theorem right_apply (s : FVec Ideal S1024x256 .f32) (r : Fin 1024) (l : Fin 128) : right s (ix2 r l) = s (ix2 r ⟨128 + l.val, by omega⟩) := by
  pointwise [right]

theorem vals_apply (v : Vec Ideal S1x1x256x128 .bf16) (j : Fin 256) (d : Fin 128) : vals v (ix2 j d) = v (ix4 0 0 j d) := by
  pointwise [vals]

/-- The keys of tile `kt`. -/
def tile (kt : ℕ) : Finset (Fin 8192) := Finset.univ.filter fun k => k.val / 256 = kt

/-- Key `l` of half `c` of tile `kt`. -/
def key (kt : ℕ) (h : kt < 32) (c : ℕ) (hc : c < 2) (l : Fin 128) : Fin 8192 := ⟨256 * kt + (128 * c + l.val), by omega⟩

/-- A tile's half as an embedding of its lanes. -/
def keyEmb (kt : ℕ) (h : kt < 32) (c : ℕ) (hc : c < 2) : Fin 128 ↪ Fin 8192 :=
  ⟨key kt h c hc, fun a b e => by
    have := congrArg Fin.val e
    simp only [key] at this
    exact Fin.ext (by omega)⟩

/-- A tile is its two halves. -/
theorem tile_eq (kt : ℕ) (h : kt < 32) :
    tile kt = Finset.univ.map (keyEmb kt h 0 (by decide)) ∪ Finset.univ.map (keyEmb kt h 1 (by decide)) := by
  ext k
  rw [tile, Finset.mem_filter, Finset.mem_union, Finset.mem_map, Finset.mem_map]
  constructor
  · rintro ⟨_, hk⟩
    by_cases hl : k.val % 256 < 128
    · exact .inl ⟨⟨k.val % 256, hl⟩, Finset.mem_univ _, Fin.ext (show 256 * kt + (128 * 0 + k.val % 256) = k.val by omega)⟩
    · exact .inr ⟨⟨k.val % 256 - 128, by omega⟩, Finset.mem_univ _, Fin.ext (show 256 * kt + (128 * 1 + (k.val % 256 - 128)) = k.val by omega)⟩
  · rintro (⟨a, _, rfl⟩ | ⟨a, _, rfl⟩)
    · exact ⟨Finset.mem_univ _, show (256 * kt + (128 * 0 + a.val)) / 256 = kt by omega⟩
    · exact ⟨Finset.mem_univ _, show (256 * kt + (128 * 1 + a.val)) / 256 = kt by omega⟩

/-- The greatest value over a tile. -/
theorem sup_tile (kt : ℕ) (h : kt < 32) (f : Fin 8192 → EReal) :
    (tile kt).sup f = max (Finset.univ.sup fun l => f (key kt h 0 (by decide) l)) (Finset.univ.sup fun l => f (key kt h 1 (by decide) l)) := by
  rw [tile_eq kt h, Finset.sup_union, Finset.sup_map, Finset.sup_map]
  rfl

/-- The sum over a tile. -/
theorem sum_tile (kt : ℕ) (h : kt < 32) (f : Fin 8192 → EReal) :
    ∑ k ∈ tile kt, f k = (∑ l, f (key kt h 0 (by decide) l)) + ∑ l, f (key kt h 1 (by decide) l) := by
  rw [tile_eq kt h, Finset.sum_union, Finset.sum_map, Finset.sum_map]
  · rfl
  · rw [Finset.disjoint_left]
    intro x hx hy
    obtain ⟨a, _, rfl⟩ := Finset.mem_map.mp hx
    obtain ⟨b, _, e⟩ := Finset.mem_map.mp hy
    have : 256 * kt + (128 * 1 + b.val) = 256 * kt + (128 * 0 + a.val) := congrArg Fin.val e
    omega

/-- The running softmax of a block of rows over the keys in `K`, for scores `σ` and values `V`. -/
structure StInv (s : St) (σ : Fin 1024 → Fin 8192 → EReal) (V : Fin 8192 → Fin 128 → EReal) (K : Finset (Fin 8192)) : Prop where
  den : ∀ r l, Flash.Inv (σ r) (fun _ => 1) K (s.m (ix2 r l)) (s.l (ix2 r l))
  num : ∀ r d, Flash.Inv (σ r) (fun k => V k d) K (s.m (ix2 r d)) (s.a (ix2 r d))

/-- The maximum after a tile, at a lane. -/
theorem nxt_apply (m s0 s1 : T) (r : Fin 1024) (l : Fin 128) (f : Fin 8192 → EReal) (kt : ℕ) (h : kt < 32)
    (h0 : ∀ l, s0 (ix2 r l) = f (key kt h 0 (by decide) l)) (h1 : ∀ l, s1 (ix2 r l) = f (key kt h 1 (by decide) l)) :
    nxt m s0 s1 (ix2 r l) = max (m (ix2 r l)) ((tile kt).sup f) := by
  show max (m (ix2 r l)) (rmax (maximumf s0 s1) (ix2 r l)) = _
  rw [rmax_apply, sup_tile kt h, ← Finset.sup_sup]
  congr 1
  exact Finset.sup_congr rfl fun k _ => (congrArg₂ max (h0 k) (h1 k) :)

/-- A tile taken in keeps the running softmax. -/
theorem StInv.step {s : St} {σ : Fin 1024 → Fin 8192 → EReal} {V : Fin 8192 → Fin 128 → EReal} {K : Finset (Fin 8192)}
    (hs : StInv s σ V K) (kt : ℕ) (h : kt < 32) (hd : Disjoint K (tile kt)) {s0 s1 : T} {v : FVec Ideal S256x128 .bf16}
    (h0 : ∀ r l, s0 (ix2 r l) = σ r (key kt h 0 (by decide) l)) (h1 : ∀ r l, s1 (ix2 r l) = σ r (key kt h 1 (by decide) l))
    (hv : ∀ (j : Fin 256) d, v (ix2 j d) = V ⟨256 * kt + j.val, by omega⟩ d) :
    StInv (s.step s0 s1 v) σ V (K ∪ tile kt) := by
  constructor
  · intro r l
    have e := (hs.den r l).step (tile kt) hd
    have n := fun l' => nxt_apply s.m s0 s1 r l' (σ r) kt h (h0 r) (h1 r)
    have hm : ∀ l', s.m (ix2 r l') = s.m (ix2 r l) := fun l' => ((hs.den r l').hm).trans ((hs.den r l).hm).symm
    rw [sum_tile kt h] at e
    have ev : (s.step s0 s1 v).l (ix2 r l) = Ideal.exp (s.m (ix2 r l) - nxt s.m s0 s1 (ix2 r l)) * s.l (ix2 r l)
        + ∑ k, (Ideal.exp (s0 (ix2 r k) - nxt s.m s0 s1 (ix2 r k)) + Ideal.exp (s1 (ix2 r k) - nxt s.m s0 s1 (ix2 r k))) :=
      congrArg₂ (· + ·) rfl (rsum_apply _ r l)
    show Flash.Inv _ _ _ (nxt s.m s0 s1 (ix2 r l)) _
    rw [ev, Finset.sum_add_distrib]
    simp only [n, h0, h1, hm]
    simpa only [mul_one] using e
  · intro r d
    have e := (hs.num r d).step (tile kt) hd
    have n := fun l' => nxt_apply s.m s0 s1 r l' (σ r) kt h (h0 r) (h1 r)
    have hm : ∀ l', s.m (ix2 r l') = s.m (ix2 r d) := fun l' => ((hs.den r l').hm).trans ((hs.den r d).hm).symm
    rw [sum_tile kt h] at e
    have ev : (s.step s0 s1 v).a (ix2 r d) = Ideal.exp (s.m (ix2 r d) - nxt s.m s0 s1 (ix2 r d)) * s.a (ix2 r d)
        + ((∑ k : Fin 128, Ideal.exp (s0 (ix2 r k) - nxt s.m s0 s1 (ix2 r k)) * v (ix2 ⟨k.val, by omega⟩ d))
          + ∑ k : Fin 128, Ideal.exp (s1 (ix2 r k) - nxt s.m s0 s1 (ix2 r k)) * v (ix2 ⟨128 + k.val, by omega⟩ d)) :=
      congrArg₂ (· + ·) rfl (wv_apply _ _ v r d)
    have v0 : ∀ k : Fin 128, v (ix2 ⟨k.val, by omega⟩ d) = V (key kt h 0 (by decide) k) d :=
      fun k => (hv _ d).trans (congrArg (V · d) (Fin.ext (show 256 * kt + k.val = 256 * kt + (128 * 0 + k.val) by omega)))
    have v1 : ∀ k : Fin 128, v (ix2 ⟨128 + k.val, by omega⟩ d) = V (key kt h 1 (by decide) k) d :=
      fun k => (hv _ d).trans (congrArg (V · d) (Fin.ext (show 256 * kt + (128 + k.val) = 256 * kt + (128 * 1 + k.val) by omega)))
    show Flash.Inv _ _ _ (nxt s.m s0 s1 (ix2 r d)) _
    rw [ev]
    simp only [n, h0, h1, hm, v0, v1]
    exact e

/-- The block at the start. -/
theorem StInv.start (σ : Fin 1024 → Fin 8192 → EReal) (V : Fin 8192 → Fin 128 → EReal) {s : St} (hm : ∀ i, s.m i = (⊥ : EReal))
    (hl : ∀ i, s.l i = (0 : EReal)) (ha : ∀ i, s.a i = (0 : EReal)) : StInv s σ V ∅ :=
  ⟨fun r l => by rw [hm, hl]; exact Flash.Inv.empty _ _, fun r d => by rw [hm, ha]; exact Flash.Inv.empty _ _⟩

end Cert.Sel
-- ==== Proof.SelScore.lean ====
module

public import proofs.«01_k».proof.Proof.SelRow
public import Idealize.ShloMosaic.Lib.Pipeline.ValueKit.Tiles
public import Idealize.ShloMosaic.Lib.LoopRemainder

@[expose] public section

set_option maxRecDepth 16384

noncomputable section

namespace Cert.Sel

open Idealize.ShloMosaic Idealize.ShloMosaic.TcCoe Idealize.SL.Sem
open Cert.Kernel7Ideal Cert.Kernel7Ideal.Gen

/-- The score of row `r` for key `n` in the selected branch: query times key, plus the penalty of the key's block. -/
def raw1 (q : Vec Ideal S1x1x4x256x128 .bf16) (p : Vec Ideal S1x1x256x128 .bf16) (k : Vec Ideal S1x1x8192x128 .bf16) (e : Vec Ideal S8192x128 .bf16)
    (r : Fin 1024) (n : Fin 8192) : EReal :=
  (∑ d : Fin 128, q (ix5 0 0 ⟨r.val / 256, by omega⟩ ⟨r.val % 256, by omega⟩ d) * k (ix4 0 0 n d)) + ∑ d : Fin 128, p (ix4 0 0 ⟨r.val % 256, by omega⟩ d) * e (ix2 n d)

/-- The score of row `r` for key `n` in the window branch. -/
def raw2 (q : Vec Ideal S1x1x4x256x128 .bf16) (k : Vec Ideal S1x1x8192x128 .bf16) (r : Fin 1024) (n : Fin 8192) : EReal :=
  ∑ d : Fin 128, q (ix5 0 0 ⟨r.val / 256, by omega⟩ ⟨r.val % 256, by omega⟩ d) * k (ix4 0 0 n d)

/-- The causal scores of the selected branch, for the query tile `qi`. -/
def σ1 (qi : ℕ) (q : Vec Ideal S1x1x4x256x128 .bf16) (p : Vec Ideal S1x1x256x128 .bf16) (k : Vec Ideal S1x1x8192x128 .bf16) (e : Vec Ideal S8192x128 .bf16)
    (r : Fin 1024) (n : Fin 8192) : EReal :=
  if n.val ≤ 256 * qi + r.val % 256 then raw1 q p k e r n else ⊥

/-- The scores of the window of 512 keys, for the query tile `qi`. -/
def σ2 (qi : ℕ) (q : Vec Ideal S1x1x4x256x128 .bf16) (k : Vec Ideal S1x1x8192x128 .bf16) (r : Fin 1024) (n : Fin 8192) : EReal :=
  if n.val ≤ 256 * qi + r.val % 256 ∧ 256 * qi + r.val % 256 < n.val + 512 then raw2 q k r n else ⊥

/-- Component `d` of the value of key `n`. -/
def V (x : Vec Ideal S1x1x8192x128 .bf16) (n : Fin 8192) (d : Fin 128) : EReal := x (ix4 0 0 n d)

/-- The rows of the queries. -/
theorem pay79_apply (q : Vec Ideal S1x1x4x256x128 .bf16) (r : Fin 1024) (d : Fin 128) :
    k0_pay79 q (ix2 r d) = q (ix5 0 0 ⟨r.val / 256, by omega⟩ ⟨r.val % 256, by omega⟩ d) := by
  pointwise [k0_pay79]

/-- The left half of a row: the query. -/
theorem pay80_left (q : Vec Ideal S1x1x4x256x128 .bf16) (p : Vec Ideal S1x1x256x128 .bf16) (r : Fin 1024) (d : Fin 128) :
    k0_pay80 q p (ix2 r ⟨d.val, by omega⟩) = q (ix5 0 0 ⟨r.val / 256, by omega⟩ ⟨r.val % 256, by omega⟩ d) := by
  pointwise [k0_pay80, k0_pay79]

/-- The right half of a row: the penalties, the same for each of the four heads. -/
theorem pay80_right (q : Vec Ideal S1x1x4x256x128 .bf16) (p : Vec Ideal S1x1x256x128 .bf16) (r : Fin 1024) (d : Fin 128) :
    k0_pay80 q p (ix2 r ⟨128 + d.val, by omega⟩) = p (ix4 0 0 ⟨r.val % 256, by omega⟩ d) := by
  pointwise [k0_pay80, k0_pay79]
  have := r.isLt
  split_ifs <;> exact congrArg (fun x => p (ix4 0 0 x d)) (Fin.ext (by simp only []; omega))

/-- A tile of scores of the selected branch, from the whole keys and table. -/
theorem selS_tile {q : Vec Ideal S1x1x4x256x128 .bf16} {p : Vec Ideal S1x1x256x128 .bf16} {k : Vec Ideal S1x1x8192x128 .bf16} {e : Vec Ideal S8192x128 .bf16}
    {k' : Vec Ideal S1x1x256x128 .bf16} {e' : Vec Ideal S256x128 .bf16} (kt : ℕ) (h : kt < 32)
    (hk : ∀ (j : Fin 256) d, k' (ix4 0 0 j d) = k (ix4 0 0 ⟨256 * kt + j.val, by omega⟩ d))
    (he : ∀ (j : Fin 256) d, e' (ix2 j d) = e (ix2 ⟨256 * kt + j.val, by omega⟩ d)) (r : Fin 1024) (j : Fin 256) :
    selS (k0_pay80 q p) k' e' (ix2 r j) = raw1 q p k e r ⟨256 * kt + j.val, by omega⟩ := by
  rw [selS_apply]
  unfold raw1
  congr 1
  · exact Finset.sum_congr rfl fun d _ => by rw [pay80_left, hk]
  · exact Finset.sum_congr rfl fun d _ => by rw [pay80_right, he]

/-- A tile of scores of the window branch, from the whole keys. -/
theorem winS_tile {q : Vec Ideal S1x1x4x256x128 .bf16} {k : Vec Ideal S1x1x8192x128 .bf16}
    {k' : Vec Ideal S1x1x256x128 .bf16} (kt : ℕ) (h : kt < 32)
    (hk : ∀ (j : Fin 256) d, k' (ix4 0 0 j d) = k (ix4 0 0 ⟨256 * kt + j.val, by omega⟩ d)) (r : Fin 1024) (j : Fin 256) :
    winS (k0_pay79 q) k' (ix2 r j) = raw2 q k r ⟨256 * kt + j.val, by omega⟩ := by
  rw [winS_apply]
  unfold raw2
  exact Finset.sum_congr rfl fun d _ => by rw [pay79_apply, hk]

/-- The mask's literal. -/
theorem mask_lit : (Named.named Cert.Kernel7Ideal.κ "mask" 0xF149F2CA#32 : Ideal .f32) = (⊥ : EReal) :=
  IdealRules.named_const.ideal_named_scalar _ _ _ _ rfl

/-- A selection by a decided bit. -/
theorem sel_mask {P : Prop} [Decidable P] {b : BitVec 1} (h : b = if P then 1#1 else 0#1) (x y : EReal) :
    (Scalar.select b x y : EReal) = if P then x else y := by
  subst h
  by_cases hp : P
  · rw [if_pos hp, if_pos hp]; rfl
  · rw [if_neg hp, if_neg hp]; rfl

/-- A row's place in its query tile. -/
theorem row_word (r : Fin 1024) : IntOp.andi (BitVec.ofNat 32 r.val) 255#32 = BitVec.ofNat 32 (r.val % 256) :=
  (by decide +kernel : ∀ r : Fin 1024, IntOp.andi (BitVec.ofNat 32 r.val) 255#32 = BitVec.ofNat 32 (r.val % 256)) r

/-- A small word's value. -/
theorem small_word (a : ℕ) (ha : a < 256) : (BitVec.ofNat 32 a).toInt = (a : ℤ) :=
  (by decide +kernel : ∀ a : Fin 256, (BitVec.ofNat 32 a.val).toInt = (a.val : ℤ)) ⟨a, ha⟩

/-- Comparing small words. -/
theorem sle_small (a b : ℕ) (ha : a < 256) (hb : b < 256) :
    IntOp.cmpi CmpIPredicate.sle (BitVec.ofNat 32 a) (BitVec.ofNat 32 b) = if a ≤ b then 1#1 else 0#1 := by
  show BitVec.ofBool (BitVec.sle _ _) = _
  rw [BitVec.sle, small_word a ha, small_word b hb]
  by_cases h : a ≤ b
  · rw [if_pos h, decide_eq_true (by exact_mod_cast h)]; rfl
  · rw [if_neg h, decide_eq_false (by exact_mod_cast h)]; rfl

/-- Comparing small words. -/
theorem sgt_small (a b : ℕ) (ha : a < 256) (hb : b < 256) :
    IntOp.cmpi CmpIPredicate.sgt (BitVec.ofNat 32 a) (BitVec.ofNat 32 b) = if b < a then 1#1 else 0#1 := by
  show BitVec.ofBool (BitVec.slt _ _) = _
  rw [BitVec.slt, small_word a ha, small_word b hb]
  by_cases h : b < a
  · rw [if_pos h, decide_eq_true (by exact_mod_cast h)]; rfl
  · rw [if_neg h, decide_eq_false (by exact_mod_cast h)]; rfl

/-- The mask of keys not after the row. -/
theorem le_word0 (l : Fin 128) (m : ℕ) (hm : m < 256) :
    IntOp.cmpi CmpIPredicate.sle (IntOp.addi (0#32) (BitVec.ofNat 32 l.val)) (BitVec.ofNat 32 m) = if l.val ≤ m then 1#1 else 0#1 := by
  rw [show IntOp.addi (0#32) (BitVec.ofNat 32 l.val) = BitVec.ofNat 32 (l.val) from
    (by decide +kernel : ∀ l : Fin 128, IntOp.addi (0#32) (BitVec.ofNat 32 l.val) = BitVec.ofNat 32 (l.val)) l]
  exact sle_small _ _ (by omega) hm
theorem le_word1 (l : Fin 128) (m : ℕ) (hm : m < 256) :
    IntOp.cmpi CmpIPredicate.sle (IntOp.addi (128#32) (BitVec.ofNat 32 l.val)) (BitVec.ofNat 32 m) = if 128 + l.val ≤ m then 1#1 else 0#1 := by
  rw [show IntOp.addi (128#32) (BitVec.ofNat 32 l.val) = BitVec.ofNat 32 (128 + l.val) from
    (by decide +kernel : ∀ l : Fin 128, IntOp.addi (128#32) (BitVec.ofNat 32 l.val) = BitVec.ofNat 32 (128 + l.val)) l]
  exact sle_small _ _ (by omega) hm

/-- The mask of keys inside the window. -/
theorem gt_word0 (l : Fin 128) (m : ℕ) (hm : m < 256) :
    IntOp.cmpi CmpIPredicate.sgt (IntOp.addi (0#32) (BitVec.ofNat 32 l.val)) (BitVec.ofNat 32 m) = if m < l.val then 1#1 else 0#1 := by
  rw [show IntOp.addi (0#32) (BitVec.ofNat 32 l.val) = BitVec.ofNat 32 (l.val) from
    (by decide +kernel : ∀ l : Fin 128, IntOp.addi (0#32) (BitVec.ofNat 32 l.val) = BitVec.ofNat 32 (l.val)) l]
  exact sgt_small _ _ (by omega) hm
theorem gt_word1 (l : Fin 128) (m : ℕ) (hm : m < 256) :
    IntOp.cmpi CmpIPredicate.sgt (IntOp.addi (128#32) (BitVec.ofNat 32 l.val)) (BitVec.ofNat 32 m) = if m < 128 + l.val then 1#1 else 0#1 := by
  rw [show IntOp.addi (128#32) (BitVec.ofNat 32 l.val) = BitVec.ofNat 32 (128 + l.val) from
    (by decide +kernel : ∀ l : Fin 128, IntOp.addi (128#32) (BitVec.ofNat 32 l.val) = BitVec.ofNat 32 (128 + l.val)) l]
  exact sgt_small _ _ (by omega) hm

/-- The lane counter. -/
def lanes : IVec S1024x128 32 := iota .tc S1024x128 32 [1] iota_S1024x128_d1_w32

/-- The lane counter at a lane. -/
theorem lanes_apply (r : Fin 1024) (l : Fin 128) : lanes (ix2 r l) = BitVec.ofNat 32 l.val := by
  pointwise [lanes]

/-- The row counter at a row. -/
theorem pay81_apply (r : Fin 1024) (l : Fin 128) : k0_pay81 (ix2 r l) = BitVec.ofNat 32 (r.val % 256) := by
  rw [← row_word]
  pointwise [k0_pay81]

/-- A causal tile's left half. -/
theorem pay91_apply (v6 : FVec Ideal S1024x256 .bf16) (k : Vec Ideal S1x1x256x128 .bf16) (e : Vec Ideal S256x128 .bf16) (r : Fin 1024) (l : Fin 128) :
    k0_pay91 v6 k0_pay81 lanes k e (ix2 r l) = if l.val ≤ r.val % 256 then left (selS v6 k e) (ix2 r l) else (⊥ : EReal) := by
  show Scalar.select (IntOp.cmpi _ (IntOp.addi _ (lanes (ix2 r l))) (k0_pay81 (ix2 r l))) (left (selS v6 k e) (ix2 r l)) (Named.named Cert.Kernel7Ideal.κ "mask" 0xF149F2CA#32 : Ideal .f32) = _
  rw [mask_lit, pay81_apply, lanes_apply]
  exact sel_mask (le_word0 l (r.val % 256) (by omega)) _ _

/-- A causal tile's right half. -/
theorem pay92_apply (v6 : FVec Ideal S1024x256 .bf16) (k : Vec Ideal S1x1x256x128 .bf16) (e : Vec Ideal S256x128 .bf16) (r : Fin 1024) (l : Fin 128) :
    k0_pay92 v6 k0_pay81 lanes k e (ix2 r l) = if 128 + l.val ≤ r.val % 256 then right (selS v6 k e) (ix2 r l) else (⊥ : EReal) := by
  show Scalar.select (IntOp.cmpi _ (IntOp.addi _ (lanes (ix2 r l))) (k0_pay81 (ix2 r l))) (right (selS v6 k e) (ix2 r l)) (Named.named Cert.Kernel7Ideal.κ "mask" 0xF149F2CA#32 : Ideal .f32) = _
  rw [mask_lit, pay81_apply, lanes_apply]
  exact sel_mask (le_word1 l (r.val % 256) (by omega)) _ _

/-- The window branch's causal tile, left half. -/
theorem pay115_apply (q : FVec Ideal S1024x128 .bf16) (k : Vec Ideal S1x1x256x128 .bf16) (r : Fin 1024) (l : Fin 128) :
    k0_pay115 q k0_pay81 lanes k (ix2 r l) = if l.val ≤ r.val % 256 then left (winS q k) (ix2 r l) else (⊥ : EReal) := by
  show Scalar.select (IntOp.cmpi _ (IntOp.addi _ (lanes (ix2 r l))) (k0_pay81 (ix2 r l))) (left (winS q k) (ix2 r l)) (Named.named Cert.Kernel7Ideal.κ "mask" 0xF149F2CA#32 : Ideal .f32) = _
  rw [mask_lit, pay81_apply, lanes_apply]
  exact sel_mask (le_word0 l (r.val % 256) (by omega)) _ _

/-- The window branch's causal tile, right half. -/
theorem pay116_apply (q : FVec Ideal S1024x128 .bf16) (k : Vec Ideal S1x1x256x128 .bf16) (r : Fin 1024) (l : Fin 128) :
    k0_pay116 q k0_pay81 lanes k (ix2 r l) = if 128 + l.val ≤ r.val % 256 then right (winS q k) (ix2 r l) else (⊥ : EReal) := by
  show Scalar.select (IntOp.cmpi _ (IntOp.addi _ (lanes (ix2 r l))) (k0_pay81 (ix2 r l))) (right (winS q k) (ix2 r l)) (Named.named Cert.Kernel7Ideal.κ "mask" 0xF149F2CA#32 : Ideal .f32) = _
  rw [mask_lit, pay81_apply, lanes_apply]
  exact sel_mask (le_word1 l (r.val % 256) (by omega)) _ _

/-- The window's oldest tile, left half. -/
theorem pay72_apply (q : FVec Ideal S1024x128 .bf16) (k : Vec Ideal S1x1x256x128 .bf16) (r : Fin 1024) (l : Fin 128) :
    k0_pay72 q k0_pay81 lanes k (ix2 r l) = if r.val % 256 < l.val then left (winS q k) (ix2 r l) else (⊥ : EReal) := by
  show Scalar.select (IntOp.cmpi _ (IntOp.addi _ (lanes (ix2 r l))) (k0_pay81 (ix2 r l))) (left (winS q k) (ix2 r l)) (Named.named Cert.Kernel7Ideal.κ "mask" 0xF149F2CA#32 : Ideal .f32) = _
  rw [mask_lit, pay81_apply, lanes_apply]
  exact sel_mask (gt_word0 l (r.val % 256) (by omega)) _ _

/-- The window's oldest tile, right half. -/
theorem pay73_apply (q : FVec Ideal S1024x128 .bf16) (k : Vec Ideal S1x1x256x128 .bf16) (r : Fin 1024) (l : Fin 128) :
    k0_pay73 q k0_pay81 lanes k (ix2 r l) = if r.val % 256 < 128 + l.val then right (winS q k) (ix2 r l) else (⊥ : EReal) := by
  show Scalar.select (IntOp.cmpi _ (IntOp.addi _ (lanes (ix2 r l))) (k0_pay81 (ix2 r l))) (right (winS q k) (ix2 r l)) (Named.named Cert.Kernel7Ideal.κ "mask" 0xF149F2CA#32 : Ideal .f32) = _
  rw [mask_lit, pay81_apply, lanes_apply]
  exact sel_mask (gt_word1 l (r.val % 256) (by omega)) _ _

end Cert.Sel
-- ==== Proof.SelTiles.lean ====
module

public import proofs.«01_k».proof.Proof.SelScore

@[expose] public section

set_option maxRecDepth 16384

noncomputable section

namespace Cert.Sel

open Idealize.ShloMosaic Idealize.ShloMosaic.TcCoe Idealize.SL.Sem
open Cert.Kernel7Ideal Cert.Kernel7Ideal.Gen

/-! ## Trip counts and offsets -/

theorem t1_trips (i : grid0.Coords) : (k0_t1_loop i).trips = (i 2).val / 2 :=
  (by decide +kernel : ∀ n : Fin 32, Scf.trips 0#32 (Scalar.addi 0#32 (Scalar.muli (Scalar.divsi (Scalar.subi (Scalar.shrui (BitVec.ofNat 32 n.val) 1#32) 0#32) 1#32) 1#32)) 1#32 = n.val / 2) (i 2)

theorem t2_trips (i : grid0.Coords) : Scf.trips (k0_t2_loop i).lb (k0_t2_loop i).ub (k0_t2_loop i).st = 0 := Scf.rem_trips _ _

theorem t4_trips (i : grid0.Coords) : Scf.trips (k0_t4_loop i).lb (k0_t4_loop i).ub (k0_t4_loop i).st = 0 := Scf.rem_trips _ _

theorem t3_trips (i : grid0.Coords) : (k0_t3_loop i).trips = min (i 2).val 1 :=
  (by decide +kernel : ∀ n : Fin 32, Scf.trips (Scalar.maxsi (Scalar.addi (Scalar.subi (BitVec.ofNat 32 n.val) 2#32) 1#32) 0#32)
    (Scalar.addi (Scalar.maxsi (Scalar.addi (Scalar.subi (BitVec.ofNat 32 n.val) 2#32) 1#32) 0#32)
      (Scalar.muli (Scalar.divsi (Scalar.subi (BitVec.ofNat 32 n.val) (Scalar.maxsi (Scalar.addi (Scalar.subi (BitVec.ofNat 32 n.val) 2#32) 1#32) 0#32)) 1#32) 1#32)) 1#32
    = min n.val 1) (i 2)

theorem off1_eq (i : grid0.Coords) : k0_off1 i 2 = 256 * (i 2).val :=
  (by decide +kernel : ∀ n : Fin 32, (Scalar.indexCast (Scalar.muli (BitVec.ofNat 32 n.val) 256#32) : Index).toNat = 256 * n.val) (i 2)
theorem off2_eq (i : grid0.Coords) : k0_off2 i 0 = 256 * (i 2).val :=
  (by decide +kernel : ∀ n : Fin 32, (Scalar.indexCast (Scalar.muli (BitVec.ofNat 32 n.val) 256#32) : Index).toNat = 256 * n.val) (i 2)
theorem off11_eq (i : grid0.Coords) : 0 < (i 2).val → k0_off11 i 2 = 256 * ((i 2).val - 1) :=
  (by decide +kernel : ∀ n : Fin 32, 0 < n.val → (Scalar.indexCast (Scalar.muli (Scalar.subi (BitVec.ofNat 32 n.val) 1#32) 256#32) : Index).toNat = 256 * (n.val - 1)) (i 2)
theorem off12_eq (i : grid0.Coords) : 0 < (i 2).val → k0_off12 i 0 = 256 * ((i 2).val - 1) :=
  (by decide +kernel : ∀ n : Fin 32, 0 < n.val → (Scalar.indexCast (Scalar.muli (Scalar.subi (BitVec.ofNat 32 n.val) 1#32) 256#32) : Index).toNat = 256 * (n.val - 1)) (i 2)
theorem off15_eq (i : grid0.Coords) : 2 ≤ (i 2).val → k0_off15 i 2 = 256 * ((i 2).val - 2) :=
  (by decide +kernel : ∀ n : Fin 32, 2 ≤ n.val → (Scalar.indexCast (Scalar.muli (Scalar.subi (BitVec.ofNat 32 n.val) 2#32) 256#32) : Index).toNat = 256 * (n.val - 2)) (i 2)

theorem trip_lt (i : grid0.Coords) (k : Fin (k0_t1_loop i).trips) : k.val < 16 := by
  have h1 := k.isLt; have h2 := t1_trips i; have h3 : (i 2).val < 32 := (i 2).isLt; omega

theorem off3_eq (i : grid0.Coords) (k : Fin (k0_t1_loop i).trips) : k0_off3 i k 2 = 512 * k.val :=
  (by decide +kernel : ∀ n : Fin 16, (Scalar.indexCast (Scalar.muli (Scalar.muli 2#32 (Scf.iv 0#32 1#32 n.val)) 256#32) : Index).toNat = 512 * n.val) ⟨k.val, trip_lt i k⟩
theorem off4_eq (i : grid0.Coords) (k : Fin (k0_t1_loop i).trips) : k0_off4 i k 0 = 512 * k.val := off3_eq i k
theorem off5_eq (i : grid0.Coords) (k : Fin (k0_t1_loop i).trips) : k0_off5 i k 2 = 512 * k.val + 256 :=
  (by decide +kernel : ∀ n : Fin 16, (Scalar.indexCast (Scalar.muli (Scalar.addi (Scalar.muli 2#32 (Scf.iv 0#32 1#32 n.val)) 1#32) 256#32) : Index).toNat = 512 * n.val + 256) ⟨k.val, trip_lt i k⟩
theorem off6_eq (i : grid0.Coords) (k : Fin (k0_t1_loop i).trips) : k0_off6 i k 0 = 512 * k.val + 256 := off5_eq i k
theorem off13_eq (i : grid0.Coords) (k : Fin (k0_t3_loop i).trips) (h : k.val = 0) : k0_off13 i k 2 = 256 * ((i 2).val - 1) := by
  show (Scalar.indexCast (Scalar.muli (Scf.iv (Scalar.maxsi (Scalar.addi (Scalar.subi (BitVec.ofNat 32 (i 2).val) 2#32) 1#32) 0#32) 1#32 k.val) 256#32) : Index).toNat = _
  rw [h]
  exact (by decide +kernel : ∀ n : Fin 32, (Scalar.indexCast (Scalar.muli (Scf.iv (Scalar.maxsi (Scalar.addi (Scalar.subi (BitVec.ofNat 32 n.val) 2#32) 1#32) 0#32) 1#32 0) 256#32) : Index).toNat
    = 256 * (n.val - 1)) (i 2)

/-! ## Loads of a tile -/

/-- A tile of 256 keys loaded out of the whole keys. -/
theorem ld4 {arg : Memref sig .tc .vmem S1x1x8192x128 .bf16} (h : arg.IsWhole) (x : Vec Ideal S1x1x8192x128 .bf16) (off : Fin 4 → ℕ)
    (inb : ∀ a, off a + S1x1x256x128.size a ≤ S1x1x8192x128.size a) (kt : ℕ) (hkt : kt < 32) {o : ℕ} (e : off 2 = o) (ho : o = 256 * kt)
    (j : Fin 256) (d : Fin 128) (h0 : off 0 = 0 := by rfl) (h1 : off 1 = 0 := by rfl) (h3 : off 3 = 0 := by rfl) :
    arg.view.readAt (Elt Ideal) (Rect.unit (s := S1x1x8192x128) off S1x1x256x128.size inb).toLoadRect (h.unread x) (ix4 0 0 j d)
      = x (ix4 0 0 ⟨256 * kt + j.val, by omega⟩ d) := by
  rw [View.readAt_eq_ld, h.read_unread]
  refine View.ld_unit_apply_of (S := S1x1x8192x128) x off _ inb _ _ fun a => ?_
  fin_cases a
  · show 0 = off 0 + 0; omega
  · show 0 = off 1 + 0; omega
  · show 256 * kt + j.val = off 2 + j.val; omega
  · show d.val = off 3 + d.val; omega

/-- A tile of 256 rows loaded out of the block table. -/
theorem ld2 {arg : Memref sig .tc .vmem S8192x128 .bf16} (h : arg.IsWhole) (x : Vec Ideal S8192x128 .bf16) (off : Fin 2 → ℕ)
    (inb : ∀ a, off a + S256x128.size a ≤ S8192x128.size a) (kt : ℕ) (hkt : kt < 32) {o : ℕ} (e : off 0 = o) (ho : o = 256 * kt)
    (j : Fin 256) (d : Fin 128) (h1 : off 1 = 0 := by rfl) :
    arg.view.readAt (Elt Ideal) (Rect.unit (s := S8192x128) off S256x128.size inb).toLoadRect (h.unread x) (ix2 j d)
      = x (ix2 ⟨256 * kt + j.val, by omega⟩ d) := by
  rw [View.readAt_eq_ld, h.read_unread]
  refine View.ld_unit_apply_of (S := S8192x128) x off _ inb _ _ fun a => ?_
  fin_cases a
  · show 256 * kt + j.val = off 0 + j.val; omega
  · show d.val = off 1 + d.val; omega

/-! ## One tile taken in -/

section tiles
variable {q : Vec Ideal S1x1x4x256x128 .bf16} {p : Vec Ideal S1x1x256x128 .bf16} {k x : Vec Ideal S1x1x8192x128 .bf16} {e : Vec Ideal S8192x128 .bf16}
  {k' v' : Vec Ideal S1x1x256x128 .bf16} {e' : Vec Ideal S256x128 .bf16} {s : St} {K : Finset (Fin 8192)} {qi : ℕ}

/-- A tile before the query tile, in the selected branch. -/
theorem StInv.sel (hs : StInv s (σ1 qi q p k e) (V x) K) (hq : qi < 32) (kt : ℕ) (h : kt < qi) (hd : Disjoint K (tile kt))
    (hk : ∀ (j : Fin 256) d, k' (ix4 0 0 j d) = k (ix4 0 0 ⟨256 * kt + j.val, by omega⟩ d))
    (he : ∀ (j : Fin 256) d, e' (ix2 j d) = e (ix2 ⟨256 * kt + j.val, by omega⟩ d))
    (hv : ∀ (j : Fin 256) d, v' (ix4 0 0 j d) = x (ix4 0 0 ⟨256 * kt + j.val, by omega⟩ d)) :
    StInv (s.sel (k0_pay80 q p) k' e' v') (σ1 qi q p k e) (V x) (K ∪ tile kt) := by
  refine StInv.step hs kt (by omega) hd (fun r l => ?_) (fun r l => ?_) fun j d => ?_
  · rw [left_apply, selS_tile kt (by omega) hk he, σ1, if_pos (by show 256 * kt + (128 * 0 + l.val) ≤ _; omega)]
    exact congrArg _ (Fin.ext (by show 256 * kt + l.val = 256 * kt + (128 * 0 + l.val); omega))
  · rw [right_apply, selS_tile kt (by omega) hk he, σ1, if_pos (by show 256 * kt + (128 * 1 + l.val) ≤ _; omega)]
    exact congrArg _ (Fin.ext (by show 256 * kt + (128 + l.val) = 256 * kt + (128 * 1 + l.val); omega))
  · rw [vals_apply, hv]; rfl

/-- The query tile itself, in the selected branch: keys after the row are masked. -/
theorem StInv.selDiag (hs : StInv s (σ1 qi q p k e) (V x) K) (hq : qi < 32) (hd : Disjoint K (tile qi))
    (hk : ∀ (j : Fin 256) d, k' (ix4 0 0 j d) = k (ix4 0 0 ⟨256 * qi + j.val, by omega⟩ d))
    (he : ∀ (j : Fin 256) d, e' (ix2 j d) = e (ix2 ⟨256 * qi + j.val, by omega⟩ d))
    (hv : ∀ (j : Fin 256) d, v' (ix4 0 0 j d) = x (ix4 0 0 ⟨256 * qi + j.val, by omega⟩ d)) :
    StInv (s.step (k0_pay91 (k0_pay80 q p) k0_pay81 lanes k' e') (k0_pay92 (k0_pay80 q p) k0_pay81 lanes k' e') (vals v')) (σ1 qi q p k e) (V x) (K ∪ tile qi) := by
  refine StInv.step hs qi (by omega) hd (fun r l => ?_) (fun r l => ?_) fun j d => ?_
  · rw [pay91_apply, left_apply, selS_tile qi (by omega) hk he, σ1]
    refine if_congr (by show _ ↔ 256 * qi + (128 * 0 + l.val) ≤ _; omega) (congrArg _ (Fin.ext ?_)) rfl
    show 256 * qi + l.val = 256 * qi + (128 * 0 + l.val); omega
  · rw [pay92_apply, right_apply, selS_tile qi (by omega) hk he, σ1]
    refine if_congr (by show _ ↔ 256 * qi + (128 * 1 + l.val) ≤ _; omega) (congrArg _ (Fin.ext ?_)) rfl
    show 256 * qi + (128 + l.val) = 256 * qi + (128 * 1 + l.val); omega
  · rw [vals_apply, hv]; rfl

/-- The tile before the query tile, in the window branch. -/
theorem StInv.win (hs : StInv s (σ2 qi q k) (V x) K) (hq : qi < 32) (kt : ℕ) (h : kt + 1 = qi) (hd : Disjoint K (tile kt))
    (hk : ∀ (j : Fin 256) d, k' (ix4 0 0 j d) = k (ix4 0 0 ⟨256 * kt + j.val, by omega⟩ d))
    (hv : ∀ (j : Fin 256) d, v' (ix4 0 0 j d) = x (ix4 0 0 ⟨256 * kt + j.val, by omega⟩ d)) :
    StInv (s.win (k0_pay79 q) k' v') (σ2 qi q k) (V x) (K ∪ tile kt) := by
  refine StInv.step hs kt (by omega) hd (fun r l => ?_) (fun r l => ?_) fun j d => ?_
  · rw [left_apply, winS_tile kt (by omega) hk, σ2, if_pos (by show 256 * kt + (128 * 0 + l.val) ≤ _ ∧ _ < 256 * kt + (128 * 0 + l.val) + 512; omega)]
    exact congrArg _ (Fin.ext (by show 256 * kt + l.val = 256 * kt + (128 * 0 + l.val); omega))
  · rw [right_apply, winS_tile kt (by omega) hk, σ2, if_pos (by show 256 * kt + (128 * 1 + l.val) ≤ _ ∧ _ < 256 * kt + (128 * 1 + l.val) + 512; omega)]
    exact congrArg _ (Fin.ext (by show 256 * kt + (128 + l.val) = 256 * kt + (128 * 1 + l.val); omega))
  · rw [vals_apply, hv]; rfl

/-- The query tile itself, in the window branch. -/
theorem StInv.winDiag (hs : StInv s (σ2 qi q k) (V x) K) (hq : qi < 32) (hd : Disjoint K (tile qi))
    (hk : ∀ (j : Fin 256) d, k' (ix4 0 0 j d) = k (ix4 0 0 ⟨256 * qi + j.val, by omega⟩ d))
    (hv : ∀ (j : Fin 256) d, v' (ix4 0 0 j d) = x (ix4 0 0 ⟨256 * qi + j.val, by omega⟩ d)) :
    StInv (s.step (k0_pay115 (k0_pay79 q) k0_pay81 lanes k') (k0_pay116 (k0_pay79 q) k0_pay81 lanes k') (vals v')) (σ2 qi q k) (V x) (K ∪ tile qi) := by
  refine StInv.step hs qi (by omega) hd (fun r l => ?_) (fun r l => ?_) fun j d => ?_
  · rw [pay115_apply, left_apply, winS_tile qi (by omega) hk, σ2]
    refine if_congr (by show _ ↔ 256 * qi + (128 * 0 + l.val) ≤ _ ∧ _ < 256 * qi + (128 * 0 + l.val) + 512; omega) (congrArg _ (Fin.ext ?_)) rfl
    show 256 * qi + l.val = 256 * qi + (128 * 0 + l.val); omega
  · rw [pay116_apply, right_apply, winS_tile qi (by omega) hk, σ2]
    refine if_congr (by show _ ↔ 256 * qi + (128 * 1 + l.val) ≤ _ ∧ _ < 256 * qi + (128 * 1 + l.val) + 512; omega) (congrArg _ (Fin.ext ?_)) rfl
    show 256 * qi + (128 + l.val) = 256 * qi + (128 * 1 + l.val); omega
  · rw [vals_apply, hv]; rfl

/-- The oldest tile of the window: keys that have left it are masked. -/
theorem StInv.winOld (hs : StInv s (σ2 qi q k) (V x) K) (hq : qi < 32) (kt : ℕ) (h : kt + 2 = qi) (hd : Disjoint K (tile kt))
    (hk : ∀ (j : Fin 256) d, k' (ix4 0 0 j d) = k (ix4 0 0 ⟨256 * kt + j.val, by omega⟩ d))
    (hv : ∀ (j : Fin 256) d, v' (ix4 0 0 j d) = x (ix4 0 0 ⟨256 * kt + j.val, by omega⟩ d)) :
    StInv (s.step (k0_pay72 (k0_pay79 q) k0_pay81 lanes k') (k0_pay73 (k0_pay79 q) k0_pay81 lanes k') (vals v')) (σ2 qi q k) (V x) (K ∪ tile kt) := by
  refine StInv.step hs kt (by omega) hd (fun r l => ?_) (fun r l => ?_) fun j d => ?_
  · rw [pay72_apply, left_apply, winS_tile kt (by omega) hk, σ2]
    refine if_congr (by show _ ↔ 256 * kt + (128 * 0 + l.val) ≤ _ ∧ _ < 256 * kt + (128 * 0 + l.val) + 512; omega) (congrArg _ (Fin.ext ?_)) rfl
    show 256 * kt + l.val = 256 * kt + (128 * 0 + l.val); omega
  · rw [pay73_apply, right_apply, winS_tile kt (by omega) hk, σ2]
    refine if_congr (by show _ ↔ 256 * kt + (128 * 1 + l.val) ≤ _ ∧ _ < 256 * kt + (128 * 1 + l.val) + 512; omega) (congrArg _ (Fin.ext ?_)) rfl
    show 256 * kt + (128 + l.val) = 256 * kt + (128 * 1 + l.val); omega
  · rw [vals_apply, hv]; rfl

end tiles

section k0_t1
variable (𝒱 : Variants) (c : Dev nD) (bd : Option 𝒱.V) (i : grid0.Coords) (arg3 : Memref sig .tc .vmem S1x1x4x256x128 .bf16) (harg3 : arg3.IsWhole) (arg4 : Memref sig .tc .vmem S1x1x256x128 .bf16) (harg4 : arg4.IsWhole) (arg5 : Memref sig .tc .vmem S1x1x8192x128 .bf16) (harg5 : arg5.IsWhole) (arg6 : Memref sig .tc .vmem S8192x128 .bf16) (harg6 : arg6.IsWhole) (arg7 : Memref sig .tc .vmem S1x1x8192x128 .bf16) (harg7 : arg7.IsWhole) (arg8 : Memref sig .tc .vmem S1x1x8192x128 .bf16) (harg8 : arg8.IsWhole) (arg9 : Memref sig .tc .vmem S1x1x8192x128 .bf16) (harg9 : arg9.IsWhole) (arg10 : Memref sig .tc .vmem S1x1x4x256x128 .f32) (harg10 : arg10.IsWhole) (arg11 : Memref sig .tc .vmem S1x1x256x16 .f32) (harg11 : arg11.IsWhole) (arg12 : Memref sig .tc .vmem S1x1x16 .f32) (harg12 : arg12.IsWhole) (arg13 : Memref sig .tc .vmem S1x256x512 .bf16) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (arg2 : BitVec 32) (v49 : FVec Ideal S256x128 .bf16) (v54 : FVec Ideal S1024x128 .f32) (v59 : FVec Ideal S1024x128 .f32) (v65 : FVec Ideal S1024x128 .f32) (v66 : FVec Ideal S1024x128 .f32)
  (x0 : Vec Ideal S1x1x4x256x128 .bf16) (x1 : Vec Ideal S1x1x256x128 .bf16) (x2 : Vec Ideal S1x1x8192x128 .bf16) (x3 : Vec Ideal S8192x128 .bf16) (x4 : Vec Ideal S1x1x8192x128 .bf16)
  (G14 : BufTy.Contents (Elt Ideal) arg14.view.ty) (G15 : BufTy.Contents (Elt Ideal) arg15.view.ty) (G16 : BufTy.Contents (Elt Ideal) arg16.view.ty)

set_option maxHeartbeats 400000 in
/-- The trips of the selected branch's loop: each takes in two tiles of keys. -/
theorem loop1 (h0 : StInv (⟨arg14.view.read (Elt Ideal) G14, arg15.view.read (Elt Ideal) G15, arg16.view.read (Elt Ideal) G16⟩ : St) (σ1 (i 2).val x0 x1 x2 x3) (V x4) (tile (i 2).val)) :
    ∀ n, n ≤ (i 2).val / 2 → StInv (⟨arg14.view.read (Elt Ideal) (arg14.view.writes (Elt Ideal) G14 (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 (k0_pay80 x0 x1) v49 v54 v59 v65 v66 (harg5.unread x2) (harg6.unread x3) (harg7.unread x4) G14 G15 G16 n).1), arg15.view.read (Elt Ideal) (arg15.view.writes (Elt Ideal) G15 (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 (k0_pay80 x0 x1) v49 v54 v59 v65 v66 (harg5.unread x2) (harg6.unread x3) (harg7.unread x4) G14 G15 G16 n).2.1), arg16.view.read (Elt Ideal) (arg16.view.writes (Elt Ideal) G16 (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 (k0_pay80 x0 x1) v49 v54 v59 v65 v66 (harg5.unread x2) (harg6.unread x3) (harg7.unread x4) G14 G15 G16 n).2.2)⟩ : St) (σ1 (i 2).val x0 x1 x2 x3) (V x4) (tile (i 2).val ∪ Finset.univ.filter fun k => k.val / 256 < 2 * n)
  | 0, _ => by
    have e : (tile (i 2).val ∪ Finset.univ.filter fun k : Fin 8192 => k.val / 256 < 2 * 0) = tile (i 2).val := by
      ext k; simp only [tile, Finset.mem_union, Finset.mem_filter, Finset.mem_univ, true_and]; omega
    rw [e]; exact h0
  | n + 1, hn => by
    have ih := loop1 h0 n (by omega)
    have hq : (i 2).val < 32 := (i 2).isLt
    have hk : n < (k0_t1_loop i).trips := by rw [t1_trips]; omega
    have e1 : (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 (k0_pay80 x0 x1) v49 v54 v59 v65 v66 (harg5.unread x2) (harg6.unread x3) (harg7.unread x4) G14 G15 G16 (n + 1)).1 = (tripL_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 (k0_pay80 x0 x1) v49 v54 v59 v65 v66 (harg5.unread x2) (harg6.unread x3) (harg7.unread x4) ⟨n, hk⟩ (arg14.view.writes (Elt Ideal) G14 (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 (k0_pay80 x0 x1) v49 v54 v59 v65 v66 (harg5.unread x2) (harg6.unread x3) (harg7.unread x4) G14 G15 G16 n).1) (arg15.view.writes (Elt Ideal) G15 (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 (k0_pay80 x0 x1) v49 v54 v59 v65 v66 (harg5.unread x2) (harg6.unread x3) (harg7.unread x4) G14 G15 G16 n).2.1) (arg16.view.writes (Elt Ideal) G16 (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 (k0_pay80 x0 x1) v49 v54 v59 v65 v66 (harg5.unread x2) (harg6.unread x3) (harg7.unread x4) G14 G15 G16 n).2.2)).1 ++ (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 (k0_pay80 x0 x1) v49 v54 v59 v65 v66 (harg5.unread x2) (harg6.unread x3) (harg7.unread x4) G14 G15 G16 n).1 := congrArg (fun z => z.1) (pb_k0_t1_succ (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 (k0_pay80 x0 x1) v49 v54 v59 v65 v66 (harg5.unread x2) (harg6.unread x3) (harg7.unread x4) G14 G15 G16 ⟨n, hk⟩)
    have e2 : (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 (k0_pay80 x0 x1) v49 v54 v59 v65 v66 (harg5.unread x2) (harg6.unread x3) (harg7.unread x4) G14 G15 G16 (n + 1)).2.1 = (tripL_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 (k0_pay80 x0 x1) v49 v54 v59 v65 v66 (harg5.unread x2) (harg6.unread x3) (harg7.unread x4) ⟨n, hk⟩ (arg14.view.writes (Elt Ideal) G14 (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 (k0_pay80 x0 x1) v49 v54 v59 v65 v66 (harg5.unread x2) (harg6.unread x3) (harg7.unread x4) G14 G15 G16 n).1) (arg15.view.writes (Elt Ideal) G15 (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 (k0_pay80 x0 x1) v49 v54 v59 v65 v66 (harg5.unread x2) (harg6.unread x3) (harg7.unread x4) G14 G15 G16 n).2.1) (arg16.view.writes (Elt Ideal) G16 (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 (k0_pay80 x0 x1) v49 v54 v59 v65 v66 (harg5.unread x2) (harg6.unread x3) (harg7.unread x4) G14 G15 G16 n).2.2)).2.1 ++ (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 (k0_pay80 x0 x1) v49 v54 v59 v65 v66 (harg5.unread x2) (harg6.unread x3) (harg7.unread x4) G14 G15 G16 n).2.1 := congrArg (fun z => z.2.1) (pb_k0_t1_succ (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 (k0_pay80 x0 x1) v49 v54 v59 v65 v66 (harg5.unread x2) (harg6.unread x3) (harg7.unread x4) G14 G15 G16 ⟨n, hk⟩)
    have e3 : (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 (k0_pay80 x0 x1) v49 v54 v59 v65 v66 (harg5.unread x2) (harg6.unread x3) (harg7.unread x4) G14 G15 G16 (n + 1)).2.2 = (tripL_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 (k0_pay80 x0 x1) v49 v54 v59 v65 v66 (harg5.unread x2) (harg6.unread x3) (harg7.unread x4) ⟨n, hk⟩ (arg14.view.writes (Elt Ideal) G14 (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 (k0_pay80 x0 x1) v49 v54 v59 v65 v66 (harg5.unread x2) (harg6.unread x3) (harg7.unread x4) G14 G15 G16 n).1) (arg15.view.writes (Elt Ideal) G15 (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 (k0_pay80 x0 x1) v49 v54 v59 v65 v66 (harg5.unread x2) (harg6.unread x3) (harg7.unread x4) G14 G15 G16 n).2.1) (arg16.view.writes (Elt Ideal) G16 (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 (k0_pay80 x0 x1) v49 v54 v59 v65 v66 (harg5.unread x2) (harg6.unread x3) (harg7.unread x4) G14 G15 G16 n).2.2)).2.2 ++ (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 (k0_pay80 x0 x1) v49 v54 v59 v65 v66 (harg5.unread x2) (harg6.unread x3) (harg7.unread x4) G14 G15 G16 n).2.2 := congrArg (fun z => z.2.2) (pb_k0_t1_succ (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 (k0_pay80 x0 x1) v49 v54 v59 v65 v66 (harg5.unread x2) (harg6.unread x3) (harg7.unread x4) G14 G15 G16 ⟨n, hk⟩)
    rw [e1, e2, e3]
    generalize pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 (k0_pay80 x0 x1) v49 v54 v59 v65 v66 (harg5.unread x2) (harg6.unread x3) (harg7.unread x4) G14 G15 G16 n = P at ih ⊢
    rw [View.writes_append, View.writes_append, View.writes_append, k0_t1_m, k0_t1_l, k0_t1_a]
    have e : (tile (i 2).val ∪ Finset.univ.filter fun k : Fin 8192 => k.val / 256 < 2 * (n + 1))
        = ((tile (i 2).val ∪ Finset.univ.filter fun k : Fin 8192 => k.val / 256 < 2 * n) ∪ tile (2 * n)) ∪ tile (2 * n + 1) := by
      ext k; simp only [tile, Finset.mem_union, Finset.mem_filter, Finset.mem_univ, true_and]; omega
    rw [e]
    refine StInv.sel (StInv.sel ih hq (2 * n) (by omega) ?_ ?_ ?_ ?_) hq (2 * n + 1) (by omega) ?_ ?_ ?_ ?_
    · rw [Finset.disjoint_left]; intro k; simp only [tile, Finset.mem_union, Finset.mem_filter, Finset.mem_univ, true_and]; omega
    · exact fun j d => ld4 harg5 x2 _ _ _ (by omega) (off3_eq i ⟨n, hk⟩) (by show 512 * n = _; omega) j d
    · exact fun j d => ld2 harg6 x3 _ _ _ (by omega) (off4_eq i ⟨n, hk⟩) (by show 512 * n = _; omega) j d
    · exact fun j d => ld4 harg7 x4 _ _ _ (by omega) (off3_eq i ⟨n, hk⟩) (by show 512 * n = _; omega) j d
    · rw [Finset.disjoint_left]; intro k; simp only [tile, Finset.mem_union, Finset.mem_filter, Finset.mem_univ, true_and]; omega
    · exact fun j d => ld4 harg5 x2 _ _ _ (by omega) (off5_eq i ⟨n, hk⟩) (by show 512 * n + 256 = _; omega) j d
    · exact fun j d => ld2 harg6 x3 _ _ _ (by omega) (off6_eq i ⟨n, hk⟩) (by show 512 * n + 256 = _; omega) j d
    · exact fun j d => ld4 harg7 x4 _ _ _ (by omega) (off5_eq i ⟨n, hk⟩) (by show 512 * n + 256 = _; omega) j d
end k0_t1

section k0_t3
variable (𝒱 : Variants) (c : Dev nD) (bd : Option 𝒱.V) (i : grid0.Coords) (arg3 : Memref sig .tc .vmem S1x1x4x256x128 .bf16) (harg3 : arg3.IsWhole) (arg4 : Memref sig .tc .vmem S1x1x256x128 .bf16) (harg4 : arg4.IsWhole) (arg5 : Memref sig .tc .vmem S1x1x8192x128 .bf16) (harg5 : arg5.IsWhole) (arg6 : Memref sig .tc .vmem S8192x128 .bf16) (harg6 : arg6.IsWhole) (arg7 : Memref sig .tc .vmem S1x1x8192x128 .bf16) (harg7 : arg7.IsWhole) (arg8 : Memref sig .tc .vmem S1x1x8192x128 .bf16) (harg8 : arg8.IsWhole) (arg9 : Memref sig .tc .vmem S1x1x8192x128 .bf16) (harg9 : arg9.IsWhole) (arg10 : Memref sig .tc .vmem S1x1x4x256x128 .f32) (harg10 : arg10.IsWhole) (arg11 : Memref sig .tc .vmem S1x1x256x16 .f32) (harg11 : arg11.IsWhole) (arg12 : Memref sig .tc .vmem S1x1x16 .f32) (harg12 : arg12.IsWhole) (arg13 : Memref sig .tc .vmem S1x256x512 .bf16) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (arg2 : BitVec 32) (v9 : IVec S1024x128 32) (v10 : IVec S1024x128 32) (v115 : FVec Ideal S256x128 .bf16) (v131 : FVec Ideal S1024x128 .f32) (v133 : FVec Ideal S1024x128 .f32) (v135 : FVec Ideal S1024x128 .f32) (v137 : FVec Ideal S1024x128 .f32) (v139 : FVec Ideal S1024x128 .f32) (v141 : FVec Ideal S1024 .f32) (v163 : BitVec 32)
  (x0 : Vec Ideal S1x1x4x256x128 .bf16) (x5 x6 : Vec Ideal S1x1x8192x128 .bf16)
  (G17 : BufTy.Contents (Elt Ideal) arg17.view.ty) (G18 : BufTy.Contents (Elt Ideal) arg18.view.ty) (G19 : BufTy.Contents (Elt Ideal) arg19.view.ty)

set_option maxHeartbeats 400000 in
/-- The window branch's loop: it takes in the tile before the query tile, if there is one. -/
theorem loop3 (h0 : StInv (⟨arg17.view.read (Elt Ideal) G17, arg18.view.read (Elt Ideal) G18, arg19.view.read (Elt Ideal) G19⟩ : St) (σ2 (i 2).val x0 x5) (V x6) (tile (i 2).val)) :
    StInv (⟨arg17.view.read (Elt Ideal) (arg17.view.writes (Elt Ideal) G17 (pb_k0_t3 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 (k0_pay79 x0) v9 v10 v115 v131 v133 v135 v137 v139 v141 v163 (harg8.unread x5) (harg9.unread x6) G17 G18 G19 (k0_t3_loop i).trips).1), arg18.view.read (Elt Ideal) (arg18.view.writes (Elt Ideal) G18 (pb_k0_t3 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 (k0_pay79 x0) v9 v10 v115 v131 v133 v135 v137 v139 v141 v163 (harg8.unread x5) (harg9.unread x6) G17 G18 G19 (k0_t3_loop i).trips).2.1), arg19.view.read (Elt Ideal) (arg19.view.writes (Elt Ideal) G19 (pb_k0_t3 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 (k0_pay79 x0) v9 v10 v115 v131 v133 v135 v137 v139 v141 v163 (harg8.unread x5) (harg9.unread x6) G17 G18 G19 (k0_t3_loop i).trips).2.2)⟩ : St) (σ2 (i 2).val x0 x5) (V x6) (tile (i 2).val ∪ Finset.univ.filter fun k => k.val / 256 + 1 = (i 2).val) := by
  have hq : (i 2).val < 32 := (i 2).isLt
  have ht := t3_trips i
  rcases Nat.eq_zero_or_pos (i 2).val with hz | hz
  · rw [ht, hz]
    have e : (tile 0 ∪ Finset.univ.filter fun k : Fin 8192 => k.val / 256 + 1 = 0) = tile 0 := by
      ext k; simp only [tile, Finset.mem_union, Finset.mem_filter, Finset.mem_univ, true_and]; omega
    rw [e]; rw [hz] at h0; exact h0
  · have hk : 0 < (k0_t3_loop i).trips := by rw [ht]; omega
    rw [show (k0_t3_loop i).trips = 0 + 1 by rw [ht]; omega]
    have e1 : (pb_k0_t3 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 (k0_pay79 x0) v9 v10 v115 v131 v133 v135 v137 v139 v141 v163 (harg8.unread x5) (harg9.unread x6) G17 G18 G19 (0 + 1)).1 = (tripL_k0_t3 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 (k0_pay79 x0) v9 v10 v115 v131 v133 v135 v137 v139 v141 v163 (harg8.unread x5) (harg9.unread x6) ⟨0, hk⟩ (arg17.view.writes (Elt Ideal) G17 (pb_k0_t3 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 (k0_pay79 x0) v9 v10 v115 v131 v133 v135 v137 v139 v141 v163 (harg8.unread x5) (harg9.unread x6) G17 G18 G19 0).1) (arg18.view.writes (Elt Ideal) G18 (pb_k0_t3 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 (k0_pay79 x0) v9 v10 v115 v131 v133 v135 v137 v139 v141 v163 (harg8.unread x5) (harg9.unread x6) G17 G18 G19 0).2.1) (arg19.view.writes (Elt Ideal) G19 (pb_k0_t3 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 (k0_pay79 x0) v9 v10 v115 v131 v133 v135 v137 v139 v141 v163 (harg8.unread x5) (harg9.unread x6) G17 G18 G19 0).2.2)).1 ++ (pb_k0_t3 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 (k0_pay79 x0) v9 v10 v115 v131 v133 v135 v137 v139 v141 v163 (harg8.unread x5) (harg9.unread x6) G17 G18 G19 0).1 := congrArg (fun z => z.1) (pb_k0_t3_succ (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 (k0_pay79 x0) v9 v10 v115 v131 v133 v135 v137 v139 v141 v163 (harg8.unread x5) (harg9.unread x6) G17 G18 G19 ⟨0, hk⟩)
    have e2 : (pb_k0_t3 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 (k0_pay79 x0) v9 v10 v115 v131 v133 v135 v137 v139 v141 v163 (harg8.unread x5) (harg9.unread x6) G17 G18 G19 (0 + 1)).2.1 = (tripL_k0_t3 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 (k0_pay79 x0) v9 v10 v115 v131 v133 v135 v137 v139 v141 v163 (harg8.unread x5) (harg9.unread x6) ⟨0, hk⟩ (arg17.view.writes (Elt Ideal) G17 (pb_k0_t3 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 (k0_pay79 x0) v9 v10 v115 v131 v133 v135 v137 v139 v141 v163 (harg8.unread x5) (harg9.unread x6) G17 G18 G19 0).1) (arg18.view.writes (Elt Ideal) G18 (pb_k0_t3 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 (k0_pay79 x0) v9 v10 v115 v131 v133 v135 v137 v139 v141 v163 (harg8.unread x5) (harg9.unread x6) G17 G18 G19 0).2.1) (arg19.view.writes (Elt Ideal) G19 (pb_k0_t3 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 (k0_pay79 x0) v9 v10 v115 v131 v133 v135 v137 v139 v141 v163 (harg8.unread x5) (harg9.unread x6) G17 G18 G19 0).2.2)).2.1 ++ (pb_k0_t3 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 (k0_pay79 x0) v9 v10 v115 v131 v133 v135 v137 v139 v141 v163 (harg8.unread x5) (harg9.unread x6) G17 G18 G19 0).2.1 := congrArg (fun z => z.2.1) (pb_k0_t3_succ (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 (k0_pay79 x0) v9 v10 v115 v131 v133 v135 v137 v139 v141 v163 (harg8.unread x5) (harg9.unread x6) G17 G18 G19 ⟨0, hk⟩)
    have e3 : (pb_k0_t3 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 (k0_pay79 x0) v9 v10 v115 v131 v133 v135 v137 v139 v141 v163 (harg8.unread x5) (harg9.unread x6) G17 G18 G19 (0 + 1)).2.2 = (tripL_k0_t3 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 (k0_pay79 x0) v9 v10 v115 v131 v133 v135 v137 v139 v141 v163 (harg8.unread x5) (harg9.unread x6) ⟨0, hk⟩ (arg17.view.writes (Elt Ideal) G17 (pb_k0_t3 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 (k0_pay79 x0) v9 v10 v115 v131 v133 v135 v137 v139 v141 v163 (harg8.unread x5) (harg9.unread x6) G17 G18 G19 0).1) (arg18.view.writes (Elt Ideal) G18 (pb_k0_t3 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 (k0_pay79 x0) v9 v10 v115 v131 v133 v135 v137 v139 v141 v163 (harg8.unread x5) (harg9.unread x6) G17 G18 G19 0).2.1) (arg19.view.writes (Elt Ideal) G19 (pb_k0_t3 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 (k0_pay79 x0) v9 v10 v115 v131 v133 v135 v137 v139 v141 v163 (harg8.unread x5) (harg9.unread x6) G17 G18 G19 0).2.2)).2.2 ++ (pb_k0_t3 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 (k0_pay79 x0) v9 v10 v115 v131 v133 v135 v137 v139 v141 v163 (harg8.unread x5) (harg9.unread x6) G17 G18 G19 0).2.2 := congrArg (fun z => z.2.2) (pb_k0_t3_succ (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 (k0_pay79 x0) v9 v10 v115 v131 v133 v135 v137 v139 v141 v163 (harg8.unread x5) (harg9.unread x6) G17 G18 G19 ⟨0, hk⟩)
    rw [e1, e2, e3]
    rw [View.writes_append, View.writes_append, View.writes_append, k0_t3_m, k0_t3_l, k0_t3_a]
    have e : (tile (i 2).val ∪ Finset.univ.filter fun k : Fin 8192 => k.val / 256 + 1 = (i 2).val) = tile (i 2).val ∪ tile ((i 2).val - 1) := by
      ext k; simp only [tile, Finset.mem_union, Finset.mem_filter, Finset.mem_univ, true_and]; omega
    rw [e]
    refine StInv.win (s := ⟨arg17.view.read (Elt Ideal) (arg17.view.writes (Elt Ideal) G17 (pb_k0_t3 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 (k0_pay79 x0) v9 v10 v115 v131 v133 v135 v137 v139 v141 v163 (harg8.unread x5) (harg9.unread x6) G17 G18 G19 0).1), arg18.view.read (Elt Ideal) (arg18.view.writes (Elt Ideal) G18 (pb_k0_t3 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 (k0_pay79 x0) v9 v10 v115 v131 v133 v135 v137 v139 v141 v163 (harg8.unread x5) (harg9.unread x6) G17 G18 G19 0).2.1), arg19.view.read (Elt Ideal) (arg19.view.writes (Elt Ideal) G19 (pb_k0_t3 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 (k0_pay79 x0) v9 v10 v115 v131 v133 v135 v137 v139 v141 v163 (harg8.unread x5) (harg9.unread x6) G17 G18 G19 0).2.2)⟩) h0 hq ((i 2).val - 1) (by omega) ?_ ?_ ?_
    · rw [Finset.disjoint_left]; intro k; simp only [tile, Finset.mem_filter, Finset.mem_univ, true_and]; omega
    · exact fun j d => ld4 harg8 x5 _ _ _ (by omega) (off13_eq i ⟨0, hk⟩ rfl) rfl j d
    · exact fun j d => ld4 harg9 x6 _ _ _ (by omega) (off13_eq i ⟨0, hk⟩ rfl) rfl j d
end k0_t3

end Cert.Sel
-- ==== Proof.SelCase.lean ====
module

public import proofs.«01_k».proof.Proof.SelTiles
public import proofs.«01_k».proof.Proof.Gen.Kernel7Ideal.Value

@[expose] public section

set_option maxRecDepth 16384

noncomputable section

namespace Cert.Sel

open Idealize.ShloMosaic Idealize.ShloMosaic.TcCoe Idealize.SL.Sem
open Cert.Kernel7Ideal Cert.Kernel7Ideal.Gen

/-! ## Words of the launch in terms of the running softmax -/

/-- A read back of stores is the stores' contents read. -/
theorem cov_read {sg : RefSig} {κ : Kind} {sp : Space} (v : View sg κ sp S1024x128 .f32)
    (inb : ∀ a, (![0, 0] : Fin 2 → ℕ) a + (![1024, 128] : Fin 2 → ℕ) a ≤ S1024x128.size a) (L : List (View.Piece (Elt Ideal) S1024x128 .f32)) :
    v.readCov L (Rect.unit (s := S1024x128) ![0, 0] ![1024, 128] inb).toLoadRect = v.read (Elt Ideal) (v.writes (Elt Ideal) v.junk L) :=
  load_full v _ inb

/-- The causal tile's stores, in the selected branch, are one step of the running softmax. -/
theorem diag1 (v6 : FVec Ideal S1024x256 .bf16) (v9 v10 : IVec S1024x128 32) (k : Vec Ideal S1x1x256x128 .bf16) (e : Vec Ideal S256x128 .bf16)
    (v : Vec Ideal S1x1x256x128 .bf16) (m l a : T) :
    (⟨k0_pay100 (k0_pay93 v6 v9 v10 k e m), k0_pay98 (k0_pay91 v6 v9 v10 k e) (k0_pay92 v6 v9 v10 k e) (k0_pay93 v6 v9 v10 k e m) (k0_pay94 v6 v9 v10 k e m) l,
      k0_pay99 (k0_pay90 v) (k0_pay91 v6 v9 v10 k e) (k0_pay92 v6 v9 v10 k e) (k0_pay93 v6 v9 v10 k e m) (k0_pay94 v6 v9 v10 k e m) a⟩ : St)
      = (⟨m, l, a⟩ : St).step (k0_pay91 v6 v9 v10 k e) (k0_pay92 v6 v9 v10 k e) (vals v) := by
  unfold k0_pay100 k0_pay98 k0_pay99
  dsimp only
  rw [shapeCast_self, shapeCast_self, shapeCast_self]
  rfl

/-- The causal tile's stores, in the window branch. -/
theorem diag2 (q : FVec Ideal S1024x128 .bf16) (v9 v10 : IVec S1024x128 32) (k v : Vec Ideal S1x1x256x128 .bf16) (m l a : T) :
    (⟨k0_pay125 (k0_pay117 q v9 v10 k m), k0_pay123 (k0_pay121 q v9 v10 k m l) (k0_pay122 q v9 v10 k m),
      k0_pay124 (k0_pay114 v) (k0_pay118 q v9 v10 k m) (k0_pay119 q v9 v10 k m) (k0_pay120 q v9 v10 k m) a⟩ : St)
      = (⟨m, l, a⟩ : St).step (k0_pay115 q v9 v10 k) (k0_pay116 q v9 v10 k) (vals v) := by
  unfold k0_pay125 k0_pay123 k0_pay124
  dsimp only
  rw [shapeCast_self, shapeCast_self, shapeCast_self]
  rfl

/-- The oldest tile's stores, in the window branch. -/
theorem old2 (q : FVec Ideal S1024x128 .bf16) (v9 v10 : IVec S1024x128 32) (k v : Vec Ideal S1x1x256x128 .bf16) (m l a : T) :
    (⟨k0_pay74 q v9 v10 k m, k0_pay130 (k0_pay78 q v9 v10 k m l),
      k0_pay131 (k0_pay71 v) (k0_pay75 q v9 v10 k m) (k0_pay76 q v9 v10 k m) (k0_pay77 q v9 v10 k m) a⟩ : St)
      = (⟨m, l, a⟩ : St).step (k0_pay72 q v9 v10 k) (k0_pay73 q v9 v10 k) (vals v) := by
  unfold k0_pay130 k0_pay131
  dsimp only
  rw [shapeCast_self, shapeCast_self]
  rfl

/-- The start of the selected branch. -/
theorem start1 (σ : Fin 1024 → Fin 8192 → EReal) (W : Fin 8192 → Fin 128 → EReal) : StInv (⟨k0_pay82, k0_pay83, k0_pay84⟩ : St) σ W ∅ := by
  refine StInv.start σ W (fun x => ?_) (fun x => ?_) fun x => ?_
  · show k0_pay82 x = _
    unfold k0_pay82; rw [shapeCast_self]; exact mask_lit
  · show k0_pay83 x = _
    unfold k0_pay83; rw [shapeCast_self]; exact Ideal.ofBits_zero_f32
  · show k0_pay84 x = _
    unfold k0_pay84; rw [shapeCast_self]; exact Ideal.ofBits_zero_f32

/-- The start of the window branch. -/
theorem start2 (σ : Fin 1024 → Fin 8192 → EReal) (W : Fin 8192 → Fin 128 → EReal) : StInv (⟨k0_pay85, k0_pay87 k0_pay86, k0_pay88⟩ : St) σ W ∅ := by
  refine StInv.start σ W (fun x => ?_) (fun x => ?_) fun x => ?_
  · show k0_pay85 x = _
    unfold k0_pay85; rw [shapeCast_self]; exact mask_lit
  · show k0_pay87 k0_pay86 x = _
    unfold k0_pay87; rw [shapeCast_self]; exact Ideal.ofBits_zero_f32
  · show k0_pay88 x = _
    unfold k0_pay88; rw [shapeCast_self]; exact Ideal.ofBits_zero_f32

/-- The queries loaded whole. -/
theorem ldq {arg : Memref sig .tc .vmem S1x1x4x256x128 .bf16} (h : arg.IsWhole) (x : Vec Ideal S1x1x4x256x128 .bf16)
    (inb : ∀ a, (![0, 0, 0, 0, 0] : Fin 5 → ℕ) a + (![1, 1, 4, 256, 128] : Fin 5 → ℕ) a ≤ S1x1x4x256x128.size a) :
    arg.view.readAt (Elt Ideal) (Rect.unit (s := S1x1x4x256x128) ![0, 0, 0, 0, 0] ![1, 1, 4, 256, 128] inb).toLoadRect (h.unread x) = x :=
  (View.readAt_full arg.view _ inb).trans (h.read_unread x)

/-- The penalties loaded whole. -/
theorem ldp {arg : Memref sig .tc .vmem S1x1x256x128 .bf16} (h : arg.IsWhole) (x : Vec Ideal S1x1x256x128 .bf16)
    (inb : ∀ a, (![0, 0, 0, 0] : Fin 4 → ℕ) a + (![1, 1, 256, 128] : Fin 4 → ℕ) a ≤ S1x1x256x128.size a) :
    arg.view.readAt (Elt Ideal) (Rect.unit (s := S1x1x256x128) ![0, 0, 0, 0] ![1, 1, 256, 128] inb).toLoadRect (h.unread x) = x :=
  (View.readAt_full arg.view _ inb).trans (h.read_unread x)

theorem cond_odd (i : grid0.Coords) : cond0_0 i ↔ (i 2).val % 2 = 1 :=
  (by decide +kernel : ∀ n : Fin 32, Scalar.cmpi .ne (Scalar.extui (Scalar.cmpi .eq (Scalar.andi (BitVec.ofNat 32 n.val) 1#32) 1#32) : BitVec 32) 0#32 = 1#1 ↔ n.val % 2 = 1) (i 2)

theorem cond_old (i : grid0.Coords) : cond0_1 i ↔ 2 ≤ (i 2).val :=
  (by decide +kernel : ∀ n : Fin 32, Scalar.cmpi .ne (Scalar.extui (Scalar.cmpi .sge (BitVec.ofNat 32 n.val) 2#32) : BitVec 32) 0#32 = 1#1 ↔ 2 ≤ n.val) (i 2)

set_option maxHeartbeats 400000 in
/-- The selected branch after the query tile, in case A. -/
theorem diagSelA (c : Dev nD) (i : grid0.Coords) (arg3 : Memref sig .tc .vmem S1x1x4x256x128 .bf16) (harg3 : arg3.IsWhole) (arg4 : Memref sig .tc .vmem S1x1x256x128 .bf16) (harg4 : arg4.IsWhole) (arg5 : Memref sig .tc .vmem S1x1x8192x128 .bf16) (harg5 : arg5.IsWhole) (arg6 : Memref sig .tc .vmem S8192x128 .bf16) (harg6 : arg6.IsWhole) (arg7 : Memref sig .tc .vmem S1x1x8192x128 .bf16) (harg7 : arg7.IsWhole) (arg8 : Memref sig .tc .vmem S1x1x8192x128 .bf16) (harg8 : arg8.IsWhole) (arg9 : Memref sig .tc .vmem S1x1x8192x128 .bf16) (harg9 : arg9.IsWhole) (arg10 : Memref sig .tc .vmem S1x1x4x256x128 .f32) (harg10 : arg10.IsWhole) (arg11 : Memref sig .tc .vmem S1x1x256x16 .f32) (harg11 : arg11.IsWhole) (arg12 : Memref sig .tc .vmem S1x1x16 .f32) (harg12 : arg12.IsWhole) (arg13 : Memref sig .tc .vmem S1x256x512 .bf16) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : ¬cond0_1 i)
    (x0 : Vec Ideal S1x1x4x256x128 .bf16) (x1 : Vec Ideal S1x1x256x128 .bf16) (x2 : Vec Ideal S1x1x8192x128 .bf16) (x3 : Vec Ideal S8192x128 .bf16) (x4 : Vec Ideal S1x1x8192x128 .bf16) (x5 : Vec Ideal S1x1x8192x128 .bf16) (x6 : Vec Ideal S1x1x8192x128 .bf16) (x7 : Vec Ideal S1x1x4x256x128 .f32) (x8 : Vec Ideal S1x1x256x16 .f32) (x9 : Vec Ideal S1x1x16 .f32) : StInv (⟨arg14.view.read (Elt Ideal) (arg14.view.writes (Elt Ideal) arg14.view.junk (kernelRun0_A.sl.HS0_2 c i arg3 harg3 arg4 harg4 arg5 harg5 arg6 harg6 arg14 x0 x1 x2 x3)), arg15.view.read (Elt Ideal) (arg15.view.writes (Elt Ideal) arg15.view.junk (kernelRun0_A.sl.HS1_2 c i arg3 harg3 arg4 harg4 arg5 harg5 arg6 harg6 arg14 arg15 x0 x1 x2 x3)), arg16.view.read (Elt Ideal) (arg16.view.writes (Elt Ideal) arg16.view.junk (kernelRun0_A.sl.HS2_2 c i arg3 harg3 arg4 harg4 arg5 harg5 arg6 harg6 arg7 harg7 arg14 arg16 x0 x1 x2 x3 x4))⟩ : St) (σ1 (i 2).val x0 x1 x2 x3) (V x4) (tile (i 2).val) := by
  have hq : (i 2).val < 32 := (i 2).isLt
  have e10 : kernelRun0_A.sl.v10 = lanes := rfl
  unfold kernelRun0_A.sl.HS0_2 kernelRun0_A.sl.HS1_2 kernelRun0_A.sl.HS2_2
  rw [View.read_writes_full, View.read_writes_full, View.read_writes_full]
  simp only [kernelRun0_A.sl.r_6, kernelRun0_A.sl.r_5, kernelRun0_A.sl.r_4, kernelRun0_A.sl.r_3, kernelRun0_A.sl.r_2, kernelRun0_A.sl.r_1, kernelRun0_A.sl.v60, kernelRun0_A.sl.v72, kernelRun0_A.sl.v85, kernelRun0_A.sl.HS0_1, kernelRun0_A.sl.HS1_1, kernelRun0_A.sl.HS2_1, e10, load_cov, ldq, ldp]
  rw [diag1, ← Finset.empty_union (tile (i 2).val)]
  exact StInv.selDiag (start1 _ _) hq (Finset.disjoint_empty_left _)
    (fun j d => ld4 harg5 x2 (k0_off1 i) (k0_off1_inb i) _ hq (off1_eq i) rfl j d) (fun j d => ld2 harg6 x3 (k0_off2 i) (k0_off2_inb i) _ hq (off2_eq i) rfl j d)
    (fun j d => ld4 harg7 x4 (k0_off1 i) (k0_off1_inb i) _ hq (off1_eq i) rfl j d)

set_option maxHeartbeats 400000 in
/-- The selected branch after its loops, in case A. -/
theorem afterSelA (c : Dev nD) (i : grid0.Coords) (arg3 : Memref sig .tc .vmem S1x1x4x256x128 .bf16) (harg3 : arg3.IsWhole) (arg4 : Memref sig .tc .vmem S1x1x256x128 .bf16) (harg4 : arg4.IsWhole) (arg5 : Memref sig .tc .vmem S1x1x8192x128 .bf16) (harg5 : arg5.IsWhole) (arg6 : Memref sig .tc .vmem S8192x128 .bf16) (harg6 : arg6.IsWhole) (arg7 : Memref sig .tc .vmem S1x1x8192x128 .bf16) (harg7 : arg7.IsWhole) (arg8 : Memref sig .tc .vmem S1x1x8192x128 .bf16) (harg8 : arg8.IsWhole) (arg9 : Memref sig .tc .vmem S1x1x8192x128 .bf16) (harg9 : arg9.IsWhole) (arg10 : Memref sig .tc .vmem S1x1x4x256x128 .f32) (harg10 : arg10.IsWhole) (arg11 : Memref sig .tc .vmem S1x1x256x16 .f32) (harg11 : arg11.IsWhole) (arg12 : Memref sig .tc .vmem S1x1x16 .f32) (harg12 : arg12.IsWhole) (arg13 : Memref sig .tc .vmem S1x256x512 .bf16) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : ¬cond0_1 i)
    (x0 : Vec Ideal S1x1x4x256x128 .bf16) (x1 : Vec Ideal S1x1x256x128 .bf16) (x2 : Vec Ideal S1x1x8192x128 .bf16) (x3 : Vec Ideal S8192x128 .bf16) (x4 : Vec Ideal S1x1x8192x128 .bf16) (x5 : Vec Ideal S1x1x8192x128 .bf16) (x6 : Vec Ideal S1x1x8192x128 .bf16) (x7 : Vec Ideal S1x1x4x256x128 .f32) (x8 : Vec Ideal S1x1x256x16 .f32) (x9 : Vec Ideal S1x1x16 .f32) : ∃ m, StInv (⟨m, (kernelRun0_A.sl.v180 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4), (kernelRun0_A.sl.v179 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4)⟩ : St) (σ1 (i 2).val x0 x1 x2 x3) (V x4) (tile (i 2).val ∪ Finset.univ.filter fun k => k.val / 256 < 2 * (k0_t1_loop i).trips) := by
  have e1 : (kernelRun0_A.sl.r_1 c arg3 harg3 arg4 harg4 x0 x1) = k0_pay80 x0 x1 := by
    unfold kernelRun0_A.sl.r_1
    rw [ldq, ldp]
  unfold kernelRun0_A.sl.v180 kernelRun0_A.sl.v179
  rw [t2_trips]
  simp only [pb_k0_t2.eq_1, List.nil_append, cov_read, View.writes_append, e1]
  exact ⟨_, loop1 Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 _ _ _ _ _ _ x0 x1 x2 x3 x4 _ _ _ (diagSelA c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9) _ (le_of_eq (t1_trips i))⟩

set_option maxHeartbeats 400000 in
/-- The selected branch at the end, in case A. -/
theorem selA (c : Dev nD) (i : grid0.Coords) (arg3 : Memref sig .tc .vmem S1x1x4x256x128 .bf16) (harg3 : arg3.IsWhole) (arg4 : Memref sig .tc .vmem S1x1x256x128 .bf16) (harg4 : arg4.IsWhole) (arg5 : Memref sig .tc .vmem S1x1x8192x128 .bf16) (harg5 : arg5.IsWhole) (arg6 : Memref sig .tc .vmem S8192x128 .bf16) (harg6 : arg6.IsWhole) (arg7 : Memref sig .tc .vmem S1x1x8192x128 .bf16) (harg7 : arg7.IsWhole) (arg8 : Memref sig .tc .vmem S1x1x8192x128 .bf16) (harg8 : arg8.IsWhole) (arg9 : Memref sig .tc .vmem S1x1x8192x128 .bf16) (harg9 : arg9.IsWhole) (arg10 : Memref sig .tc .vmem S1x1x4x256x128 .f32) (harg10 : arg10.IsWhole) (arg11 : Memref sig .tc .vmem S1x1x256x16 .f32) (harg11 : arg11.IsWhole) (arg12 : Memref sig .tc .vmem S1x1x16 .f32) (harg12 : arg12.IsWhole) (arg13 : Memref sig .tc .vmem S1x256x512 .bf16) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : ¬cond0_1 i)
    (x0 : Vec Ideal S1x1x4x256x128 .bf16) (x1 : Vec Ideal S1x1x256x128 .bf16) (x2 : Vec Ideal S1x1x8192x128 .bf16) (x3 : Vec Ideal S8192x128 .bf16) (x4 : Vec Ideal S1x1x8192x128 .bf16) (x5 : Vec Ideal S1x1x8192x128 .bf16) (x6 : Vec Ideal S1x1x8192x128 .bf16) (x7 : Vec Ideal S1x1x4x256x128 .f32) (x8 : Vec Ideal S1x1x256x16 .f32) (x9 : Vec Ideal S1x1x16 .f32) : ∃ m K, StInv (⟨m, (kernelRun0_A.sl.v180 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4), (kernelRun0_A.sl.v179 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4)⟩ : St) (σ1 (i 2).val x0 x1 x2 x3) (V x4) K ∧ ∀ k ∉ K, (i 2).val < k.val / 256 := by
  have hq : (i 2).val < 32 := (i 2).isLt
  have ho : ¬ (i 2).val % 2 = 1 := fun h => hc0 ((cond_odd i).mpr h)
  have ht := t1_trips i
  obtain ⟨m, h⟩ := afterSelA c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9
  refine ⟨m, _, h, fun k hk => ?_⟩
  simp only [tile, Finset.mem_union, Finset.mem_filter, Finset.mem_univ, true_and] at hk
  omega

set_option maxHeartbeats 400000 in
/-- The window branch after the query tile, in case A. -/
theorem diagWinA (c : Dev nD) (i : grid0.Coords) (arg3 : Memref sig .tc .vmem S1x1x4x256x128 .bf16) (harg3 : arg3.IsWhole) (arg4 : Memref sig .tc .vmem S1x1x256x128 .bf16) (harg4 : arg4.IsWhole) (arg5 : Memref sig .tc .vmem S1x1x8192x128 .bf16) (harg5 : arg5.IsWhole) (arg6 : Memref sig .tc .vmem S8192x128 .bf16) (harg6 : arg6.IsWhole) (arg7 : Memref sig .tc .vmem S1x1x8192x128 .bf16) (harg7 : arg7.IsWhole) (arg8 : Memref sig .tc .vmem S1x1x8192x128 .bf16) (harg8 : arg8.IsWhole) (arg9 : Memref sig .tc .vmem S1x1x8192x128 .bf16) (harg9 : arg9.IsWhole) (arg10 : Memref sig .tc .vmem S1x1x4x256x128 .f32) (harg10 : arg10.IsWhole) (arg11 : Memref sig .tc .vmem S1x1x256x16 .f32) (harg11 : arg11.IsWhole) (arg12 : Memref sig .tc .vmem S1x1x16 .f32) (harg12 : arg12.IsWhole) (arg13 : Memref sig .tc .vmem S1x256x512 .bf16) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : ¬cond0_1 i)
    (x0 : Vec Ideal S1x1x4x256x128 .bf16) (x1 : Vec Ideal S1x1x256x128 .bf16) (x2 : Vec Ideal S1x1x8192x128 .bf16) (x3 : Vec Ideal S8192x128 .bf16) (x4 : Vec Ideal S1x1x8192x128 .bf16) (x5 : Vec Ideal S1x1x8192x128 .bf16) (x6 : Vec Ideal S1x1x8192x128 .bf16) (x7 : Vec Ideal S1x1x4x256x128 .f32) (x8 : Vec Ideal S1x1x256x16 .f32) (x9 : Vec Ideal S1x1x16 .f32) : StInv (⟨arg17.view.read (Elt Ideal) (arg17.view.writes (Elt Ideal) arg17.view.junk ((⟨Rect.unit (s := S1024x128) ![0, 0] S1024x128.size inb_S1024x128_S1024x128_0_0, k0_pay125 (kernelRun0_A.sl.r_8 c i arg3 harg3 arg8 harg8 arg17 x0 x5)⟩ : View.Piece (Elt Ideal) S1024x128 .f32) :: (kernelRun0_A.sl.HS3_1 ))), arg18.view.read (Elt Ideal) (arg18.view.writes (Elt Ideal) arg18.view.junk ((⟨Rect.unit (s := S1024x128) ![0, 0] S1024x128.size inb_S1024x128_S1024x128_0_0, k0_pay123 (kernelRun0_A.sl.r_12 c i arg3 harg3 arg8 harg8 arg17 arg18 x0 x5) (kernelRun0_A.sl.r_13 c i arg3 harg3 arg8 harg8 arg17 x0 x5)⟩ : View.Piece (Elt Ideal) S1024x128 .f32) :: (kernelRun0_A.sl.HS4_1 ))), arg19.view.read (Elt Ideal) (arg19.view.writes (Elt Ideal) arg19.view.junk ((⟨Rect.unit (s := S1024x128) ![0, 0] S1024x128.size inb_S1024x128_S1024x128_0_0, k0_pay124 (kernelRun0_A.sl.r_7 c i arg9 harg9 x6) (kernelRun0_A.sl.r_9 c i arg3 harg3 arg8 harg8 arg17 x0 x5) (kernelRun0_A.sl.r_10 c i arg3 harg3 arg8 harg8 arg17 x0 x5) (kernelRun0_A.sl.r_11 c i arg3 harg3 arg8 harg8 arg17 x0 x5) (kernelRun0_A.sl.v151 c arg19)⟩ : View.Piece (Elt Ideal) S1024x128 .f32) :: (kernelRun0_A.sl.HS5_1 )))⟩ : St) (σ2 (i 2).val x0 x5) (V x6) (tile (i 2).val) := by
  have hq : (i 2).val < 32 := (i 2).isLt
  have e10 : kernelRun0_A.sl.v10 = lanes := rfl
  rw [View.read_writes_full, View.read_writes_full, View.read_writes_full]
  simp only [kernelRun0_A.sl.r_13, kernelRun0_A.sl.r_12, kernelRun0_A.sl.r_11, kernelRun0_A.sl.r_10, kernelRun0_A.sl.r_9, kernelRun0_A.sl.r_8, kernelRun0_A.sl.r_7, kernelRun0_A.sl.r, kernelRun0_A.sl.v126, kernelRun0_A.sl.v138, kernelRun0_A.sl.v151, kernelRun0_A.sl.HS3_1, kernelRun0_A.sl.HS4_1, kernelRun0_A.sl.HS5_1, e10, load_cov, ldq, ldp]
  rw [diag2, ← Finset.empty_union (tile (i 2).val)]
  exact StInv.winDiag (start2 _ _) hq (Finset.disjoint_empty_left _)
    (fun j d => ld4 harg8 x5 (k0_off1 i) (k0_off1_inb i) _ hq (off1_eq i) rfl j d)
    (fun j d => ld4 harg9 x6 (k0_off1 i) (k0_off1_inb i) _ hq (off1_eq i) rfl j d)

set_option maxHeartbeats 400000 in
/-- The window branch after its loops, in case A. -/
theorem afterWinA (c : Dev nD) (i : grid0.Coords) (arg3 : Memref sig .tc .vmem S1x1x4x256x128 .bf16) (harg3 : arg3.IsWhole) (arg4 : Memref sig .tc .vmem S1x1x256x128 .bf16) (harg4 : arg4.IsWhole) (arg5 : Memref sig .tc .vmem S1x1x8192x128 .bf16) (harg5 : arg5.IsWhole) (arg6 : Memref sig .tc .vmem S8192x128 .bf16) (harg6 : arg6.IsWhole) (arg7 : Memref sig .tc .vmem S1x1x8192x128 .bf16) (harg7 : arg7.IsWhole) (arg8 : Memref sig .tc .vmem S1x1x8192x128 .bf16) (harg8 : arg8.IsWhole) (arg9 : Memref sig .tc .vmem S1x1x8192x128 .bf16) (harg9 : arg9.IsWhole) (arg10 : Memref sig .tc .vmem S1x1x4x256x128 .f32) (harg10 : arg10.IsWhole) (arg11 : Memref sig .tc .vmem S1x1x256x16 .f32) (harg11 : arg11.IsWhole) (arg12 : Memref sig .tc .vmem S1x1x16 .f32) (harg12 : arg12.IsWhole) (arg13 : Memref sig .tc .vmem S1x256x512 .bf16) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : ¬cond0_1 i)
    (x0 : Vec Ideal S1x1x4x256x128 .bf16) (x1 : Vec Ideal S1x1x256x128 .bf16) (x2 : Vec Ideal S1x1x8192x128 .bf16) (x3 : Vec Ideal S8192x128 .bf16) (x4 : Vec Ideal S1x1x8192x128 .bf16) (x5 : Vec Ideal S1x1x8192x128 .bf16) (x6 : Vec Ideal S1x1x8192x128 .bf16) (x7 : Vec Ideal S1x1x4x256x128 .f32) (x8 : Vec Ideal S1x1x256x16 .f32) (x9 : Vec Ideal S1x1x16 .f32) : ∃ m, StInv (⟨m, (kernelRun0_A.sl.v183 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x5 x6), (kernelRun0_A.sl.v182 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x5 x6)⟩ : St) (σ2 (i 2).val x0 x5) (V x6) (tile (i 2).val ∪ Finset.univ.filter fun k => k.val / 256 + 1 = (i 2).val) := by
  have e1 : (kernelRun0_A.sl.r c arg3 harg3 x0) = k0_pay79 x0 := by
    unfold kernelRun0_A.sl.r
    rw [ldq]
  unfold kernelRun0_A.sl.v183 kernelRun0_A.sl.v182
  rw [t4_trips]
  simp only [pb_k0_t4.eq_1, List.nil_append, cov_read, View.writes_append, e1]
  exact ⟨_, loop3 Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 _ _ _ _ _ _ _ _ _ _ _ x0 x5 x6 _ _ _ (diagWinA c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9)⟩

set_option maxHeartbeats 400000 in
/-- The window branch at the end, in case A. -/
theorem winA (c : Dev nD) (i : grid0.Coords) (arg3 : Memref sig .tc .vmem S1x1x4x256x128 .bf16) (harg3 : arg3.IsWhole) (arg4 : Memref sig .tc .vmem S1x1x256x128 .bf16) (harg4 : arg4.IsWhole) (arg5 : Memref sig .tc .vmem S1x1x8192x128 .bf16) (harg5 : arg5.IsWhole) (arg6 : Memref sig .tc .vmem S8192x128 .bf16) (harg6 : arg6.IsWhole) (arg7 : Memref sig .tc .vmem S1x1x8192x128 .bf16) (harg7 : arg7.IsWhole) (arg8 : Memref sig .tc .vmem S1x1x8192x128 .bf16) (harg8 : arg8.IsWhole) (arg9 : Memref sig .tc .vmem S1x1x8192x128 .bf16) (harg9 : arg9.IsWhole) (arg10 : Memref sig .tc .vmem S1x1x4x256x128 .f32) (harg10 : arg10.IsWhole) (arg11 : Memref sig .tc .vmem S1x1x256x16 .f32) (harg11 : arg11.IsWhole) (arg12 : Memref sig .tc .vmem S1x1x16 .f32) (harg12 : arg12.IsWhole) (arg13 : Memref sig .tc .vmem S1x256x512 .bf16) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : ¬cond0_1 i)
    (x0 : Vec Ideal S1x1x4x256x128 .bf16) (x1 : Vec Ideal S1x1x256x128 .bf16) (x2 : Vec Ideal S1x1x8192x128 .bf16) (x3 : Vec Ideal S8192x128 .bf16) (x4 : Vec Ideal S1x1x8192x128 .bf16) (x5 : Vec Ideal S1x1x8192x128 .bf16) (x6 : Vec Ideal S1x1x8192x128 .bf16) (x7 : Vec Ideal S1x1x4x256x128 .f32) (x8 : Vec Ideal S1x1x256x16 .f32) (x9 : Vec Ideal S1x1x16 .f32) : ∃ m K, StInv (⟨m, (kernelRun0_A.sl.v183 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x5 x6), (kernelRun0_A.sl.v182 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x5 x6)⟩ : St) (σ2 (i 2).val x0 x5) (V x6) K ∧ ∀ k ∉ K, (i 2).val < k.val / 256 ∨ k.val / 256 + 2 < (i 2).val := by
  have hq : (i 2).val < 32 := (i 2).isLt
  have ho : ¬ 2 ≤ (i 2).val := fun h => hc1 ((cond_old i).mpr h)
  obtain ⟨m, h⟩ := afterWinA c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9
  refine ⟨m, _, h, fun k hk => ?_⟩
  simp only [tile, Finset.mem_union, Finset.mem_filter, Finset.mem_univ, true_and] at hk
  omega

set_option maxHeartbeats 400000 in
/-- The selected branch after the query tile, in case B. -/
theorem diagSelB (c : Dev nD) (i : grid0.Coords) (arg3 : Memref sig .tc .vmem S1x1x4x256x128 .bf16) (harg3 : arg3.IsWhole) (arg4 : Memref sig .tc .vmem S1x1x256x128 .bf16) (harg4 : arg4.IsWhole) (arg5 : Memref sig .tc .vmem S1x1x8192x128 .bf16) (harg5 : arg5.IsWhole) (arg6 : Memref sig .tc .vmem S8192x128 .bf16) (harg6 : arg6.IsWhole) (arg7 : Memref sig .tc .vmem S1x1x8192x128 .bf16) (harg7 : arg7.IsWhole) (arg8 : Memref sig .tc .vmem S1x1x8192x128 .bf16) (harg8 : arg8.IsWhole) (arg9 : Memref sig .tc .vmem S1x1x8192x128 .bf16) (harg9 : arg9.IsWhole) (arg10 : Memref sig .tc .vmem S1x1x4x256x128 .f32) (harg10 : arg10.IsWhole) (arg11 : Memref sig .tc .vmem S1x1x256x16 .f32) (harg11 : arg11.IsWhole) (arg12 : Memref sig .tc .vmem S1x1x16 .f32) (harg12 : arg12.IsWhole) (arg13 : Memref sig .tc .vmem S1x256x512 .bf16) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : cond0_0 i) (hc1 : ¬cond0_1 i)
    (x0 : Vec Ideal S1x1x4x256x128 .bf16) (x1 : Vec Ideal S1x1x256x128 .bf16) (x2 : Vec Ideal S1x1x8192x128 .bf16) (x3 : Vec Ideal S8192x128 .bf16) (x4 : Vec Ideal S1x1x8192x128 .bf16) (x5 : Vec Ideal S1x1x8192x128 .bf16) (x6 : Vec Ideal S1x1x8192x128 .bf16) (x7 : Vec Ideal S1x1x4x256x128 .f32) (x8 : Vec Ideal S1x1x256x16 .f32) (x9 : Vec Ideal S1x1x16 .f32) : StInv (⟨arg14.view.read (Elt Ideal) (arg14.view.writes (Elt Ideal) arg14.view.junk (kernelRun0_B.sl.HS0_2 c i arg3 harg3 arg4 harg4 arg5 harg5 arg6 harg6 arg14 x0 x1 x2 x3)), arg15.view.read (Elt Ideal) (arg15.view.writes (Elt Ideal) arg15.view.junk (kernelRun0_B.sl.HS1_2 c i arg3 harg3 arg4 harg4 arg5 harg5 arg6 harg6 arg14 arg15 x0 x1 x2 x3)), arg16.view.read (Elt Ideal) (arg16.view.writes (Elt Ideal) arg16.view.junk (kernelRun0_B.sl.HS2_2 c i arg3 harg3 arg4 harg4 arg5 harg5 arg6 harg6 arg7 harg7 arg14 arg16 x0 x1 x2 x3 x4))⟩ : St) (σ1 (i 2).val x0 x1 x2 x3) (V x4) (tile (i 2).val) := by
  have hq : (i 2).val < 32 := (i 2).isLt
  have e10 : kernelRun0_B.sl.v10 = lanes := rfl
  unfold kernelRun0_B.sl.HS0_2 kernelRun0_B.sl.HS1_2 kernelRun0_B.sl.HS2_2
  rw [View.read_writes_full, View.read_writes_full, View.read_writes_full]
  simp only [kernelRun0_B.sl.r_6, kernelRun0_B.sl.r_5, kernelRun0_B.sl.r_4, kernelRun0_B.sl.r_3, kernelRun0_B.sl.r_2, kernelRun0_B.sl.r_1, kernelRun0_B.sl.v60, kernelRun0_B.sl.v72, kernelRun0_B.sl.v85, kernelRun0_B.sl.HS0_1, kernelRun0_B.sl.HS1_1, kernelRun0_B.sl.HS2_1, e10, load_cov, ldq, ldp]
  rw [diag1, ← Finset.empty_union (tile (i 2).val)]
  exact StInv.selDiag (start1 _ _) hq (Finset.disjoint_empty_left _)
    (fun j d => ld4 harg5 x2 (k0_off1 i) (k0_off1_inb i) _ hq (off1_eq i) rfl j d) (fun j d => ld2 harg6 x3 (k0_off2 i) (k0_off2_inb i) _ hq (off2_eq i) rfl j d)
    (fun j d => ld4 harg7 x4 (k0_off1 i) (k0_off1_inb i) _ hq (off1_eq i) rfl j d)

set_option maxHeartbeats 400000 in
/-- The selected branch after its loops, in case B. -/
theorem afterSelB (c : Dev nD) (i : grid0.Coords) (arg3 : Memref sig .tc .vmem S1x1x4x256x128 .bf16) (harg3 : arg3.IsWhole) (arg4 : Memref sig .tc .vmem S1x1x256x128 .bf16) (harg4 : arg4.IsWhole) (arg5 : Memref sig .tc .vmem S1x1x8192x128 .bf16) (harg5 : arg5.IsWhole) (arg6 : Memref sig .tc .vmem S8192x128 .bf16) (harg6 : arg6.IsWhole) (arg7 : Memref sig .tc .vmem S1x1x8192x128 .bf16) (harg7 : arg7.IsWhole) (arg8 : Memref sig .tc .vmem S1x1x8192x128 .bf16) (harg8 : arg8.IsWhole) (arg9 : Memref sig .tc .vmem S1x1x8192x128 .bf16) (harg9 : arg9.IsWhole) (arg10 : Memref sig .tc .vmem S1x1x4x256x128 .f32) (harg10 : arg10.IsWhole) (arg11 : Memref sig .tc .vmem S1x1x256x16 .f32) (harg11 : arg11.IsWhole) (arg12 : Memref sig .tc .vmem S1x1x16 .f32) (harg12 : arg12.IsWhole) (arg13 : Memref sig .tc .vmem S1x256x512 .bf16) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : cond0_0 i) (hc1 : ¬cond0_1 i)
    (x0 : Vec Ideal S1x1x4x256x128 .bf16) (x1 : Vec Ideal S1x1x256x128 .bf16) (x2 : Vec Ideal S1x1x8192x128 .bf16) (x3 : Vec Ideal S8192x128 .bf16) (x4 : Vec Ideal S1x1x8192x128 .bf16) (x5 : Vec Ideal S1x1x8192x128 .bf16) (x6 : Vec Ideal S1x1x8192x128 .bf16) (x7 : Vec Ideal S1x1x4x256x128 .f32) (x8 : Vec Ideal S1x1x256x16 .f32) (x9 : Vec Ideal S1x1x16 .f32) : StInv (⟨(kernelRun0_B.sl.v277 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4), (kernelRun0_B.sl.v289 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4), (kernelRun0_B.sl.v302 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4)⟩ : St) (σ1 (i 2).val x0 x1 x2 x3) (V x4) (tile (i 2).val ∪ Finset.univ.filter fun k => k.val / 256 < 2 * (k0_t1_loop i).trips) := by
  have e1 : (kernelRun0_B.sl.r_1 c arg3 harg3 arg4 harg4 x0 x1) = k0_pay80 x0 x1 := by
    unfold kernelRun0_B.sl.r_1
    rw [ldq, ldp]
  unfold kernelRun0_B.sl.v277 kernelRun0_B.sl.v289 kernelRun0_B.sl.v302
  rw [t2_trips]
  simp only [pb_k0_t2.eq_1, List.nil_append, cov_read, View.writes_append, e1]
  exact loop1 Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 _ _ _ _ _ _ x0 x1 x2 x3 x4 _ _ _ (diagSelB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9) _ (le_of_eq (t1_trips i))

set_option maxHeartbeats 400000 in
/-- The selected branch at the end, in case B. -/
theorem selB (c : Dev nD) (i : grid0.Coords) (arg3 : Memref sig .tc .vmem S1x1x4x256x128 .bf16) (harg3 : arg3.IsWhole) (arg4 : Memref sig .tc .vmem S1x1x256x128 .bf16) (harg4 : arg4.IsWhole) (arg5 : Memref sig .tc .vmem S1x1x8192x128 .bf16) (harg5 : arg5.IsWhole) (arg6 : Memref sig .tc .vmem S8192x128 .bf16) (harg6 : arg6.IsWhole) (arg7 : Memref sig .tc .vmem S1x1x8192x128 .bf16) (harg7 : arg7.IsWhole) (arg8 : Memref sig .tc .vmem S1x1x8192x128 .bf16) (harg8 : arg8.IsWhole) (arg9 : Memref sig .tc .vmem S1x1x8192x128 .bf16) (harg9 : arg9.IsWhole) (arg10 : Memref sig .tc .vmem S1x1x4x256x128 .f32) (harg10 : arg10.IsWhole) (arg11 : Memref sig .tc .vmem S1x1x256x16 .f32) (harg11 : arg11.IsWhole) (arg12 : Memref sig .tc .vmem S1x1x16 .f32) (harg12 : arg12.IsWhole) (arg13 : Memref sig .tc .vmem S1x256x512 .bf16) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : cond0_0 i) (hc1 : ¬cond0_1 i)
    (x0 : Vec Ideal S1x1x4x256x128 .bf16) (x1 : Vec Ideal S1x1x256x128 .bf16) (x2 : Vec Ideal S1x1x8192x128 .bf16) (x3 : Vec Ideal S8192x128 .bf16) (x4 : Vec Ideal S1x1x8192x128 .bf16) (x5 : Vec Ideal S1x1x8192x128 .bf16) (x6 : Vec Ideal S1x1x8192x128 .bf16) (x7 : Vec Ideal S1x1x4x256x128 .f32) (x8 : Vec Ideal S1x1x256x16 .f32) (x9 : Vec Ideal S1x1x16 .f32) : ∃ m K, StInv (⟨m, (kernelRun0_B.sl.v180 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4), (kernelRun0_B.sl.v179 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4)⟩ : St) (σ1 (i 2).val x0 x1 x2 x3) (V x4) K ∧ ∀ k ∉ K, (i 2).val < k.val / 256 := by
  have hq : (i 2).val < 32 := (i 2).isLt
  have ho := (cond_odd i).mp hc0
  have ht := t1_trips i
  have e1 : (kernelRun0_B.sl.r_1 c arg3 harg3 arg4 harg4 x0 x1) = k0_pay80 x0 x1 := by
    unfold kernelRun0_B.sl.r_1
    rw [ldq, ldp]
  have h := afterSelB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9
  have e : (⟨(kernelRun0_B.sl.v282 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4), (kernelRun0_B.sl.v180 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4), (kernelRun0_B.sl.v179 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4)⟩ : St) = St.sel ⟨(kernelRun0_B.sl.v277 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4), (kernelRun0_B.sl.v289 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4), (kernelRun0_B.sl.v302 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4)⟩ (kernelRun0_B.sl.r_1 c arg3 harg3 arg4 harg4 x0 x1) (arg5.view.readAt (Elt Ideal) (Rect.unit (s := S1x1x8192x128) (k0_off11 i) S1x1x256x128.size (k0_off11_inb i hc0)).toLoadRect (harg5.unread x2)) (arg6.view.readAt (Elt Ideal) (Rect.unit (s := S8192x128) (k0_off12 i) S256x128.size (k0_off12_inb i hc0)).toLoadRect (harg6.unread x3)) (arg7.view.readAt (Elt Ideal) (Rect.unit (s := S1x1x8192x128) (k0_off11 i) S1x1x256x128.size (k0_off11_inb i hc0)).toLoadRect (harg7.unread x4)) := by
    unfold kernelRun0_B.sl.v180 kernelRun0_B.sl.v179
    rw [load_cov, load_cov]
    unfold kernelRun0_B.sl.v298 k0_pay111
    dsimp only
    rw [shapeCast_self, shapeCast_self]
    rfl
  refine ⟨(kernelRun0_B.sl.v282 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4), (tile (i 2).val ∪ Finset.univ.filter fun k => k.val / 256 < 2 * (k0_t1_loop i).trips) ∪ tile ((i 2).val - 1), ?_, fun k hk => ?_⟩
  · rw [e, e1]
    refine StInv.sel h hq ((i 2).val - 1) (by omega) ?_ (fun j d => ld4 harg5 x2 (k0_off11 i) (k0_off11_inb i hc0) _ (by omega) (off11_eq i (by omega)) rfl j d)
      (fun j d => ld2 harg6 x3 (k0_off12 i) (k0_off12_inb i hc0) _ (by omega) (off12_eq i (by omega)) rfl j d)
      (fun j d => ld4 harg7 x4 (k0_off11 i) (k0_off11_inb i hc0) _ (by omega) (off11_eq i (by omega)) rfl j d)
    rw [Finset.disjoint_left]
    intro k h1 h2
    simp only [tile, Finset.mem_union, Finset.mem_filter, Finset.mem_univ, true_and] at h1 h2
    omega
  · simp only [tile, Finset.mem_union, Finset.mem_filter, Finset.mem_univ, true_and] at hk
    omega

set_option maxHeartbeats 400000 in
/-- The window branch after the query tile, in case B. -/
theorem diagWinB (c : Dev nD) (i : grid0.Coords) (arg3 : Memref sig .tc .vmem S1x1x4x256x128 .bf16) (harg3 : arg3.IsWhole) (arg4 : Memref sig .tc .vmem S1x1x256x128 .bf16) (harg4 : arg4.IsWhole) (arg5 : Memref sig .tc .vmem S1x1x8192x128 .bf16) (harg5 : arg5.IsWhole) (arg6 : Memref sig .tc .vmem S8192x128 .bf16) (harg6 : arg6.IsWhole) (arg7 : Memref sig .tc .vmem S1x1x8192x128 .bf16) (harg7 : arg7.IsWhole) (arg8 : Memref sig .tc .vmem S1x1x8192x128 .bf16) (harg8 : arg8.IsWhole) (arg9 : Memref sig .tc .vmem S1x1x8192x128 .bf16) (harg9 : arg9.IsWhole) (arg10 : Memref sig .tc .vmem S1x1x4x256x128 .f32) (harg10 : arg10.IsWhole) (arg11 : Memref sig .tc .vmem S1x1x256x16 .f32) (harg11 : arg11.IsWhole) (arg12 : Memref sig .tc .vmem S1x1x16 .f32) (harg12 : arg12.IsWhole) (arg13 : Memref sig .tc .vmem S1x256x512 .bf16) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : cond0_0 i) (hc1 : ¬cond0_1 i)
    (x0 : Vec Ideal S1x1x4x256x128 .bf16) (x1 : Vec Ideal S1x1x256x128 .bf16) (x2 : Vec Ideal S1x1x8192x128 .bf16) (x3 : Vec Ideal S8192x128 .bf16) (x4 : Vec Ideal S1x1x8192x128 .bf16) (x5 : Vec Ideal S1x1x8192x128 .bf16) (x6 : Vec Ideal S1x1x8192x128 .bf16) (x7 : Vec Ideal S1x1x4x256x128 .f32) (x8 : Vec Ideal S1x1x256x16 .f32) (x9 : Vec Ideal S1x1x16 .f32) : StInv (⟨arg17.view.read (Elt Ideal) (arg17.view.writes (Elt Ideal) arg17.view.junk ((⟨Rect.unit (s := S1024x128) ![0, 0] S1024x128.size inb_S1024x128_S1024x128_0_0, k0_pay125 (kernelRun0_B.sl.r_8 c i arg3 harg3 arg8 harg8 arg17 x0 x5)⟩ : View.Piece (Elt Ideal) S1024x128 .f32) :: (kernelRun0_B.sl.HS3_1 ))), arg18.view.read (Elt Ideal) (arg18.view.writes (Elt Ideal) arg18.view.junk ((⟨Rect.unit (s := S1024x128) ![0, 0] S1024x128.size inb_S1024x128_S1024x128_0_0, k0_pay123 (kernelRun0_B.sl.r_12 c i arg3 harg3 arg8 harg8 arg17 arg18 x0 x5) (kernelRun0_B.sl.r_13 c i arg3 harg3 arg8 harg8 arg17 x0 x5)⟩ : View.Piece (Elt Ideal) S1024x128 .f32) :: (kernelRun0_B.sl.HS4_1 ))), arg19.view.read (Elt Ideal) (arg19.view.writes (Elt Ideal) arg19.view.junk ((⟨Rect.unit (s := S1024x128) ![0, 0] S1024x128.size inb_S1024x128_S1024x128_0_0, k0_pay124 (kernelRun0_B.sl.r_7 c i arg9 harg9 x6) (kernelRun0_B.sl.r_9 c i arg3 harg3 arg8 harg8 arg17 x0 x5) (kernelRun0_B.sl.r_10 c i arg3 harg3 arg8 harg8 arg17 x0 x5) (kernelRun0_B.sl.r_11 c i arg3 harg3 arg8 harg8 arg17 x0 x5) (kernelRun0_B.sl.v151 c arg19)⟩ : View.Piece (Elt Ideal) S1024x128 .f32) :: (kernelRun0_B.sl.HS5_1 )))⟩ : St) (σ2 (i 2).val x0 x5) (V x6) (tile (i 2).val) := by
  have hq : (i 2).val < 32 := (i 2).isLt
  have e10 : kernelRun0_B.sl.v10 = lanes := rfl
  rw [View.read_writes_full, View.read_writes_full, View.read_writes_full]
  simp only [kernelRun0_B.sl.r_13, kernelRun0_B.sl.r_12, kernelRun0_B.sl.r_11, kernelRun0_B.sl.r_10, kernelRun0_B.sl.r_9, kernelRun0_B.sl.r_8, kernelRun0_B.sl.r_7, kernelRun0_B.sl.r, kernelRun0_B.sl.v126, kernelRun0_B.sl.v138, kernelRun0_B.sl.v151, kernelRun0_B.sl.HS3_1, kernelRun0_B.sl.HS4_1, kernelRun0_B.sl.HS5_1, e10, load_cov, ldq, ldp]
  rw [diag2, ← Finset.empty_union (tile (i 2).val)]
  exact StInv.winDiag (start2 _ _) hq (Finset.disjoint_empty_left _)
    (fun j d => ld4 harg8 x5 (k0_off1 i) (k0_off1_inb i) _ hq (off1_eq i) rfl j d)
    (fun j d => ld4 harg9 x6 (k0_off1 i) (k0_off1_inb i) _ hq (off1_eq i) rfl j d)

set_option maxHeartbeats 400000 in
/-- The window branch after its loops, in case B. -/
theorem afterWinB (c : Dev nD) (i : grid0.Coords) (arg3 : Memref sig .tc .vmem S1x1x4x256x128 .bf16) (harg3 : arg3.IsWhole) (arg4 : Memref sig .tc .vmem S1x1x256x128 .bf16) (harg4 : arg4.IsWhole) (arg5 : Memref sig .tc .vmem S1x1x8192x128 .bf16) (harg5 : arg5.IsWhole) (arg6 : Memref sig .tc .vmem S8192x128 .bf16) (harg6 : arg6.IsWhole) (arg7 : Memref sig .tc .vmem S1x1x8192x128 .bf16) (harg7 : arg7.IsWhole) (arg8 : Memref sig .tc .vmem S1x1x8192x128 .bf16) (harg8 : arg8.IsWhole) (arg9 : Memref sig .tc .vmem S1x1x8192x128 .bf16) (harg9 : arg9.IsWhole) (arg10 : Memref sig .tc .vmem S1x1x4x256x128 .f32) (harg10 : arg10.IsWhole) (arg11 : Memref sig .tc .vmem S1x1x256x16 .f32) (harg11 : arg11.IsWhole) (arg12 : Memref sig .tc .vmem S1x1x16 .f32) (harg12 : arg12.IsWhole) (arg13 : Memref sig .tc .vmem S1x256x512 .bf16) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : cond0_0 i) (hc1 : ¬cond0_1 i)
    (x0 : Vec Ideal S1x1x4x256x128 .bf16) (x1 : Vec Ideal S1x1x256x128 .bf16) (x2 : Vec Ideal S1x1x8192x128 .bf16) (x3 : Vec Ideal S8192x128 .bf16) (x4 : Vec Ideal S1x1x8192x128 .bf16) (x5 : Vec Ideal S1x1x8192x128 .bf16) (x6 : Vec Ideal S1x1x8192x128 .bf16) (x7 : Vec Ideal S1x1x4x256x128 .f32) (x8 : Vec Ideal S1x1x256x16 .f32) (x9 : Vec Ideal S1x1x16 .f32) : ∃ m, StInv (⟨m, (kernelRun0_B.sl.v183 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x5 x6), (kernelRun0_B.sl.v182 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x5 x6)⟩ : St) (σ2 (i 2).val x0 x5) (V x6) (tile (i 2).val ∪ Finset.univ.filter fun k => k.val / 256 + 1 = (i 2).val) := by
  have e1 : (kernelRun0_B.sl.r c arg3 harg3 x0) = k0_pay79 x0 := by
    unfold kernelRun0_B.sl.r
    rw [ldq]
  unfold kernelRun0_B.sl.v183 kernelRun0_B.sl.v182
  rw [t4_trips]
  simp only [pb_k0_t4.eq_1, List.nil_append, cov_read, View.writes_append, e1]
  exact ⟨_, loop3 Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 _ _ _ _ _ _ _ _ _ _ _ x0 x5 x6 _ _ _ (diagWinB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9)⟩

set_option maxHeartbeats 400000 in
/-- The window branch at the end, in case B. -/
theorem winB (c : Dev nD) (i : grid0.Coords) (arg3 : Memref sig .tc .vmem S1x1x4x256x128 .bf16) (harg3 : arg3.IsWhole) (arg4 : Memref sig .tc .vmem S1x1x256x128 .bf16) (harg4 : arg4.IsWhole) (arg5 : Memref sig .tc .vmem S1x1x8192x128 .bf16) (harg5 : arg5.IsWhole) (arg6 : Memref sig .tc .vmem S8192x128 .bf16) (harg6 : arg6.IsWhole) (arg7 : Memref sig .tc .vmem S1x1x8192x128 .bf16) (harg7 : arg7.IsWhole) (arg8 : Memref sig .tc .vmem S1x1x8192x128 .bf16) (harg8 : arg8.IsWhole) (arg9 : Memref sig .tc .vmem S1x1x8192x128 .bf16) (harg9 : arg9.IsWhole) (arg10 : Memref sig .tc .vmem S1x1x4x256x128 .f32) (harg10 : arg10.IsWhole) (arg11 : Memref sig .tc .vmem S1x1x256x16 .f32) (harg11 : arg11.IsWhole) (arg12 : Memref sig .tc .vmem S1x1x16 .f32) (harg12 : arg12.IsWhole) (arg13 : Memref sig .tc .vmem S1x256x512 .bf16) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : cond0_0 i) (hc1 : ¬cond0_1 i)
    (x0 : Vec Ideal S1x1x4x256x128 .bf16) (x1 : Vec Ideal S1x1x256x128 .bf16) (x2 : Vec Ideal S1x1x8192x128 .bf16) (x3 : Vec Ideal S8192x128 .bf16) (x4 : Vec Ideal S1x1x8192x128 .bf16) (x5 : Vec Ideal S1x1x8192x128 .bf16) (x6 : Vec Ideal S1x1x8192x128 .bf16) (x7 : Vec Ideal S1x1x4x256x128 .f32) (x8 : Vec Ideal S1x1x256x16 .f32) (x9 : Vec Ideal S1x1x16 .f32) : ∃ m K, StInv (⟨m, (kernelRun0_B.sl.v183 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x5 x6), (kernelRun0_B.sl.v182 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x5 x6)⟩ : St) (σ2 (i 2).val x0 x5) (V x6) K ∧ ∀ k ∉ K, (i 2).val < k.val / 256 ∨ k.val / 256 + 2 < (i 2).val := by
  have hq : (i 2).val < 32 := (i 2).isLt
  have ho : ¬ 2 ≤ (i 2).val := fun h => hc1 ((cond_old i).mpr h)
  obtain ⟨m, h⟩ := afterWinB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9
  refine ⟨m, _, h, fun k hk => ?_⟩
  simp only [tile, Finset.mem_union, Finset.mem_filter, Finset.mem_univ, true_and] at hk
  omega

set_option maxHeartbeats 400000 in
/-- The selected branch after the query tile, in case C. -/
theorem diagSelC (c : Dev nD) (i : grid0.Coords) (arg3 : Memref sig .tc .vmem S1x1x4x256x128 .bf16) (harg3 : arg3.IsWhole) (arg4 : Memref sig .tc .vmem S1x1x256x128 .bf16) (harg4 : arg4.IsWhole) (arg5 : Memref sig .tc .vmem S1x1x8192x128 .bf16) (harg5 : arg5.IsWhole) (arg6 : Memref sig .tc .vmem S8192x128 .bf16) (harg6 : arg6.IsWhole) (arg7 : Memref sig .tc .vmem S1x1x8192x128 .bf16) (harg7 : arg7.IsWhole) (arg8 : Memref sig .tc .vmem S1x1x8192x128 .bf16) (harg8 : arg8.IsWhole) (arg9 : Memref sig .tc .vmem S1x1x8192x128 .bf16) (harg9 : arg9.IsWhole) (arg10 : Memref sig .tc .vmem S1x1x4x256x128 .f32) (harg10 : arg10.IsWhole) (arg11 : Memref sig .tc .vmem S1x1x256x16 .f32) (harg11 : arg11.IsWhole) (arg12 : Memref sig .tc .vmem S1x1x16 .f32) (harg12 : arg12.IsWhole) (arg13 : Memref sig .tc .vmem S1x256x512 .bf16) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : cond0_1 i)
    (x0 : Vec Ideal S1x1x4x256x128 .bf16) (x1 : Vec Ideal S1x1x256x128 .bf16) (x2 : Vec Ideal S1x1x8192x128 .bf16) (x3 : Vec Ideal S8192x128 .bf16) (x4 : Vec Ideal S1x1x8192x128 .bf16) (x5 : Vec Ideal S1x1x8192x128 .bf16) (x6 : Vec Ideal S1x1x8192x128 .bf16) (x7 : Vec Ideal S1x1x4x256x128 .f32) (x8 : Vec Ideal S1x1x256x16 .f32) (x9 : Vec Ideal S1x1x16 .f32) : StInv (⟨arg14.view.read (Elt Ideal) (arg14.view.writes (Elt Ideal) arg14.view.junk (kernelRun0_C.sl.HS0_2 c i arg3 harg3 arg4 harg4 arg5 harg5 arg6 harg6 arg14 x0 x1 x2 x3)), arg15.view.read (Elt Ideal) (arg15.view.writes (Elt Ideal) arg15.view.junk (kernelRun0_C.sl.HS1_2 c i arg3 harg3 arg4 harg4 arg5 harg5 arg6 harg6 arg14 arg15 x0 x1 x2 x3)), arg16.view.read (Elt Ideal) (arg16.view.writes (Elt Ideal) arg16.view.junk (kernelRun0_C.sl.HS2_2 c i arg3 harg3 arg4 harg4 arg5 harg5 arg6 harg6 arg7 harg7 arg14 arg16 x0 x1 x2 x3 x4))⟩ : St) (σ1 (i 2).val x0 x1 x2 x3) (V x4) (tile (i 2).val) := by
  have hq : (i 2).val < 32 := (i 2).isLt
  have e10 : kernelRun0_C.sl.v10 = lanes := rfl
  unfold kernelRun0_C.sl.HS0_2 kernelRun0_C.sl.HS1_2 kernelRun0_C.sl.HS2_2
  rw [View.read_writes_full, View.read_writes_full, View.read_writes_full]
  simp only [kernelRun0_C.sl.r_6, kernelRun0_C.sl.r_5, kernelRun0_C.sl.r_4, kernelRun0_C.sl.r_3, kernelRun0_C.sl.r_2, kernelRun0_C.sl.r_1, kernelRun0_C.sl.v60, kernelRun0_C.sl.v72, kernelRun0_C.sl.v85, kernelRun0_C.sl.HS0_1, kernelRun0_C.sl.HS1_1, kernelRun0_C.sl.HS2_1, e10, load_cov, ldq, ldp]
  rw [diag1, ← Finset.empty_union (tile (i 2).val)]
  exact StInv.selDiag (start1 _ _) hq (Finset.disjoint_empty_left _)
    (fun j d => ld4 harg5 x2 (k0_off1 i) (k0_off1_inb i) _ hq (off1_eq i) rfl j d) (fun j d => ld2 harg6 x3 (k0_off2 i) (k0_off2_inb i) _ hq (off2_eq i) rfl j d)
    (fun j d => ld4 harg7 x4 (k0_off1 i) (k0_off1_inb i) _ hq (off1_eq i) rfl j d)

set_option maxHeartbeats 400000 in
/-- The selected branch after its loops, in case C. -/
theorem afterSelC (c : Dev nD) (i : grid0.Coords) (arg3 : Memref sig .tc .vmem S1x1x4x256x128 .bf16) (harg3 : arg3.IsWhole) (arg4 : Memref sig .tc .vmem S1x1x256x128 .bf16) (harg4 : arg4.IsWhole) (arg5 : Memref sig .tc .vmem S1x1x8192x128 .bf16) (harg5 : arg5.IsWhole) (arg6 : Memref sig .tc .vmem S8192x128 .bf16) (harg6 : arg6.IsWhole) (arg7 : Memref sig .tc .vmem S1x1x8192x128 .bf16) (harg7 : arg7.IsWhole) (arg8 : Memref sig .tc .vmem S1x1x8192x128 .bf16) (harg8 : arg8.IsWhole) (arg9 : Memref sig .tc .vmem S1x1x8192x128 .bf16) (harg9 : arg9.IsWhole) (arg10 : Memref sig .tc .vmem S1x1x4x256x128 .f32) (harg10 : arg10.IsWhole) (arg11 : Memref sig .tc .vmem S1x1x256x16 .f32) (harg11 : arg11.IsWhole) (arg12 : Memref sig .tc .vmem S1x1x16 .f32) (harg12 : arg12.IsWhole) (arg13 : Memref sig .tc .vmem S1x256x512 .bf16) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : cond0_1 i)
    (x0 : Vec Ideal S1x1x4x256x128 .bf16) (x1 : Vec Ideal S1x1x256x128 .bf16) (x2 : Vec Ideal S1x1x8192x128 .bf16) (x3 : Vec Ideal S8192x128 .bf16) (x4 : Vec Ideal S1x1x8192x128 .bf16) (x5 : Vec Ideal S1x1x8192x128 .bf16) (x6 : Vec Ideal S1x1x8192x128 .bf16) (x7 : Vec Ideal S1x1x4x256x128 .f32) (x8 : Vec Ideal S1x1x256x16 .f32) (x9 : Vec Ideal S1x1x16 .f32) : ∃ m, StInv (⟨m, (kernelRun0_C.sl.v180 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4), (kernelRun0_C.sl.v179 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4)⟩ : St) (σ1 (i 2).val x0 x1 x2 x3) (V x4) (tile (i 2).val ∪ Finset.univ.filter fun k => k.val / 256 < 2 * (k0_t1_loop i).trips) := by
  have e1 : (kernelRun0_C.sl.r_1 c arg3 harg3 arg4 harg4 x0 x1) = k0_pay80 x0 x1 := by
    unfold kernelRun0_C.sl.r_1
    rw [ldq, ldp]
  unfold kernelRun0_C.sl.v180 kernelRun0_C.sl.v179
  rw [t2_trips]
  simp only [pb_k0_t2.eq_1, List.nil_append, cov_read, View.writes_append, e1]
  exact ⟨_, loop1 Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 _ _ _ _ _ _ x0 x1 x2 x3 x4 _ _ _ (diagSelC c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9) _ (le_of_eq (t1_trips i))⟩

set_option maxHeartbeats 400000 in
/-- The selected branch at the end, in case C. -/
theorem selC (c : Dev nD) (i : grid0.Coords) (arg3 : Memref sig .tc .vmem S1x1x4x256x128 .bf16) (harg3 : arg3.IsWhole) (arg4 : Memref sig .tc .vmem S1x1x256x128 .bf16) (harg4 : arg4.IsWhole) (arg5 : Memref sig .tc .vmem S1x1x8192x128 .bf16) (harg5 : arg5.IsWhole) (arg6 : Memref sig .tc .vmem S8192x128 .bf16) (harg6 : arg6.IsWhole) (arg7 : Memref sig .tc .vmem S1x1x8192x128 .bf16) (harg7 : arg7.IsWhole) (arg8 : Memref sig .tc .vmem S1x1x8192x128 .bf16) (harg8 : arg8.IsWhole) (arg9 : Memref sig .tc .vmem S1x1x8192x128 .bf16) (harg9 : arg9.IsWhole) (arg10 : Memref sig .tc .vmem S1x1x4x256x128 .f32) (harg10 : arg10.IsWhole) (arg11 : Memref sig .tc .vmem S1x1x256x16 .f32) (harg11 : arg11.IsWhole) (arg12 : Memref sig .tc .vmem S1x1x16 .f32) (harg12 : arg12.IsWhole) (arg13 : Memref sig .tc .vmem S1x256x512 .bf16) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : cond0_1 i)
    (x0 : Vec Ideal S1x1x4x256x128 .bf16) (x1 : Vec Ideal S1x1x256x128 .bf16) (x2 : Vec Ideal S1x1x8192x128 .bf16) (x3 : Vec Ideal S8192x128 .bf16) (x4 : Vec Ideal S1x1x8192x128 .bf16) (x5 : Vec Ideal S1x1x8192x128 .bf16) (x6 : Vec Ideal S1x1x8192x128 .bf16) (x7 : Vec Ideal S1x1x4x256x128 .f32) (x8 : Vec Ideal S1x1x256x16 .f32) (x9 : Vec Ideal S1x1x16 .f32) : ∃ m K, StInv (⟨m, (kernelRun0_C.sl.v180 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4), (kernelRun0_C.sl.v179 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4)⟩ : St) (σ1 (i 2).val x0 x1 x2 x3) (V x4) K ∧ ∀ k ∉ K, (i 2).val < k.val / 256 := by
  have hq : (i 2).val < 32 := (i 2).isLt
  have ho : ¬ (i 2).val % 2 = 1 := fun h => hc0 ((cond_odd i).mpr h)
  have ht := t1_trips i
  obtain ⟨m, h⟩ := afterSelC c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9
  refine ⟨m, _, h, fun k hk => ?_⟩
  simp only [tile, Finset.mem_union, Finset.mem_filter, Finset.mem_univ, true_and] at hk
  omega

set_option maxHeartbeats 400000 in
/-- The window branch after the query tile, in case C. -/
theorem diagWinC (c : Dev nD) (i : grid0.Coords) (arg3 : Memref sig .tc .vmem S1x1x4x256x128 .bf16) (harg3 : arg3.IsWhole) (arg4 : Memref sig .tc .vmem S1x1x256x128 .bf16) (harg4 : arg4.IsWhole) (arg5 : Memref sig .tc .vmem S1x1x8192x128 .bf16) (harg5 : arg5.IsWhole) (arg6 : Memref sig .tc .vmem S8192x128 .bf16) (harg6 : arg6.IsWhole) (arg7 : Memref sig .tc .vmem S1x1x8192x128 .bf16) (harg7 : arg7.IsWhole) (arg8 : Memref sig .tc .vmem S1x1x8192x128 .bf16) (harg8 : arg8.IsWhole) (arg9 : Memref sig .tc .vmem S1x1x8192x128 .bf16) (harg9 : arg9.IsWhole) (arg10 : Memref sig .tc .vmem S1x1x4x256x128 .f32) (harg10 : arg10.IsWhole) (arg11 : Memref sig .tc .vmem S1x1x256x16 .f32) (harg11 : arg11.IsWhole) (arg12 : Memref sig .tc .vmem S1x1x16 .f32) (harg12 : arg12.IsWhole) (arg13 : Memref sig .tc .vmem S1x256x512 .bf16) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : cond0_1 i)
    (x0 : Vec Ideal S1x1x4x256x128 .bf16) (x1 : Vec Ideal S1x1x256x128 .bf16) (x2 : Vec Ideal S1x1x8192x128 .bf16) (x3 : Vec Ideal S8192x128 .bf16) (x4 : Vec Ideal S1x1x8192x128 .bf16) (x5 : Vec Ideal S1x1x8192x128 .bf16) (x6 : Vec Ideal S1x1x8192x128 .bf16) (x7 : Vec Ideal S1x1x4x256x128 .f32) (x8 : Vec Ideal S1x1x256x16 .f32) (x9 : Vec Ideal S1x1x16 .f32) : StInv (⟨arg17.view.read (Elt Ideal) (arg17.view.writes (Elt Ideal) arg17.view.junk ((⟨Rect.unit (s := S1024x128) ![0, 0] S1024x128.size inb_S1024x128_S1024x128_0_0, k0_pay125 (kernelRun0_C.sl.r_8 c i arg3 harg3 arg8 harg8 arg17 x0 x5)⟩ : View.Piece (Elt Ideal) S1024x128 .f32) :: (kernelRun0_C.sl.HS3_1 ))), arg18.view.read (Elt Ideal) (arg18.view.writes (Elt Ideal) arg18.view.junk ((⟨Rect.unit (s := S1024x128) ![0, 0] S1024x128.size inb_S1024x128_S1024x128_0_0, k0_pay123 (kernelRun0_C.sl.r_12 c i arg3 harg3 arg8 harg8 arg17 arg18 x0 x5) (kernelRun0_C.sl.r_13 c i arg3 harg3 arg8 harg8 arg17 x0 x5)⟩ : View.Piece (Elt Ideal) S1024x128 .f32) :: (kernelRun0_C.sl.HS4_1 ))), arg19.view.read (Elt Ideal) (arg19.view.writes (Elt Ideal) arg19.view.junk ((⟨Rect.unit (s := S1024x128) ![0, 0] S1024x128.size inb_S1024x128_S1024x128_0_0, k0_pay124 (kernelRun0_C.sl.r_7 c i arg9 harg9 x6) (kernelRun0_C.sl.r_9 c i arg3 harg3 arg8 harg8 arg17 x0 x5) (kernelRun0_C.sl.r_10 c i arg3 harg3 arg8 harg8 arg17 x0 x5) (kernelRun0_C.sl.r_11 c i arg3 harg3 arg8 harg8 arg17 x0 x5) (kernelRun0_C.sl.v151 c arg19)⟩ : View.Piece (Elt Ideal) S1024x128 .f32) :: (kernelRun0_C.sl.HS5_1 )))⟩ : St) (σ2 (i 2).val x0 x5) (V x6) (tile (i 2).val) := by
  have hq : (i 2).val < 32 := (i 2).isLt
  have e10 : kernelRun0_C.sl.v10 = lanes := rfl
  rw [View.read_writes_full, View.read_writes_full, View.read_writes_full]
  simp only [kernelRun0_C.sl.r_13, kernelRun0_C.sl.r_12, kernelRun0_C.sl.r_11, kernelRun0_C.sl.r_10, kernelRun0_C.sl.r_9, kernelRun0_C.sl.r_8, kernelRun0_C.sl.r_7, kernelRun0_C.sl.r, kernelRun0_C.sl.v126, kernelRun0_C.sl.v138, kernelRun0_C.sl.v151, kernelRun0_C.sl.HS3_1, kernelRun0_C.sl.HS4_1, kernelRun0_C.sl.HS5_1, e10, load_cov, ldq, ldp]
  rw [diag2, ← Finset.empty_union (tile (i 2).val)]
  exact StInv.winDiag (start2 _ _) hq (Finset.disjoint_empty_left _)
    (fun j d => ld4 harg8 x5 (k0_off1 i) (k0_off1_inb i) _ hq (off1_eq i) rfl j d)
    (fun j d => ld4 harg9 x6 (k0_off1 i) (k0_off1_inb i) _ hq (off1_eq i) rfl j d)

set_option maxHeartbeats 400000 in
/-- The window branch after its loops, in case C. -/
theorem afterWinC (c : Dev nD) (i : grid0.Coords) (arg3 : Memref sig .tc .vmem S1x1x4x256x128 .bf16) (harg3 : arg3.IsWhole) (arg4 : Memref sig .tc .vmem S1x1x256x128 .bf16) (harg4 : arg4.IsWhole) (arg5 : Memref sig .tc .vmem S1x1x8192x128 .bf16) (harg5 : arg5.IsWhole) (arg6 : Memref sig .tc .vmem S8192x128 .bf16) (harg6 : arg6.IsWhole) (arg7 : Memref sig .tc .vmem S1x1x8192x128 .bf16) (harg7 : arg7.IsWhole) (arg8 : Memref sig .tc .vmem S1x1x8192x128 .bf16) (harg8 : arg8.IsWhole) (arg9 : Memref sig .tc .vmem S1x1x8192x128 .bf16) (harg9 : arg9.IsWhole) (arg10 : Memref sig .tc .vmem S1x1x4x256x128 .f32) (harg10 : arg10.IsWhole) (arg11 : Memref sig .tc .vmem S1x1x256x16 .f32) (harg11 : arg11.IsWhole) (arg12 : Memref sig .tc .vmem S1x1x16 .f32) (harg12 : arg12.IsWhole) (arg13 : Memref sig .tc .vmem S1x256x512 .bf16) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : cond0_1 i)
    (x0 : Vec Ideal S1x1x4x256x128 .bf16) (x1 : Vec Ideal S1x1x256x128 .bf16) (x2 : Vec Ideal S1x1x8192x128 .bf16) (x3 : Vec Ideal S8192x128 .bf16) (x4 : Vec Ideal S1x1x8192x128 .bf16) (x5 : Vec Ideal S1x1x8192x128 .bf16) (x6 : Vec Ideal S1x1x8192x128 .bf16) (x7 : Vec Ideal S1x1x4x256x128 .f32) (x8 : Vec Ideal S1x1x256x16 .f32) (x9 : Vec Ideal S1x1x16 .f32) : StInv (⟨(kernelRun0_C.sl.v283 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x5 x6), (kernelRun0_C.sl.v295 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x5 x6), (kernelRun0_C.sl.v308 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x5 x6)⟩ : St) (σ2 (i 2).val x0 x5) (V x6) (tile (i 2).val ∪ Finset.univ.filter fun k => k.val / 256 + 1 = (i 2).val) := by
  have e1 : (kernelRun0_C.sl.r c arg3 harg3 x0) = k0_pay79 x0 := by
    unfold kernelRun0_C.sl.r
    rw [ldq]
  unfold kernelRun0_C.sl.v283 kernelRun0_C.sl.v295 kernelRun0_C.sl.v308
  rw [t4_trips]
  simp only [pb_k0_t4.eq_1, List.nil_append, cov_read, View.writes_append, e1]
  exact loop3 Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 _ _ _ _ _ _ _ _ _ _ _ x0 x5 x6 _ _ _ (diagWinC c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9)

set_option maxHeartbeats 400000 in
/-- The window branch at the end, in case C. -/
theorem winC (c : Dev nD) (i : grid0.Coords) (arg3 : Memref sig .tc .vmem S1x1x4x256x128 .bf16) (harg3 : arg3.IsWhole) (arg4 : Memref sig .tc .vmem S1x1x256x128 .bf16) (harg4 : arg4.IsWhole) (arg5 : Memref sig .tc .vmem S1x1x8192x128 .bf16) (harg5 : arg5.IsWhole) (arg6 : Memref sig .tc .vmem S8192x128 .bf16) (harg6 : arg6.IsWhole) (arg7 : Memref sig .tc .vmem S1x1x8192x128 .bf16) (harg7 : arg7.IsWhole) (arg8 : Memref sig .tc .vmem S1x1x8192x128 .bf16) (harg8 : arg8.IsWhole) (arg9 : Memref sig .tc .vmem S1x1x8192x128 .bf16) (harg9 : arg9.IsWhole) (arg10 : Memref sig .tc .vmem S1x1x4x256x128 .f32) (harg10 : arg10.IsWhole) (arg11 : Memref sig .tc .vmem S1x1x256x16 .f32) (harg11 : arg11.IsWhole) (arg12 : Memref sig .tc .vmem S1x1x16 .f32) (harg12 : arg12.IsWhole) (arg13 : Memref sig .tc .vmem S1x256x512 .bf16) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : cond0_1 i)
    (x0 : Vec Ideal S1x1x4x256x128 .bf16) (x1 : Vec Ideal S1x1x256x128 .bf16) (x2 : Vec Ideal S1x1x8192x128 .bf16) (x3 : Vec Ideal S8192x128 .bf16) (x4 : Vec Ideal S1x1x8192x128 .bf16) (x5 : Vec Ideal S1x1x8192x128 .bf16) (x6 : Vec Ideal S1x1x8192x128 .bf16) (x7 : Vec Ideal S1x1x4x256x128 .f32) (x8 : Vec Ideal S1x1x256x16 .f32) (x9 : Vec Ideal S1x1x16 .f32) : ∃ m K, StInv (⟨m, (kernelRun0_C.sl.v183 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 x0 x5 x6), (kernelRun0_C.sl.v182 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 x0 x5 x6)⟩ : St) (σ2 (i 2).val x0 x5) (V x6) K ∧ ∀ k ∉ K, (i 2).val < k.val / 256 ∨ k.val / 256 + 2 < (i 2).val := by
  have hq : (i 2).val < 32 := (i 2).isLt
  have ho := (cond_old i).mp hc1
  have e1 : (kernelRun0_C.sl.r c arg3 harg3 x0) = k0_pay79 x0 := by
    unfold kernelRun0_C.sl.r
    rw [ldq]
  have e10 : kernelRun0_C.sl.v10 = lanes := rfl
  have h := afterWinC c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9
  refine ⟨k0_pay74 (kernelRun0_C.sl.r c arg3 harg3 x0) k0_pay81 (kernelRun0_C.sl.v10 ) (arg8.view.readAt (Elt Ideal) (Rect.unit (s := S1x1x8192x128) (k0_off15 i) S1x1x256x128.size (k0_off15_inb i hc1)).toLoadRect (harg8.unread x5)) (kernelRun0_C.sl.v283 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x5 x6), (tile (i 2).val ∪ Finset.univ.filter fun k => k.val / 256 + 1 = (i 2).val) ∪ tile ((i 2).val - 2), ?_, fun k hk => ?_⟩
  · unfold kernelRun0_C.sl.v183 kernelRun0_C.sl.v182 kernelRun0_C.sl.HS4_1_1 kernelRun0_C.sl.HS5_1_1
    rw [load_cov, load_cov]
    unfold kernelRun0_C.sl.r_14 kernelRun0_C.sl.r_16 kernelRun0_C.sl.r_17 kernelRun0_C.sl.r_18 kernelRun0_C.sl.r_19
    rw [old2, e1, e10]
    refine StInv.winOld h hq ((i 2).val - 2) (by omega) ?_ (fun j d => ld4 harg8 x5 (k0_off15 i) (k0_off15_inb i hc1) _ (by omega) (off15_eq i ho) rfl j d)
      (fun j d => ld4 harg9 x6 (k0_off15 i) (k0_off15_inb i hc1) _ (by omega) (off15_eq i ho) rfl j d)
    rw [Finset.disjoint_left]
    intro k h1 h2
    simp only [tile, Finset.mem_union, Finset.mem_filter, Finset.mem_univ, true_and] at h1 h2
    omega
  · simp only [tile, Finset.mem_union, Finset.mem_filter, Finset.mem_univ, true_and] at hk
    omega

set_option maxHeartbeats 400000 in
/-- The selected branch after the query tile, in case D. -/
theorem diagSelD (c : Dev nD) (i : grid0.Coords) (arg3 : Memref sig .tc .vmem S1x1x4x256x128 .bf16) (harg3 : arg3.IsWhole) (arg4 : Memref sig .tc .vmem S1x1x256x128 .bf16) (harg4 : arg4.IsWhole) (arg5 : Memref sig .tc .vmem S1x1x8192x128 .bf16) (harg5 : arg5.IsWhole) (arg6 : Memref sig .tc .vmem S8192x128 .bf16) (harg6 : arg6.IsWhole) (arg7 : Memref sig .tc .vmem S1x1x8192x128 .bf16) (harg7 : arg7.IsWhole) (arg8 : Memref sig .tc .vmem S1x1x8192x128 .bf16) (harg8 : arg8.IsWhole) (arg9 : Memref sig .tc .vmem S1x1x8192x128 .bf16) (harg9 : arg9.IsWhole) (arg10 : Memref sig .tc .vmem S1x1x4x256x128 .f32) (harg10 : arg10.IsWhole) (arg11 : Memref sig .tc .vmem S1x1x256x16 .f32) (harg11 : arg11.IsWhole) (arg12 : Memref sig .tc .vmem S1x1x16 .f32) (harg12 : arg12.IsWhole) (arg13 : Memref sig .tc .vmem S1x256x512 .bf16) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : cond0_0 i) (hc1 : cond0_1 i)
    (x0 : Vec Ideal S1x1x4x256x128 .bf16) (x1 : Vec Ideal S1x1x256x128 .bf16) (x2 : Vec Ideal S1x1x8192x128 .bf16) (x3 : Vec Ideal S8192x128 .bf16) (x4 : Vec Ideal S1x1x8192x128 .bf16) (x5 : Vec Ideal S1x1x8192x128 .bf16) (x6 : Vec Ideal S1x1x8192x128 .bf16) (x7 : Vec Ideal S1x1x4x256x128 .f32) (x8 : Vec Ideal S1x1x256x16 .f32) (x9 : Vec Ideal S1x1x16 .f32) : StInv (⟨arg14.view.read (Elt Ideal) (arg14.view.writes (Elt Ideal) arg14.view.junk (kernelRun0_D.sl.HS0_2 c i arg3 harg3 arg4 harg4 arg5 harg5 arg6 harg6 arg14 x0 x1 x2 x3)), arg15.view.read (Elt Ideal) (arg15.view.writes (Elt Ideal) arg15.view.junk (kernelRun0_D.sl.HS1_2 c i arg3 harg3 arg4 harg4 arg5 harg5 arg6 harg6 arg14 arg15 x0 x1 x2 x3)), arg16.view.read (Elt Ideal) (arg16.view.writes (Elt Ideal) arg16.view.junk (kernelRun0_D.sl.HS2_2 c i arg3 harg3 arg4 harg4 arg5 harg5 arg6 harg6 arg7 harg7 arg14 arg16 x0 x1 x2 x3 x4))⟩ : St) (σ1 (i 2).val x0 x1 x2 x3) (V x4) (tile (i 2).val) := by
  have hq : (i 2).val < 32 := (i 2).isLt
  have e10 : kernelRun0_D.sl.v10 = lanes := rfl
  unfold kernelRun0_D.sl.HS0_2 kernelRun0_D.sl.HS1_2 kernelRun0_D.sl.HS2_2
  rw [View.read_writes_full, View.read_writes_full, View.read_writes_full]
  simp only [kernelRun0_D.sl.r_6, kernelRun0_D.sl.r_5, kernelRun0_D.sl.r_4, kernelRun0_D.sl.r_3, kernelRun0_D.sl.r_2, kernelRun0_D.sl.r_1, kernelRun0_D.sl.v60, kernelRun0_D.sl.v72, kernelRun0_D.sl.v85, kernelRun0_D.sl.HS0_1, kernelRun0_D.sl.HS1_1, kernelRun0_D.sl.HS2_1, e10, load_cov, ldq, ldp]
  rw [diag1, ← Finset.empty_union (tile (i 2).val)]
  exact StInv.selDiag (start1 _ _) hq (Finset.disjoint_empty_left _)
    (fun j d => ld4 harg5 x2 (k0_off1 i) (k0_off1_inb i) _ hq (off1_eq i) rfl j d) (fun j d => ld2 harg6 x3 (k0_off2 i) (k0_off2_inb i) _ hq (off2_eq i) rfl j d)
    (fun j d => ld4 harg7 x4 (k0_off1 i) (k0_off1_inb i) _ hq (off1_eq i) rfl j d)

set_option maxHeartbeats 400000 in
/-- The selected branch after its loops, in case D. -/
theorem afterSelD (c : Dev nD) (i : grid0.Coords) (arg3 : Memref sig .tc .vmem S1x1x4x256x128 .bf16) (harg3 : arg3.IsWhole) (arg4 : Memref sig .tc .vmem S1x1x256x128 .bf16) (harg4 : arg4.IsWhole) (arg5 : Memref sig .tc .vmem S1x1x8192x128 .bf16) (harg5 : arg5.IsWhole) (arg6 : Memref sig .tc .vmem S8192x128 .bf16) (harg6 : arg6.IsWhole) (arg7 : Memref sig .tc .vmem S1x1x8192x128 .bf16) (harg7 : arg7.IsWhole) (arg8 : Memref sig .tc .vmem S1x1x8192x128 .bf16) (harg8 : arg8.IsWhole) (arg9 : Memref sig .tc .vmem S1x1x8192x128 .bf16) (harg9 : arg9.IsWhole) (arg10 : Memref sig .tc .vmem S1x1x4x256x128 .f32) (harg10 : arg10.IsWhole) (arg11 : Memref sig .tc .vmem S1x1x256x16 .f32) (harg11 : arg11.IsWhole) (arg12 : Memref sig .tc .vmem S1x1x16 .f32) (harg12 : arg12.IsWhole) (arg13 : Memref sig .tc .vmem S1x256x512 .bf16) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : cond0_0 i) (hc1 : cond0_1 i)
    (x0 : Vec Ideal S1x1x4x256x128 .bf16) (x1 : Vec Ideal S1x1x256x128 .bf16) (x2 : Vec Ideal S1x1x8192x128 .bf16) (x3 : Vec Ideal S8192x128 .bf16) (x4 : Vec Ideal S1x1x8192x128 .bf16) (x5 : Vec Ideal S1x1x8192x128 .bf16) (x6 : Vec Ideal S1x1x8192x128 .bf16) (x7 : Vec Ideal S1x1x4x256x128 .f32) (x8 : Vec Ideal S1x1x256x16 .f32) (x9 : Vec Ideal S1x1x16 .f32) : StInv (⟨(kernelRun0_D.sl.v277 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4), (kernelRun0_D.sl.v289 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4), (kernelRun0_D.sl.v302 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4)⟩ : St) (σ1 (i 2).val x0 x1 x2 x3) (V x4) (tile (i 2).val ∪ Finset.univ.filter fun k => k.val / 256 < 2 * (k0_t1_loop i).trips) := by
  have e1 : (kernelRun0_D.sl.r_1 c arg3 harg3 arg4 harg4 x0 x1) = k0_pay80 x0 x1 := by
    unfold kernelRun0_D.sl.r_1
    rw [ldq, ldp]
  unfold kernelRun0_D.sl.v277 kernelRun0_D.sl.v289 kernelRun0_D.sl.v302
  rw [t2_trips]
  simp only [pb_k0_t2.eq_1, List.nil_append, cov_read, View.writes_append, e1]
  exact loop1 Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 _ _ _ _ _ _ x0 x1 x2 x3 x4 _ _ _ (diagSelD c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9) _ (le_of_eq (t1_trips i))

set_option maxHeartbeats 400000 in
/-- The selected branch at the end, in case D. -/
theorem selD (c : Dev nD) (i : grid0.Coords) (arg3 : Memref sig .tc .vmem S1x1x4x256x128 .bf16) (harg3 : arg3.IsWhole) (arg4 : Memref sig .tc .vmem S1x1x256x128 .bf16) (harg4 : arg4.IsWhole) (arg5 : Memref sig .tc .vmem S1x1x8192x128 .bf16) (harg5 : arg5.IsWhole) (arg6 : Memref sig .tc .vmem S8192x128 .bf16) (harg6 : arg6.IsWhole) (arg7 : Memref sig .tc .vmem S1x1x8192x128 .bf16) (harg7 : arg7.IsWhole) (arg8 : Memref sig .tc .vmem S1x1x8192x128 .bf16) (harg8 : arg8.IsWhole) (arg9 : Memref sig .tc .vmem S1x1x8192x128 .bf16) (harg9 : arg9.IsWhole) (arg10 : Memref sig .tc .vmem S1x1x4x256x128 .f32) (harg10 : arg10.IsWhole) (arg11 : Memref sig .tc .vmem S1x1x256x16 .f32) (harg11 : arg11.IsWhole) (arg12 : Memref sig .tc .vmem S1x1x16 .f32) (harg12 : arg12.IsWhole) (arg13 : Memref sig .tc .vmem S1x256x512 .bf16) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : cond0_0 i) (hc1 : cond0_1 i)
    (x0 : Vec Ideal S1x1x4x256x128 .bf16) (x1 : Vec Ideal S1x1x256x128 .bf16) (x2 : Vec Ideal S1x1x8192x128 .bf16) (x3 : Vec Ideal S8192x128 .bf16) (x4 : Vec Ideal S1x1x8192x128 .bf16) (x5 : Vec Ideal S1x1x8192x128 .bf16) (x6 : Vec Ideal S1x1x8192x128 .bf16) (x7 : Vec Ideal S1x1x4x256x128 .f32) (x8 : Vec Ideal S1x1x256x16 .f32) (x9 : Vec Ideal S1x1x16 .f32) : ∃ m K, StInv (⟨m, (kernelRun0_D.sl.v180 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4), (kernelRun0_D.sl.v179 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4)⟩ : St) (σ1 (i 2).val x0 x1 x2 x3) (V x4) K ∧ ∀ k ∉ K, (i 2).val < k.val / 256 := by
  have hq : (i 2).val < 32 := (i 2).isLt
  have ho := (cond_odd i).mp hc0
  have ht := t1_trips i
  have e1 : (kernelRun0_D.sl.r_1 c arg3 harg3 arg4 harg4 x0 x1) = k0_pay80 x0 x1 := by
    unfold kernelRun0_D.sl.r_1
    rw [ldq, ldp]
  have h := afterSelD c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9
  have e : (⟨(kernelRun0_D.sl.v282 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4), (kernelRun0_D.sl.v180 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4), (kernelRun0_D.sl.v179 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4)⟩ : St) = St.sel ⟨(kernelRun0_D.sl.v277 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4), (kernelRun0_D.sl.v289 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4), (kernelRun0_D.sl.v302 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4)⟩ (kernelRun0_D.sl.r_1 c arg3 harg3 arg4 harg4 x0 x1) (arg5.view.readAt (Elt Ideal) (Rect.unit (s := S1x1x8192x128) (k0_off11 i) S1x1x256x128.size (k0_off11_inb i hc0)).toLoadRect (harg5.unread x2)) (arg6.view.readAt (Elt Ideal) (Rect.unit (s := S8192x128) (k0_off12 i) S256x128.size (k0_off12_inb i hc0)).toLoadRect (harg6.unread x3)) (arg7.view.readAt (Elt Ideal) (Rect.unit (s := S1x1x8192x128) (k0_off11 i) S1x1x256x128.size (k0_off11_inb i hc0)).toLoadRect (harg7.unread x4)) := by
    unfold kernelRun0_D.sl.v180 kernelRun0_D.sl.v179
    rw [load_cov, load_cov]
    unfold kernelRun0_D.sl.v298 k0_pay111
    dsimp only
    rw [shapeCast_self, shapeCast_self]
    rfl
  refine ⟨(kernelRun0_D.sl.v282 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4), (tile (i 2).val ∪ Finset.univ.filter fun k => k.val / 256 < 2 * (k0_t1_loop i).trips) ∪ tile ((i 2).val - 1), ?_, fun k hk => ?_⟩
  · rw [e, e1]
    refine StInv.sel h hq ((i 2).val - 1) (by omega) ?_ (fun j d => ld4 harg5 x2 (k0_off11 i) (k0_off11_inb i hc0) _ (by omega) (off11_eq i (by omega)) rfl j d)
      (fun j d => ld2 harg6 x3 (k0_off12 i) (k0_off12_inb i hc0) _ (by omega) (off12_eq i (by omega)) rfl j d)
      (fun j d => ld4 harg7 x4 (k0_off11 i) (k0_off11_inb i hc0) _ (by omega) (off11_eq i (by omega)) rfl j d)
    rw [Finset.disjoint_left]
    intro k h1 h2
    simp only [tile, Finset.mem_union, Finset.mem_filter, Finset.mem_univ, true_and] at h1 h2
    omega
  · simp only [tile, Finset.mem_union, Finset.mem_filter, Finset.mem_univ, true_and] at hk
    omega

set_option maxHeartbeats 400000 in
/-- The window branch after the query tile, in case D. -/
theorem diagWinD (c : Dev nD) (i : grid0.Coords) (arg3 : Memref sig .tc .vmem S1x1x4x256x128 .bf16) (harg3 : arg3.IsWhole) (arg4 : Memref sig .tc .vmem S1x1x256x128 .bf16) (harg4 : arg4.IsWhole) (arg5 : Memref sig .tc .vmem S1x1x8192x128 .bf16) (harg5 : arg5.IsWhole) (arg6 : Memref sig .tc .vmem S8192x128 .bf16) (harg6 : arg6.IsWhole) (arg7 : Memref sig .tc .vmem S1x1x8192x128 .bf16) (harg7 : arg7.IsWhole) (arg8 : Memref sig .tc .vmem S1x1x8192x128 .bf16) (harg8 : arg8.IsWhole) (arg9 : Memref sig .tc .vmem S1x1x8192x128 .bf16) (harg9 : arg9.IsWhole) (arg10 : Memref sig .tc .vmem S1x1x4x256x128 .f32) (harg10 : arg10.IsWhole) (arg11 : Memref sig .tc .vmem S1x1x256x16 .f32) (harg11 : arg11.IsWhole) (arg12 : Memref sig .tc .vmem S1x1x16 .f32) (harg12 : arg12.IsWhole) (arg13 : Memref sig .tc .vmem S1x256x512 .bf16) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : cond0_0 i) (hc1 : cond0_1 i)
    (x0 : Vec Ideal S1x1x4x256x128 .bf16) (x1 : Vec Ideal S1x1x256x128 .bf16) (x2 : Vec Ideal S1x1x8192x128 .bf16) (x3 : Vec Ideal S8192x128 .bf16) (x4 : Vec Ideal S1x1x8192x128 .bf16) (x5 : Vec Ideal S1x1x8192x128 .bf16) (x6 : Vec Ideal S1x1x8192x128 .bf16) (x7 : Vec Ideal S1x1x4x256x128 .f32) (x8 : Vec Ideal S1x1x256x16 .f32) (x9 : Vec Ideal S1x1x16 .f32) : StInv (⟨arg17.view.read (Elt Ideal) (arg17.view.writes (Elt Ideal) arg17.view.junk ((⟨Rect.unit (s := S1024x128) ![0, 0] S1024x128.size inb_S1024x128_S1024x128_0_0, k0_pay125 (kernelRun0_D.sl.r_8 c i arg3 harg3 arg8 harg8 arg17 x0 x5)⟩ : View.Piece (Elt Ideal) S1024x128 .f32) :: (kernelRun0_D.sl.HS3_1 ))), arg18.view.read (Elt Ideal) (arg18.view.writes (Elt Ideal) arg18.view.junk ((⟨Rect.unit (s := S1024x128) ![0, 0] S1024x128.size inb_S1024x128_S1024x128_0_0, k0_pay123 (kernelRun0_D.sl.r_12 c i arg3 harg3 arg8 harg8 arg17 arg18 x0 x5) (kernelRun0_D.sl.r_13 c i arg3 harg3 arg8 harg8 arg17 x0 x5)⟩ : View.Piece (Elt Ideal) S1024x128 .f32) :: (kernelRun0_D.sl.HS4_1 ))), arg19.view.read (Elt Ideal) (arg19.view.writes (Elt Ideal) arg19.view.junk ((⟨Rect.unit (s := S1024x128) ![0, 0] S1024x128.size inb_S1024x128_S1024x128_0_0, k0_pay124 (kernelRun0_D.sl.r_7 c i arg9 harg9 x6) (kernelRun0_D.sl.r_9 c i arg3 harg3 arg8 harg8 arg17 x0 x5) (kernelRun0_D.sl.r_10 c i arg3 harg3 arg8 harg8 arg17 x0 x5) (kernelRun0_D.sl.r_11 c i arg3 harg3 arg8 harg8 arg17 x0 x5) (kernelRun0_D.sl.v151 c arg19)⟩ : View.Piece (Elt Ideal) S1024x128 .f32) :: (kernelRun0_D.sl.HS5_1 )))⟩ : St) (σ2 (i 2).val x0 x5) (V x6) (tile (i 2).val) := by
  have hq : (i 2).val < 32 := (i 2).isLt
  have e10 : kernelRun0_D.sl.v10 = lanes := rfl
  rw [View.read_writes_full, View.read_writes_full, View.read_writes_full]
  simp only [kernelRun0_D.sl.r_13, kernelRun0_D.sl.r_12, kernelRun0_D.sl.r_11, kernelRun0_D.sl.r_10, kernelRun0_D.sl.r_9, kernelRun0_D.sl.r_8, kernelRun0_D.sl.r_7, kernelRun0_D.sl.r, kernelRun0_D.sl.v126, kernelRun0_D.sl.v138, kernelRun0_D.sl.v151, kernelRun0_D.sl.HS3_1, kernelRun0_D.sl.HS4_1, kernelRun0_D.sl.HS5_1, e10, load_cov, ldq, ldp]
  rw [diag2, ← Finset.empty_union (tile (i 2).val)]
  exact StInv.winDiag (start2 _ _) hq (Finset.disjoint_empty_left _)
    (fun j d => ld4 harg8 x5 (k0_off1 i) (k0_off1_inb i) _ hq (off1_eq i) rfl j d)
    (fun j d => ld4 harg9 x6 (k0_off1 i) (k0_off1_inb i) _ hq (off1_eq i) rfl j d)

set_option maxHeartbeats 400000 in
/-- The window branch after its loops, in case D. -/
theorem afterWinD (c : Dev nD) (i : grid0.Coords) (arg3 : Memref sig .tc .vmem S1x1x4x256x128 .bf16) (harg3 : arg3.IsWhole) (arg4 : Memref sig .tc .vmem S1x1x256x128 .bf16) (harg4 : arg4.IsWhole) (arg5 : Memref sig .tc .vmem S1x1x8192x128 .bf16) (harg5 : arg5.IsWhole) (arg6 : Memref sig .tc .vmem S8192x128 .bf16) (harg6 : arg6.IsWhole) (arg7 : Memref sig .tc .vmem S1x1x8192x128 .bf16) (harg7 : arg7.IsWhole) (arg8 : Memref sig .tc .vmem S1x1x8192x128 .bf16) (harg8 : arg8.IsWhole) (arg9 : Memref sig .tc .vmem S1x1x8192x128 .bf16) (harg9 : arg9.IsWhole) (arg10 : Memref sig .tc .vmem S1x1x4x256x128 .f32) (harg10 : arg10.IsWhole) (arg11 : Memref sig .tc .vmem S1x1x256x16 .f32) (harg11 : arg11.IsWhole) (arg12 : Memref sig .tc .vmem S1x1x16 .f32) (harg12 : arg12.IsWhole) (arg13 : Memref sig .tc .vmem S1x256x512 .bf16) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : cond0_0 i) (hc1 : cond0_1 i)
    (x0 : Vec Ideal S1x1x4x256x128 .bf16) (x1 : Vec Ideal S1x1x256x128 .bf16) (x2 : Vec Ideal S1x1x8192x128 .bf16) (x3 : Vec Ideal S8192x128 .bf16) (x4 : Vec Ideal S1x1x8192x128 .bf16) (x5 : Vec Ideal S1x1x8192x128 .bf16) (x6 : Vec Ideal S1x1x8192x128 .bf16) (x7 : Vec Ideal S1x1x4x256x128 .f32) (x8 : Vec Ideal S1x1x256x16 .f32) (x9 : Vec Ideal S1x1x16 .f32) : StInv (⟨(kernelRun0_D.sl.v283_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x5 x6), (kernelRun0_D.sl.v295_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x5 x6), (kernelRun0_D.sl.v308 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x5 x6)⟩ : St) (σ2 (i 2).val x0 x5) (V x6) (tile (i 2).val ∪ Finset.univ.filter fun k => k.val / 256 + 1 = (i 2).val) := by
  have e1 : (kernelRun0_D.sl.r c arg3 harg3 x0) = k0_pay79 x0 := by
    unfold kernelRun0_D.sl.r
    rw [ldq]
  unfold kernelRun0_D.sl.v283_1 kernelRun0_D.sl.v295_1 kernelRun0_D.sl.v308
  rw [t4_trips]
  simp only [pb_k0_t4.eq_1, List.nil_append, cov_read, View.writes_append, e1]
  exact loop3 Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 _ _ _ _ _ _ _ _ _ _ _ x0 x5 x6 _ _ _ (diagWinD c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9)

set_option maxHeartbeats 400000 in
/-- The window branch at the end, in case D. -/
theorem winD (c : Dev nD) (i : grid0.Coords) (arg3 : Memref sig .tc .vmem S1x1x4x256x128 .bf16) (harg3 : arg3.IsWhole) (arg4 : Memref sig .tc .vmem S1x1x256x128 .bf16) (harg4 : arg4.IsWhole) (arg5 : Memref sig .tc .vmem S1x1x8192x128 .bf16) (harg5 : arg5.IsWhole) (arg6 : Memref sig .tc .vmem S8192x128 .bf16) (harg6 : arg6.IsWhole) (arg7 : Memref sig .tc .vmem S1x1x8192x128 .bf16) (harg7 : arg7.IsWhole) (arg8 : Memref sig .tc .vmem S1x1x8192x128 .bf16) (harg8 : arg8.IsWhole) (arg9 : Memref sig .tc .vmem S1x1x8192x128 .bf16) (harg9 : arg9.IsWhole) (arg10 : Memref sig .tc .vmem S1x1x4x256x128 .f32) (harg10 : arg10.IsWhole) (arg11 : Memref sig .tc .vmem S1x1x256x16 .f32) (harg11 : arg11.IsWhole) (arg12 : Memref sig .tc .vmem S1x1x16 .f32) (harg12 : arg12.IsWhole) (arg13 : Memref sig .tc .vmem S1x256x512 .bf16) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : cond0_0 i) (hc1 : cond0_1 i)
    (x0 : Vec Ideal S1x1x4x256x128 .bf16) (x1 : Vec Ideal S1x1x256x128 .bf16) (x2 : Vec Ideal S1x1x8192x128 .bf16) (x3 : Vec Ideal S8192x128 .bf16) (x4 : Vec Ideal S1x1x8192x128 .bf16) (x5 : Vec Ideal S1x1x8192x128 .bf16) (x6 : Vec Ideal S1x1x8192x128 .bf16) (x7 : Vec Ideal S1x1x4x256x128 .f32) (x8 : Vec Ideal S1x1x256x16 .f32) (x9 : Vec Ideal S1x1x16 .f32) : ∃ m K, StInv (⟨m, (kernelRun0_D.sl.v183 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 x0 x5 x6), (kernelRun0_D.sl.v182 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 x0 x5 x6)⟩ : St) (σ2 (i 2).val x0 x5) (V x6) K ∧ ∀ k ∉ K, (i 2).val < k.val / 256 ∨ k.val / 256 + 2 < (i 2).val := by
  have hq : (i 2).val < 32 := (i 2).isLt
  have ho := (cond_old i).mp hc1
  have e1 : (kernelRun0_D.sl.r c arg3 harg3 x0) = k0_pay79 x0 := by
    unfold kernelRun0_D.sl.r
    rw [ldq]
  have e10 : kernelRun0_D.sl.v10 = lanes := rfl
  have h := afterWinD c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9
  refine ⟨k0_pay74 (kernelRun0_D.sl.r c arg3 harg3 x0) k0_pay81 (kernelRun0_D.sl.v10 ) (arg8.view.readAt (Elt Ideal) (Rect.unit (s := S1x1x8192x128) (k0_off15 i) S1x1x256x128.size (k0_off15_inb i hc1)).toLoadRect (harg8.unread x5)) (kernelRun0_D.sl.v283_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x5 x6), (tile (i 2).val ∪ Finset.univ.filter fun k => k.val / 256 + 1 = (i 2).val) ∪ tile ((i 2).val - 2), ?_, fun k hk => ?_⟩
  · unfold kernelRun0_D.sl.v183 kernelRun0_D.sl.v182 kernelRun0_D.sl.HS4_1_1 kernelRun0_D.sl.HS5_1_1
    rw [load_cov, load_cov]
    unfold kernelRun0_D.sl.r_14 kernelRun0_D.sl.r_16 kernelRun0_D.sl.r_17 kernelRun0_D.sl.r_18 kernelRun0_D.sl.r_19
    rw [old2, e1, e10]
    refine StInv.winOld h hq ((i 2).val - 2) (by omega) ?_ (fun j d => ld4 harg8 x5 (k0_off15 i) (k0_off15_inb i hc1) _ (by omega) (off15_eq i ho) rfl j d)
      (fun j d => ld4 harg9 x6 (k0_off15 i) (k0_off15_inb i hc1) _ (by omega) (off15_eq i ho) rfl j d)
    rw [Finset.disjoint_left]
    intro k h1 h2
    simp only [tile, Finset.mem_union, Finset.mem_filter, Finset.mem_univ, true_and] at h1 h2
    omega
  · simp only [tile, Finset.mem_union, Finset.mem_filter, Finset.mem_univ, true_and] at hk
    omega

end Cert.Sel
-- ==== Proof.SelOut.lean ====
module

public import proofs.«01_k».proof.Proof.SelCase

@[expose] public section

set_option maxRecDepth 16384

noncomputable section

namespace Cert.Sel

open Idealize.ShloMosaic Idealize.ShloMosaic.TcCoe Idealize.SL.Sem
open Cert.Kernel7Ideal Cert.Kernel7Ideal.Gen

/-! ## The gated sum of the three branches -/

/-- A gate. -/
def gate (x8 : Vec Ideal S1x1x256x16 .f32) (x9 : Vec Ideal S1x1x16 .f32) (r : Fin 256) (c : Fin 16) : EReal :=
  Ideal.logistic (x8 (ix4 0 0 r c) + x9 (ix3 0 0 c))

/-- The gated sum for head `h` of the group, row `r`, component `d`. -/
def mix (x7 : Vec Ideal S1x1x4x256x128 .f32) (x8 : Vec Ideal S1x1x256x16 .f32) (x9 : Vec Ideal S1x1x16 .f32) (a l a' l' : T)
    (h : Fin 4) (r : Fin 256) (d : Fin 128) : EReal :=
  gate x8 x9 r ⟨3 * h.val, by omega⟩ * x7 (ix5 0 0 h r d)
    + gate x8 x9 r ⟨3 * h.val + 1, by omega⟩ * Ideal.div (a (ix2 ⟨256 * h.val + r.val, by omega⟩ d)) (l (ix2 ⟨256 * h.val + r.val, by omega⟩ d))
    + gate x8 x9 r ⟨3 * h.val + 2, by omega⟩ * Ideal.div (a' (ix2 ⟨256 * h.val + r.val, by omega⟩ d)) (l' (ix2 ⟨256 * h.val + r.val, by omega⟩ d))

section heads
variable (x7 : Vec Ideal S1x1x4x256x128 .f32) (x8 : Vec Ideal S1x1x256x16 .f32) (x9 : Vec Ideal S1x1x16 .f32) (a l a' l' : T)

theorem head0 (L : Vec Ideal S1x1x1x256x128 .f32) (hL : ∀ r d, L (ix5 0 0 0 r d) = x7 (ix5 0 0 0 r d)) (r : Fin 256) (d : Fin 128) :
    k0_pay137 (k0_pay133 x8) x9 a l a' l' L (ix3 0 r d) = mix x7 x8 x9 a l a' l' 0 r d := by
  unfold mix gate; rw [← hL]
  pointwise [k0_pay137, k0_pay133, k0_pay134, k0_pay135, k0_pay136]

theorem head1 (L : Vec Ideal S1x1x1x256x128 .f32) (hL : ∀ r d, L (ix5 0 0 0 r d) = x7 (ix5 0 0 1 r d)) (r : Fin 256) (d : Fin 128) :
    k0_pay139 (k0_pay134 (k0_pay133 x8) x9) (k0_pay135 a l) (k0_pay136 a' l') (k0_pay138 (k0_pay133 x8) x9 L) (ix3 0 r d) = mix x7 x8 x9 a l a' l' 1 r d := by
  unfold mix gate; rw [← hL]
  pointwise [k0_pay139, k0_pay138, k0_pay133, k0_pay134, k0_pay135, k0_pay136]

theorem head2 (L : Vec Ideal S1x1x1x256x128 .f32) (hL : ∀ r d, L (ix5 0 0 0 r d) = x7 (ix5 0 0 2 r d)) (r : Fin 256) (d : Fin 128) :
    k0_pay140 (k0_pay134 (k0_pay133 x8) x9) (k0_pay135 a l) (k0_pay136 a' l') L (ix3 0 r d) = mix x7 x8 x9 a l a' l' 2 r d := by
  unfold mix gate; rw [← hL]
  pointwise [k0_pay140, k0_pay133, k0_pay134, k0_pay135, k0_pay136]

theorem head3 (L : Vec Ideal S1x1x1x256x128 .f32) (hL : ∀ r d, L (ix5 0 0 0 r d) = x7 (ix5 0 0 3 r d)) (r : Fin 256) (d : Fin 128) :
    k0_pay1 (k0_pay134 (k0_pay133 x8) x9) (k0_pay136 a' l') (k0_pay141 (k0_pay134 (k0_pay133 x8) x9) L)
      (k0_pay142 (k0_pay134 (k0_pay133 x8) x9) (k0_pay135 a l)) (ix3 0 r d) = mix x7 x8 x9 a l a' l' 3 r d := by
  unfold mix gate; rw [← hL]
  pointwise [k0_pay1, k0_pay141, k0_pay142, k0_pay133, k0_pay134, k0_pay135, k0_pay136]

end heads

/-- Four stores side by side, read at one place. -/
theorem four {sg : RefSig} {κ : Kind} {sp : Space} (v : View sg κ sp S1x256x512 .bf16) (f : v.ty.Contents (Elt Ideal)) (w0 w1 w2 w3 : FVec Ideal S1x256x128 .bf16)
    (i0 : ∀ a, (![0, 0, 0] : Fin 3 → ℕ) a + (![1, 256, 128] : Fin 3 → ℕ) a ≤ S1x256x512.size a)
    (i1 : ∀ a, (![0, 0, 128] : Fin 3 → ℕ) a + (![1, 256, 128] : Fin 3 → ℕ) a ≤ S1x256x512.size a)
    (i2 : ∀ a, (![0, 0, 256] : Fin 3 → ℕ) a + (![1, 256, 128] : Fin 3 → ℕ) a ≤ S1x256x512.size a)
    (i3 : ∀ a, (![0, 0, 384] : Fin 3 → ℕ) a + (![1, 256, 128] : Fin 3 → ℕ) a ≤ S1x256x512.size a) (h : Fin 4) (r : Fin 256) (d : Fin 128) :
    v.read (Elt Ideal) (v.writes (Elt Ideal) f [⟨Rect.unit (s := S1x256x512) ![0, 0, 384] ![1, 256, 128] i3, w3⟩, ⟨Rect.unit (s := S1x256x512) ![0, 0, 256] ![1, 256, 128] i2, w2⟩,
      ⟨Rect.unit (s := S1x256x512) ![0, 0, 128] ![1, 256, 128] i1, w1⟩, ⟨Rect.unit (s := S1x256x512) ![0, 0, 0] ![1, 256, 128] i0, w0⟩]) (ix3 0 r ⟨128 * h.val + d.val, by omega⟩)
      = (![w0, w1, w2, w3] h) (ix3 0 r d) := by
  fin_cases h
  · rw [View.read_writes_cons_unit_of_not_mem v f i3 w3 _ _ rfl 2 (Or.inl (by show 128 * 0 + d.val < 384; omega)),
      View.read_writes_cons_unit_of_not_mem v f i2 w2 _ _ rfl 2 (Or.inl (by show 128 * 0 + d.val < 256; omega)),
      View.read_writes_cons_unit_of_not_mem v f i1 w1 _ _ rfl 2 (Or.inl (by show 128 * 0 + d.val < 128; omega)),
      View.read_writes_cons_unit_of_mem v f i0 w0 _ _ (ix3 0 r d) rfl (fun a => by fin_cases a <;> [rfl; (show r.val = 0 + r.val; omega); (show 128 * 0 + d.val = 0 + d.val; omega)])]
    rfl
  · rw [View.read_writes_cons_unit_of_not_mem v f i3 w3 _ _ rfl 2 (Or.inl (by show 128 * 1 + d.val < 384; omega)),
      View.read_writes_cons_unit_of_not_mem v f i2 w2 _ _ rfl 2 (Or.inl (by show 128 * 1 + d.val < 256; omega)),
      View.read_writes_cons_unit_of_mem v f i1 w1 _ _ (ix3 0 r d) rfl (fun a => by fin_cases a <;> [rfl; (show r.val = 0 + r.val; omega); (show 128 * 1 + d.val = 128 + d.val; omega)])]
    rfl
  · rw [View.read_writes_cons_unit_of_not_mem v f i3 w3 _ _ rfl 2 (Or.inl (by show 128 * 2 + d.val < 384; omega)),
      View.read_writes_cons_unit_of_mem v f i2 w2 _ _ (ix3 0 r d) rfl (fun a => by fin_cases a <;> [rfl; (show r.val = 0 + r.val; omega); (show 128 * 2 + d.val = 256 + d.val; omega)])]
    rfl
  · rw [View.read_writes_cons_unit_of_mem v f i3 w3 _ _ (ix3 0 r d) rfl (fun a => by fin_cases a <;> [rfl; (show r.val = 0 + r.val; omega); (show 128 * 3 + d.val = 384 + d.val; omega)])]
    rfl

/-- The compressed branch of one head loaded. -/
theorem ldc {arg : Memref sig .tc .vmem S1x1x4x256x128 .f32} (hw : arg.IsWhole) (x : Vec Ideal S1x1x4x256x128 .f32) (h : Fin 4)
    (inb : ∀ a, (![0, 0, h.val, 0, 0] : Fin 5 → ℕ) a + (![1, 1, 1, 256, 128] : Fin 5 → ℕ) a ≤ S1x1x4x256x128.size a) (r : Fin 256) (d : Fin 128) :
    arg.view.readAt (Elt Ideal) (Rect.unit (s := S1x1x4x256x128) ![0, 0, h.val, 0, 0] ![1, 1, 1, 256, 128] inb).toLoadRect (hw.unread x) (ix5 0 0 0 r d) = x (ix5 0 0 h r d) := by
  rw [View.readAt_eq_ld, hw.read_unread]
  refine View.ld_unit_apply_of (S := S1x1x4x256x128) x _ _ inb _ _ fun a => ?_
  fin_cases a
  · rfl
  · rfl
  · show h.val = h.val + 0; omega
  · show r.val = 0 + r.val; omega
  · show d.val = 0 + d.val; omega

/-- The gates' scores loaded whole. -/
theorem ldg {arg : Memref sig .tc .vmem S1x1x256x16 .f32} (h : arg.IsWhole) (x : Vec Ideal S1x1x256x16 .f32)
    (inb : ∀ a, (![0, 0, 0, 0] : Fin 4 → ℕ) a + (![1, 1, 256, 16] : Fin 4 → ℕ) a ≤ S1x1x256x16.size a) :
    arg.view.readAt (Elt Ideal) (Rect.unit (s := S1x1x256x16) ![0, 0, 0, 0] ![1, 1, 256, 16] inb).toLoadRect (h.unread x) = x :=
  (View.readAt_full arg.view _ inb).trans (h.read_unread x)

/-- The gates' biases loaded whole. -/
theorem ldb {arg : Memref sig .tc .vmem S1x1x16 .f32} (h : arg.IsWhole) (x : Vec Ideal S1x1x16 .f32)
    (inb : ∀ a, (![0, 0, 0] : Fin 3 → ℕ) a + (![1, 1, 16] : Fin 3 → ℕ) a ≤ S1x1x16.size a) :
    arg.view.readAt (Elt Ideal) (Rect.unit (s := S1x1x16) ![0, 0, 0] ![1, 1, 16] inb).toLoadRect (h.unread x) = x :=
  (View.readAt_full arg.view _ inb).trans (h.read_unread x)

/-! ## The branches' results -/

/-- The softmax of the scores `σ` over all keys, applied to `v`. -/
def attnAt (σ v : Fin 8192 → EReal) : EReal :=
  Ideal.div (∑ k, Ideal.exp (σ k - Finset.univ.sup σ) * v k) (∑ k, Ideal.exp (σ k - Finset.univ.sup σ))

/-- A running softmax that has seen every key that counts, divided. -/
theorem StInv.div {l a : T} {σ : Fin 1024 → Fin 8192 → EReal} {W : Fin 8192 → Fin 128 → EReal} {P : Fin 8192 → Prop}
    (h : ∃ m K, StInv (⟨m, l, a⟩ : St) σ W K ∧ ∀ k ∉ K, P k) (hP : ∀ r k, P k → σ r k = ⊥) (r : Fin 1024) (d : Fin 128) :
    Ideal.div (a (ix2 r d)) (l (ix2 r d)) = attnAt (σ r) fun k => W k d := by
  obtain ⟨m, K, hs, hK⟩ := h
  have h1 := (hs.den r d).total fun k hk => hP r k (hK k hk)
  have h2 := (hs.num r d).total fun k hk => hP r k (hK k hk)
  have e := h1.hm
  dsimp only at e
  have e1 : l (ix2 r d) = _ := h1.ha.trans (Finset.sum_congr rfl fun k _ => mul_one _)
  have e2 : a (ix2 r d) = _ := h2.ha
  unfold attnAt
  rw [e1, e2, ← e]

/-- A key after the query tile does not count. -/
theorem σ1_bot (qi : ℕ) (q : Vec Ideal S1x1x4x256x128 .bf16) (p : Vec Ideal S1x1x256x128 .bf16) (k : Vec Ideal S1x1x8192x128 .bf16) (e : Vec Ideal S8192x128 .bf16)
    (r : Fin 1024) (n : Fin 8192) (h : qi < n.val / 256) : σ1 qi q p k e r n = ⊥ := if_neg (by omega)

/-- A key after the query tile, or before the window, does not count. -/
theorem σ2_bot (qi : ℕ) (q : Vec Ideal S1x1x4x256x128 .bf16) (k : Vec Ideal S1x1x8192x128 .bf16)
    (r : Fin 1024) (n : Fin 8192) (h : qi < n.val / 256 ∨ n.val / 256 + 2 < qi) : σ2 qi q k r n = ⊥ := if_neg (by omega)

/-- One entry of the block of grid point with query tile `qi`: head `h`, row `r`, component `d`. -/
def blkAt (qi : ℕ) (x0 : Vec Ideal S1x1x4x256x128 .bf16) (x1 : Vec Ideal S1x1x256x128 .bf16) (x2 : Vec Ideal S1x1x8192x128 .bf16) (x3 : Vec Ideal S8192x128 .bf16)
    (x4 x5 x6 : Vec Ideal S1x1x8192x128 .bf16) (x7 : Vec Ideal S1x1x4x256x128 .f32) (x8 : Vec Ideal S1x1x256x16 .f32) (x9 : Vec Ideal S1x1x16 .f32)
    (h : Fin 4) (r : Fin 256) (d : Fin 128) : EReal :=
  gate x8 x9 r ⟨3 * h.val, by omega⟩ * x7 (ix5 0 0 h r d)
    + gate x8 x9 r ⟨3 * h.val + 1, by omega⟩ * attnAt (σ1 qi x0 x1 x2 x3 ⟨256 * h.val + r.val, by omega⟩) (fun k => V x4 k d)
    + gate x8 x9 r ⟨3 * h.val + 2, by omega⟩ * attnAt (σ2 qi x0 x5 ⟨256 * h.val + r.val, by omega⟩) (fun k => V x6 k d)

set_option maxHeartbeats 400000 in
/-- The output block, in case A. -/
theorem outA_apply (c : Dev nD) (i : grid0.Coords) (arg3 : Memref sig .tc .vmem S1x1x4x256x128 .bf16) (harg3 : arg3.IsWhole) (arg4 : Memref sig .tc .vmem S1x1x256x128 .bf16) (harg4 : arg4.IsWhole) (arg5 : Memref sig .tc .vmem S1x1x8192x128 .bf16) (harg5 : arg5.IsWhole) (arg6 : Memref sig .tc .vmem S8192x128 .bf16) (harg6 : arg6.IsWhole) (arg7 : Memref sig .tc .vmem S1x1x8192x128 .bf16) (harg7 : arg7.IsWhole) (arg8 : Memref sig .tc .vmem S1x1x8192x128 .bf16) (harg8 : arg8.IsWhole) (arg9 : Memref sig .tc .vmem S1x1x8192x128 .bf16) (harg9 : arg9.IsWhole) (arg10 : Memref sig .tc .vmem S1x1x4x256x128 .f32) (harg10 : arg10.IsWhole) (arg11 : Memref sig .tc .vmem S1x1x256x16 .f32) (harg11 : arg11.IsWhole) (arg12 : Memref sig .tc .vmem S1x1x16 .f32) (harg12 : arg12.IsWhole) (arg13 : Memref sig .tc .vmem S1x256x512 .bf16) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : ¬cond0_1 i)
    (x0 : Vec Ideal S1x1x4x256x128 .bf16) (x1 : Vec Ideal S1x1x256x128 .bf16) (x2 : Vec Ideal S1x1x8192x128 .bf16) (x3 : Vec Ideal S8192x128 .bf16) (x4 : Vec Ideal S1x1x8192x128 .bf16) (x5 : Vec Ideal S1x1x8192x128 .bf16) (x6 : Vec Ideal S1x1x8192x128 .bf16) (x7 : Vec Ideal S1x1x4x256x128 .f32) (x8 : Vec Ideal S1x1x256x16 .f32) (x9 : Vec Ideal S1x1x16 .f32) (h : Fin 4) (r : Fin 256) (d : Fin 128) :
    out0_A_10 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 (ix3 0 r ⟨128 * h.val + d.val, by omega⟩)
      = mix x7 x8 x9 (kernelRun0_A.sl.v179 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4) (kernelRun0_A.sl.v180 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4) (kernelRun0_A.sl.v182 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x5 x6) (kernelRun0_A.sl.v183 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x5 x6) h r d := by
  unfold out0_A_10 kernelRun0_A
  dsimp only
  rw [four]
  simp only [kernelRun0_A.sl.r_20, kernelRun0_A.sl.r_19, kernelRun0_A.sl.r_18, kernelRun0_A.sl.r_17, kernelRun0_A.sl.r_16, kernelRun0_A.sl.r_15, kernelRun0_A.sl.r_14, ldg, ldb]
  fin_cases h
  · exact head0 x7 x8 x9 _ _ _ _ _ (ldc harg10 x7 0 _) r d
  · exact head1 x7 x8 x9 _ _ _ _ _ (ldc harg10 x7 1 _) r d
  · exact head2 x7 x8 x9 _ _ _ _ _ (ldc harg10 x7 2 _) r d
  · exact head3 x7 x8 x9 _ _ _ _ _ (ldc harg10 x7 3 _) r d

/-- The output block in case A, from the blocks read. -/
theorem blkA (c : Dev nD) (i : grid0.Coords) (arg3 : Memref sig .tc .vmem S1x1x4x256x128 .bf16) (harg3 : arg3.IsWhole) (arg4 : Memref sig .tc .vmem S1x1x256x128 .bf16) (harg4 : arg4.IsWhole) (arg5 : Memref sig .tc .vmem S1x1x8192x128 .bf16) (harg5 : arg5.IsWhole) (arg6 : Memref sig .tc .vmem S8192x128 .bf16) (harg6 : arg6.IsWhole) (arg7 : Memref sig .tc .vmem S1x1x8192x128 .bf16) (harg7 : arg7.IsWhole) (arg8 : Memref sig .tc .vmem S1x1x8192x128 .bf16) (harg8 : arg8.IsWhole) (arg9 : Memref sig .tc .vmem S1x1x8192x128 .bf16) (harg9 : arg9.IsWhole) (arg10 : Memref sig .tc .vmem S1x1x4x256x128 .f32) (harg10 : arg10.IsWhole) (arg11 : Memref sig .tc .vmem S1x1x256x16 .f32) (harg11 : arg11.IsWhole) (arg12 : Memref sig .tc .vmem S1x1x16 .f32) (harg12 : arg12.IsWhole) (arg13 : Memref sig .tc .vmem S1x256x512 .bf16) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : ¬cond0_1 i)
    (x0 : Vec Ideal S1x1x4x256x128 .bf16) (x1 : Vec Ideal S1x1x256x128 .bf16) (x2 : Vec Ideal S1x1x8192x128 .bf16) (x3 : Vec Ideal S8192x128 .bf16) (x4 : Vec Ideal S1x1x8192x128 .bf16) (x5 : Vec Ideal S1x1x8192x128 .bf16) (x6 : Vec Ideal S1x1x8192x128 .bf16) (x7 : Vec Ideal S1x1x4x256x128 .f32) (x8 : Vec Ideal S1x1x256x16 .f32) (x9 : Vec Ideal S1x1x16 .f32) (h : Fin 4) (r : Fin 256) (d : Fin 128) :
    out0_A_10 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 (ix3 0 r ⟨128 * h.val + d.val, by omega⟩) = blkAt (i 2).val x0 x1 x2 x3 x4 x5 x6 x7 x8 x9 h r d := by
  rw [outA_apply]
  unfold mix blkAt
  rw [StInv.div (selA c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9) (fun r k => σ1_bot _ _ _ _ _ r k), StInv.div (winA c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9) (fun r k => σ2_bot _ _ _ r k)]

set_option maxHeartbeats 400000 in
/-- The output block, in case B. -/
theorem outB_apply (c : Dev nD) (i : grid0.Coords) (arg3 : Memref sig .tc .vmem S1x1x4x256x128 .bf16) (harg3 : arg3.IsWhole) (arg4 : Memref sig .tc .vmem S1x1x256x128 .bf16) (harg4 : arg4.IsWhole) (arg5 : Memref sig .tc .vmem S1x1x8192x128 .bf16) (harg5 : arg5.IsWhole) (arg6 : Memref sig .tc .vmem S8192x128 .bf16) (harg6 : arg6.IsWhole) (arg7 : Memref sig .tc .vmem S1x1x8192x128 .bf16) (harg7 : arg7.IsWhole) (arg8 : Memref sig .tc .vmem S1x1x8192x128 .bf16) (harg8 : arg8.IsWhole) (arg9 : Memref sig .tc .vmem S1x1x8192x128 .bf16) (harg9 : arg9.IsWhole) (arg10 : Memref sig .tc .vmem S1x1x4x256x128 .f32) (harg10 : arg10.IsWhole) (arg11 : Memref sig .tc .vmem S1x1x256x16 .f32) (harg11 : arg11.IsWhole) (arg12 : Memref sig .tc .vmem S1x1x16 .f32) (harg12 : arg12.IsWhole) (arg13 : Memref sig .tc .vmem S1x256x512 .bf16) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : cond0_0 i) (hc1 : ¬cond0_1 i)
    (x0 : Vec Ideal S1x1x4x256x128 .bf16) (x1 : Vec Ideal S1x1x256x128 .bf16) (x2 : Vec Ideal S1x1x8192x128 .bf16) (x3 : Vec Ideal S8192x128 .bf16) (x4 : Vec Ideal S1x1x8192x128 .bf16) (x5 : Vec Ideal S1x1x8192x128 .bf16) (x6 : Vec Ideal S1x1x8192x128 .bf16) (x7 : Vec Ideal S1x1x4x256x128 .f32) (x8 : Vec Ideal S1x1x256x16 .f32) (x9 : Vec Ideal S1x1x16 .f32) (h : Fin 4) (r : Fin 256) (d : Fin 128) :
    out0_B_10 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 (ix3 0 r ⟨128 * h.val + d.val, by omega⟩)
      = mix x7 x8 x9 (kernelRun0_B.sl.v179 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4) (kernelRun0_B.sl.v180 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4) (kernelRun0_B.sl.v182 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x5 x6) (kernelRun0_B.sl.v183 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x5 x6) h r d := by
  unfold out0_B_10 kernelRun0_B
  dsimp only
  rw [four]
  simp only [kernelRun0_B.sl.r_20, kernelRun0_B.sl.r_19, kernelRun0_B.sl.r_18, kernelRun0_B.sl.r_17, kernelRun0_B.sl.r_16, kernelRun0_B.sl.r_15, kernelRun0_B.sl.r_14, ldg, ldb]
  fin_cases h
  · exact head0 x7 x8 x9 _ _ _ _ _ (ldc harg10 x7 0 _) r d
  · exact head1 x7 x8 x9 _ _ _ _ _ (ldc harg10 x7 1 _) r d
  · exact head2 x7 x8 x9 _ _ _ _ _ (ldc harg10 x7 2 _) r d
  · exact head3 x7 x8 x9 _ _ _ _ _ (ldc harg10 x7 3 _) r d

/-- The output block in case B, from the blocks read. -/
theorem blkB (c : Dev nD) (i : grid0.Coords) (arg3 : Memref sig .tc .vmem S1x1x4x256x128 .bf16) (harg3 : arg3.IsWhole) (arg4 : Memref sig .tc .vmem S1x1x256x128 .bf16) (harg4 : arg4.IsWhole) (arg5 : Memref sig .tc .vmem S1x1x8192x128 .bf16) (harg5 : arg5.IsWhole) (arg6 : Memref sig .tc .vmem S8192x128 .bf16) (harg6 : arg6.IsWhole) (arg7 : Memref sig .tc .vmem S1x1x8192x128 .bf16) (harg7 : arg7.IsWhole) (arg8 : Memref sig .tc .vmem S1x1x8192x128 .bf16) (harg8 : arg8.IsWhole) (arg9 : Memref sig .tc .vmem S1x1x8192x128 .bf16) (harg9 : arg9.IsWhole) (arg10 : Memref sig .tc .vmem S1x1x4x256x128 .f32) (harg10 : arg10.IsWhole) (arg11 : Memref sig .tc .vmem S1x1x256x16 .f32) (harg11 : arg11.IsWhole) (arg12 : Memref sig .tc .vmem S1x1x16 .f32) (harg12 : arg12.IsWhole) (arg13 : Memref sig .tc .vmem S1x256x512 .bf16) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : cond0_0 i) (hc1 : ¬cond0_1 i)
    (x0 : Vec Ideal S1x1x4x256x128 .bf16) (x1 : Vec Ideal S1x1x256x128 .bf16) (x2 : Vec Ideal S1x1x8192x128 .bf16) (x3 : Vec Ideal S8192x128 .bf16) (x4 : Vec Ideal S1x1x8192x128 .bf16) (x5 : Vec Ideal S1x1x8192x128 .bf16) (x6 : Vec Ideal S1x1x8192x128 .bf16) (x7 : Vec Ideal S1x1x4x256x128 .f32) (x8 : Vec Ideal S1x1x256x16 .f32) (x9 : Vec Ideal S1x1x16 .f32) (h : Fin 4) (r : Fin 256) (d : Fin 128) :
    out0_B_10 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 (ix3 0 r ⟨128 * h.val + d.val, by omega⟩) = blkAt (i 2).val x0 x1 x2 x3 x4 x5 x6 x7 x8 x9 h r d := by
  rw [outB_apply]
  unfold mix blkAt
  rw [StInv.div (selB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9) (fun r k => σ1_bot _ _ _ _ _ r k), StInv.div (winB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9) (fun r k => σ2_bot _ _ _ r k)]

set_option maxHeartbeats 400000 in
/-- The output block, in case C. -/
theorem outC_apply (c : Dev nD) (i : grid0.Coords) (arg3 : Memref sig .tc .vmem S1x1x4x256x128 .bf16) (harg3 : arg3.IsWhole) (arg4 : Memref sig .tc .vmem S1x1x256x128 .bf16) (harg4 : arg4.IsWhole) (arg5 : Memref sig .tc .vmem S1x1x8192x128 .bf16) (harg5 : arg5.IsWhole) (arg6 : Memref sig .tc .vmem S8192x128 .bf16) (harg6 : arg6.IsWhole) (arg7 : Memref sig .tc .vmem S1x1x8192x128 .bf16) (harg7 : arg7.IsWhole) (arg8 : Memref sig .tc .vmem S1x1x8192x128 .bf16) (harg8 : arg8.IsWhole) (arg9 : Memref sig .tc .vmem S1x1x8192x128 .bf16) (harg9 : arg9.IsWhole) (arg10 : Memref sig .tc .vmem S1x1x4x256x128 .f32) (harg10 : arg10.IsWhole) (arg11 : Memref sig .tc .vmem S1x1x256x16 .f32) (harg11 : arg11.IsWhole) (arg12 : Memref sig .tc .vmem S1x1x16 .f32) (harg12 : arg12.IsWhole) (arg13 : Memref sig .tc .vmem S1x256x512 .bf16) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : cond0_1 i)
    (x0 : Vec Ideal S1x1x4x256x128 .bf16) (x1 : Vec Ideal S1x1x256x128 .bf16) (x2 : Vec Ideal S1x1x8192x128 .bf16) (x3 : Vec Ideal S8192x128 .bf16) (x4 : Vec Ideal S1x1x8192x128 .bf16) (x5 : Vec Ideal S1x1x8192x128 .bf16) (x6 : Vec Ideal S1x1x8192x128 .bf16) (x7 : Vec Ideal S1x1x4x256x128 .f32) (x8 : Vec Ideal S1x1x256x16 .f32) (x9 : Vec Ideal S1x1x16 .f32) (h : Fin 4) (r : Fin 256) (d : Fin 128) :
    out0_C_10 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 (ix3 0 r ⟨128 * h.val + d.val, by omega⟩)
      = mix x7 x8 x9 (kernelRun0_C.sl.v179 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4) (kernelRun0_C.sl.v180 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4) (kernelRun0_C.sl.v182 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 x0 x5 x6) (kernelRun0_C.sl.v183 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 x0 x5 x6) h r d := by
  unfold out0_C_10 kernelRun0_C
  dsimp only
  rw [four]
  simp only [kernelRun0_C.sl.r_26, kernelRun0_C.sl.r_25, kernelRun0_C.sl.r_24, kernelRun0_C.sl.r_23, kernelRun0_C.sl.r_22, kernelRun0_C.sl.r_21, kernelRun0_C.sl.r_20, ldg, ldb]
  fin_cases h
  · exact head0 x7 x8 x9 _ _ _ _ _ (ldc harg10 x7 0 _) r d
  · exact head1 x7 x8 x9 _ _ _ _ _ (ldc harg10 x7 1 _) r d
  · exact head2 x7 x8 x9 _ _ _ _ _ (ldc harg10 x7 2 _) r d
  · exact head3 x7 x8 x9 _ _ _ _ _ (ldc harg10 x7 3 _) r d

/-- The output block in case C, from the blocks read. -/
theorem blkC (c : Dev nD) (i : grid0.Coords) (arg3 : Memref sig .tc .vmem S1x1x4x256x128 .bf16) (harg3 : arg3.IsWhole) (arg4 : Memref sig .tc .vmem S1x1x256x128 .bf16) (harg4 : arg4.IsWhole) (arg5 : Memref sig .tc .vmem S1x1x8192x128 .bf16) (harg5 : arg5.IsWhole) (arg6 : Memref sig .tc .vmem S8192x128 .bf16) (harg6 : arg6.IsWhole) (arg7 : Memref sig .tc .vmem S1x1x8192x128 .bf16) (harg7 : arg7.IsWhole) (arg8 : Memref sig .tc .vmem S1x1x8192x128 .bf16) (harg8 : arg8.IsWhole) (arg9 : Memref sig .tc .vmem S1x1x8192x128 .bf16) (harg9 : arg9.IsWhole) (arg10 : Memref sig .tc .vmem S1x1x4x256x128 .f32) (harg10 : arg10.IsWhole) (arg11 : Memref sig .tc .vmem S1x1x256x16 .f32) (harg11 : arg11.IsWhole) (arg12 : Memref sig .tc .vmem S1x1x16 .f32) (harg12 : arg12.IsWhole) (arg13 : Memref sig .tc .vmem S1x256x512 .bf16) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : cond0_1 i)
    (x0 : Vec Ideal S1x1x4x256x128 .bf16) (x1 : Vec Ideal S1x1x256x128 .bf16) (x2 : Vec Ideal S1x1x8192x128 .bf16) (x3 : Vec Ideal S8192x128 .bf16) (x4 : Vec Ideal S1x1x8192x128 .bf16) (x5 : Vec Ideal S1x1x8192x128 .bf16) (x6 : Vec Ideal S1x1x8192x128 .bf16) (x7 : Vec Ideal S1x1x4x256x128 .f32) (x8 : Vec Ideal S1x1x256x16 .f32) (x9 : Vec Ideal S1x1x16 .f32) (h : Fin 4) (r : Fin 256) (d : Fin 128) :
    out0_C_10 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 (ix3 0 r ⟨128 * h.val + d.val, by omega⟩) = blkAt (i 2).val x0 x1 x2 x3 x4 x5 x6 x7 x8 x9 h r d := by
  rw [outC_apply]
  unfold mix blkAt
  rw [StInv.div (selC c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9) (fun r k => σ1_bot _ _ _ _ _ r k), StInv.div (winC c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9) (fun r k => σ2_bot _ _ _ r k)]

set_option maxHeartbeats 400000 in
/-- The output block, in case D. -/
theorem outD_apply (c : Dev nD) (i : grid0.Coords) (arg3 : Memref sig .tc .vmem S1x1x4x256x128 .bf16) (harg3 : arg3.IsWhole) (arg4 : Memref sig .tc .vmem S1x1x256x128 .bf16) (harg4 : arg4.IsWhole) (arg5 : Memref sig .tc .vmem S1x1x8192x128 .bf16) (harg5 : arg5.IsWhole) (arg6 : Memref sig .tc .vmem S8192x128 .bf16) (harg6 : arg6.IsWhole) (arg7 : Memref sig .tc .vmem S1x1x8192x128 .bf16) (harg7 : arg7.IsWhole) (arg8 : Memref sig .tc .vmem S1x1x8192x128 .bf16) (harg8 : arg8.IsWhole) (arg9 : Memref sig .tc .vmem S1x1x8192x128 .bf16) (harg9 : arg9.IsWhole) (arg10 : Memref sig .tc .vmem S1x1x4x256x128 .f32) (harg10 : arg10.IsWhole) (arg11 : Memref sig .tc .vmem S1x1x256x16 .f32) (harg11 : arg11.IsWhole) (arg12 : Memref sig .tc .vmem S1x1x16 .f32) (harg12 : arg12.IsWhole) (arg13 : Memref sig .tc .vmem S1x256x512 .bf16) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : cond0_0 i) (hc1 : cond0_1 i)
    (x0 : Vec Ideal S1x1x4x256x128 .bf16) (x1 : Vec Ideal S1x1x256x128 .bf16) (x2 : Vec Ideal S1x1x8192x128 .bf16) (x3 : Vec Ideal S8192x128 .bf16) (x4 : Vec Ideal S1x1x8192x128 .bf16) (x5 : Vec Ideal S1x1x8192x128 .bf16) (x6 : Vec Ideal S1x1x8192x128 .bf16) (x7 : Vec Ideal S1x1x4x256x128 .f32) (x8 : Vec Ideal S1x1x256x16 .f32) (x9 : Vec Ideal S1x1x16 .f32) (h : Fin 4) (r : Fin 256) (d : Fin 128) :
    out0_D_10 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 (ix3 0 r ⟨128 * h.val + d.val, by omega⟩)
      = mix x7 x8 x9 (kernelRun0_D.sl.v179 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4) (kernelRun0_D.sl.v180 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4) (kernelRun0_D.sl.v182 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 x0 x5 x6) (kernelRun0_D.sl.v183 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 x0 x5 x6) h r d := by
  unfold out0_D_10 kernelRun0_D
  dsimp only
  rw [four]
  simp only [kernelRun0_D.sl.r_26, kernelRun0_D.sl.r_25, kernelRun0_D.sl.r_24, kernelRun0_D.sl.r_23, kernelRun0_D.sl.r_22, kernelRun0_D.sl.r_21, kernelRun0_D.sl.r_20, ldg, ldb]
  fin_cases h
  · exact head0 x7 x8 x9 _ _ _ _ _ (ldc harg10 x7 0 _) r d
  · exact head1 x7 x8 x9 _ _ _ _ _ (ldc harg10 x7 1 _) r d
  · exact head2 x7 x8 x9 _ _ _ _ _ (ldc harg10 x7 2 _) r d
  · exact head3 x7 x8 x9 _ _ _ _ _ (ldc harg10 x7 3 _) r d

/-- The output block in case D, from the blocks read. -/
theorem blkD (c : Dev nD) (i : grid0.Coords) (arg3 : Memref sig .tc .vmem S1x1x4x256x128 .bf16) (harg3 : arg3.IsWhole) (arg4 : Memref sig .tc .vmem S1x1x256x128 .bf16) (harg4 : arg4.IsWhole) (arg5 : Memref sig .tc .vmem S1x1x8192x128 .bf16) (harg5 : arg5.IsWhole) (arg6 : Memref sig .tc .vmem S8192x128 .bf16) (harg6 : arg6.IsWhole) (arg7 : Memref sig .tc .vmem S1x1x8192x128 .bf16) (harg7 : arg7.IsWhole) (arg8 : Memref sig .tc .vmem S1x1x8192x128 .bf16) (harg8 : arg8.IsWhole) (arg9 : Memref sig .tc .vmem S1x1x8192x128 .bf16) (harg9 : arg9.IsWhole) (arg10 : Memref sig .tc .vmem S1x1x4x256x128 .f32) (harg10 : arg10.IsWhole) (arg11 : Memref sig .tc .vmem S1x1x256x16 .f32) (harg11 : arg11.IsWhole) (arg12 : Memref sig .tc .vmem S1x1x16 .f32) (harg12 : arg12.IsWhole) (arg13 : Memref sig .tc .vmem S1x256x512 .bf16) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : cond0_0 i) (hc1 : cond0_1 i)
    (x0 : Vec Ideal S1x1x4x256x128 .bf16) (x1 : Vec Ideal S1x1x256x128 .bf16) (x2 : Vec Ideal S1x1x8192x128 .bf16) (x3 : Vec Ideal S8192x128 .bf16) (x4 : Vec Ideal S1x1x8192x128 .bf16) (x5 : Vec Ideal S1x1x8192x128 .bf16) (x6 : Vec Ideal S1x1x8192x128 .bf16) (x7 : Vec Ideal S1x1x4x256x128 .f32) (x8 : Vec Ideal S1x1x256x16 .f32) (x9 : Vec Ideal S1x1x16 .f32) (h : Fin 4) (r : Fin 256) (d : Fin 128) :
    out0_D_10 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 (ix3 0 r ⟨128 * h.val + d.val, by omega⟩) = blkAt (i 2).val x0 x1 x2 x3 x4 x5 x6 x7 x8 x9 h r d := by
  rw [outD_apply]
  unfold mix blkAt
  rw [StInv.div (selD c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9) (fun r k => σ1_bot _ _ _ _ _ r k), StInv.div (winD c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9) (fun r k => σ2_bot _ _ _ r k)]

end Cert.Sel
-- ==== Proof.SelLayer.lean ====
module

public import proofs.«01_k».proof.Proof.SelOut

@[expose] public section

set_option maxRecDepth 16384

noncomputable section

namespace Cert.Sel

open Idealize.ShloMosaic Idealize.ShloMosaic.TcCoe Idealize.SL.Sem
open Cert.Kernel7Ideal Cert.Kernel7Ideal.Gen

section layer
variable (Q : Vec Ideal S2x4x4x8192x128 .bf16) (P K Vs K' Vw : Vec Ideal S2x4x8192x128 .bf16) (C : Vec Ideal S2x4x4x8192x128 .f32)
  (GP : Vec Ideal S2x4x8192x16 .f32) (GB : Vec Ideal S4x1x16 .f32)

/-- The gate of column `c` at the token `t` of group `g`. -/
def gateAt (b : Fin 2) (g : Fin 4) (t : Fin 8192) (c : Fin 16) : EReal :=
  Ideal.logistic (GP (ix4 b g t c) + GB (ix3 g 0 c))

/-- The score of the key `n` for the token `t` and the penalty of the key's block; later keys have none. -/
def selScore (b : Fin 2) (g h : Fin 4) (t n : Fin 8192) : EReal :=
  if n.val ≤ t.val then (∑ d, Q (ix5 b g h t d) * K (ix4 b g n d)) + P (ix4 b g t ⟨n.val / 64, by omega⟩) else ⊥

/-- The score of the key `n` for the token `t` in the window of 512 tokens. -/
def winScore (b : Fin 2) (g h : Fin 4) (t n : Fin 8192) : EReal :=
  if n.val ≤ t.val ∧ t.val < n.val + 512 then ∑ d, Q (ix5 b g h t d) * K' (ix4 b g n d) else ⊥

/-- The gated sum of the three branches at the component `d` of the head `h` of the group `g`. -/
def headAt (b : Fin 2) (g h : Fin 4) (t : Fin 8192) (d : Fin 128) : EReal :=
  gateAt GP GB b g t ⟨3 * h.val, by omega⟩ * C (ix5 b g h t d)
    + gateAt GP GB b g t ⟨3 * h.val + 1, by omega⟩ * attnAt (selScore Q P K b g h t) (fun n => Vs (ix4 b g n d))
    + gateAt GP GB b g t ⟨3 * h.val + 2, by omega⟩ * attnAt (winScore Q K' b g h t) (fun n => Vw (ix4 b g n d))

/-- The result at the token `t` and the column `j`. -/
def layerAt (b : Fin 2) (t : Fin 8192) (j : Fin 2048) : EReal :=
  headAt Q P K Vs K' Vw C GP GB b ⟨j.val / 512, by omega⟩ ⟨j.val / 128 % 4, by omega⟩ t ⟨j.val % 128, by omega⟩

end layer

end Cert.Sel
-- ==== Proof.SelFinal.lean ====
module

public import proofs.«01_k».proof.Proof.SelLayer
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel7Ideal.Value

open Cert.Sel hiding V
open Cert.Kernel7Ideal Cert.Kernel7Ideal.Gen Idealize.ShloMosaic Idealize.ShloMosaic.TcCoe Idealize.SL.Sem

variable (m : (ℓ : Loc nD τ sig) → Buf (Elt Ideal) ℓ)

/-- Where the blocks of the grid point lie. -/
theorem idx : ∀ t : Fin cfg0.N,
    win0_0.index t = ![t.val / 128, t.val / 32 % 4, 0, t.val % 32, 0] ∧ win0_1.index t = ![t.val / 128, t.val / 32 % 4, t.val % 32, 0]
    ∧ win0_2.index t = ![t.val / 128, t.val / 32 % 4, 0, 0] ∧ win0_3.index t = ![0, 0]
    ∧ win0_4.index t = ![t.val / 128, t.val / 32 % 4, 0, 0] ∧ win0_5.index t = ![t.val / 128, t.val / 32 % 4, 0, 0]
    ∧ win0_6.index t = ![t.val / 128, t.val / 32 % 4, 0, 0] ∧ win0_7.index t = ![t.val / 128, t.val / 32 % 4, 0, t.val % 32, 0]
    ∧ win0_8.index t = ![t.val / 128, t.val / 32 % 4, t.val % 32, 0] ∧ win0_9.index t = ![t.val / 32 % 4, 0, 0]
    ∧ win0_10.index t = ![t.val / 128, t.val % 32, t.val / 32 % 4] ∧ (grid0.coords t 2).val = t.val % 32 :=
  (by decide +kernel : ∀ t : Fin grid0.N, _)

/-- The number of the block of 64 keys a key lies in, from the words the host computes with. -/
def bdiv (x : BitVec 32) : BitVec 32 :=
  Scalar.select (IntOp.andi (IntOp.cmpi .ne (if x = 0 then 0 else if x.msb then -1 else 1 : BitVec 32) (if (64#32 : BitVec 32) = 0 then 0 else if (64#32 : BitVec 32).msb then -1 else 1 : BitVec 32))
      (IntOp.cmpi .ne (IntOp.remsi .host x 64#32) 0#32))
    (IntOp.subi (IntOp.divsi .host x 64#32) 1#32) (IntOp.divsi .host x 64#32)

theorem bdiv_word (n : Fin 8192) : bdiv (BitVec.ofNat 32 n.val) = BitVec.ofNat 32 (n.val / 64) := by
  have h : ∀ (a : Fin 128) (b : Fin 64), bdiv (BitVec.ofNat 32 (64 * a.val + b.val)) = BitVec.ofNat 32 a.val := by decide +kernel
  have e := h ⟨n.val / 64, by omega⟩ ⟨n.val % 64, by omega⟩
  simp only [Nat.div_add_mod] at e
  exact e

/-- The array of the blocks: row `n` has a one in the column of the key's block. -/
theorem onehot (c : Dev nD) (n : Fin 8192) (j : Fin 128) :
    V m c main_v5 (ix2 n j) = if n.val / 64 = j.val then (1 : EReal) else 0 := by
  have e : V m c main_v5 (ix2 n j)
      = Scalar.select (IntOp.cmpi .eq (bdiv (BitVec.ofNat 32 n.val)) (BitVec.ofNat 32 j.val)) (Ideal.ofBits .f32 0x3F800000#32) (Ideal.ofBits .f32 0x00000000#32) := by
    unfold V hostOps0 hostOps0_1 hostOps0_2 hostOps0_3 hostOps0_4
    simp only [List.flatten_cons, List.flatten_nil, List.cons_append, List.nil_append, List.append_nil]
    after_results
    simp -implicitDefEqProofs only [StableHlo.TRef.toBuf, StableHlo.TRef.ofBuf, cast_cast, cast_eq, id]
    unfold bdiv
    pointwise
  rw [e, bdiv_word, Ideal.ofBits_one_f32, Ideal.ofBits_zero_f32]
  unfold Scalar.select
  refine if_congr ?_ rfl rfl
  show BitVec.ofBool (_ == _) = 1#1 ↔ _
  rw [BitVec.ofBool_eq_iff_eq (b' := true) |> fun h => (by simpa using h : BitVec.ofBool _ = 1#1 ↔ _ = true), beq_iff_eq]
  constructor
  · intro h
    have := congrArg BitVec.toNat h
    simp only [BitVec.toNat_ofNat] at this
    omega
  · intro h; rw [h]

section blocks
variable (c : Dev nD) (t : Fin cfg0.N) (b : Fin 2) (g : Fin 4) (qi : Fin 32) (hb : t.val / 128 = b.val) (hg : t.val / 32 % 4 = g.val) (hq : t.val % 32 = qi.val)
include hb hg hq

theorem b0 (h : Fin 4) (r : Fin 256) (d : Fin 128) :
    iblk m c 0 t (ix5 0 0 h r d) = m ((c : Thread nD τ).loc main_arg0) (ix5 b g h ⟨256 * qi.val + r.val, by omega⟩ d) := by
  blk_ext! [iblk, V, idx t]

theorem b1 (r : Fin 256) (d : Fin 128) :
    iblk m c 1 t (ix4 0 0 r d) = m ((c : Thread nD τ).loc main_arg1) (ix4 b g ⟨256 * qi.val + r.val, by omega⟩ d) := by
  blk_ext! [iblk, V, idx t]

theorem b2 (n : Fin 8192) (d : Fin 128) : iblk m c 2 t (ix4 0 0 n d) = m ((c : Thread nD τ).loc main_arg2) (ix4 b g n d) := by
  blk_ext! [iblk, V, idx t]

theorem b4 (n : Fin 8192) (d : Fin 128) : iblk m c 4 t (ix4 0 0 n d) = m ((c : Thread nD τ).loc main_arg3) (ix4 b g n d) := by
  blk_ext! [iblk, V, idx t]

theorem b5 (n : Fin 8192) (d : Fin 128) : iblk m c 5 t (ix4 0 0 n d) = m ((c : Thread nD τ).loc main_arg4) (ix4 b g n d) := by
  blk_ext! [iblk, V, idx t]

theorem b6 (n : Fin 8192) (d : Fin 128) : iblk m c 6 t (ix4 0 0 n d) = m ((c : Thread nD τ).loc main_arg5) (ix4 b g n d) := by
  blk_ext! [iblk, V, idx t]

theorem b7 (h : Fin 4) (r : Fin 256) (d : Fin 128) :
    iblk m c 7 t (ix5 0 0 h r d) = m ((c : Thread nD τ).loc main_arg6) (ix5 b g h ⟨256 * qi.val + r.val, by omega⟩ d) := by
  blk_ext! [iblk, V, idx t]

theorem b8 (r : Fin 256) (d : Fin 16) :
    iblk m c 8 t (ix4 0 0 r d) = m ((c : Thread nD τ).loc main_arg7) (ix4 b g ⟨256 * qi.val + r.val, by omega⟩ d) := by
  blk_ext! [iblk, V, idx t]

theorem b9 (d : Fin 16) : iblk m c 9 t (ix3 0 0 d) = m ((c : Thread nD τ).loc main_arg8) (ix3 g 0 d) := by
  blk_ext! [iblk, V, idx t]

end blocks

/-- The block of the array of the blocks. -/
theorem b3 (c : Dev nD) (t : Fin cfg0.N) (n : Fin 8192) (j : Fin 128) :
    iblk m c 3 t (ix2 n j) = if n.val / 64 = j.val then (1 : EReal) else 0 := by
  rw [← onehot m c n j]
  show V m c main_v5 _ = _
  blk_ext [idx t]

/-- What a grid point writes, in terms of the call's arguments. -/
theorem blk_layer (c : Dev nD) (t : Fin cfg0.N) (b : Fin 2) (g : Fin 4) (qi : Fin 32) (hb : t.val / 128 = b.val) (hg : t.val / 32 % 4 = g.val) (hq : t.val % 32 = qi.val)
    (h : Fin 4) (r : Fin 256) (d : Fin 128) :
    blkAt qi.val (iblk m c 0 t) (iblk m c 1 t) (iblk m c 2 t) (iblk m c 3 t) (iblk m c 4 t) (iblk m c 5 t) (iblk m c 6 t) (iblk m c 7 t) (iblk m c 8 t) (iblk m c 9 t) h r d
      = headAt (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7)) (m ((c : Thread nD τ).loc main_arg8))
        b g h ⟨256 * qi.val + r.val, by omega⟩ d := by
  have hr : (256 * h.val + r.val) % 256 = r.val := by omega
  have hh : (256 * h.val + r.val) / 256 = h.val := by omega
  have s1 : σ1 qi.val (iblk m c 0 t) (iblk m c 1 t) (iblk m c 2 t) (iblk m c 3 t) ⟨256 * h.val + r.val, by omega⟩
      = selScore (m ((c : Thread nD τ).loc main_arg0)) (m ((c : Thread nD τ).loc main_arg1)) (m ((c : Thread nD τ).loc main_arg2)) b g h ⟨256 * qi.val + r.val, by omega⟩ := by
    funext n
    unfold σ1 selScore raw1
    simp only [hr, hh, Fin.eta, b0 m c t b g qi hb hg hq, b1 m c t b g qi hb hg hq, b2 m c t b g qi hb hg hq, b3 m c t]
    congr 2
    rw [Finset.sum_eq_single (⟨n.val / 64, by omega⟩ : Fin 128)]
    · simp
    · intro k _ hk
      rw [if_neg (fun e => hk (Fin.ext e.symm)), mul_zero]
    · intro hk; exact absurd (Finset.mem_univ _) hk
  have s2 : σ2 qi.val (iblk m c 0 t) (iblk m c 5 t) ⟨256 * h.val + r.val, by omega⟩
      = winScore (m ((c : Thread nD τ).loc main_arg0)) (m ((c : Thread nD τ).loc main_arg4)) b g h ⟨256 * qi.val + r.val, by omega⟩ := by
    funext n
    unfold σ2 winScore raw2
    simp only [hr, hh, Fin.eta, b0 m c t b g qi hb hg hq, b5 m c t b g qi hb hg hq]
  unfold blkAt headAt gate gateAt
  rw [s1, s2]
  simp only [Cert.Sel.V, b4 m c t b g qi hb hg hq, b6 m c t b g qi hb hg hq, b7 m c t b g qi hb hg hq, b8 m c t b g qi hb hg hq, b9 m c t b g qi hb hg hq]

/-- The block of a grid point, whichever case it is. -/
theorem point (c : Dev nD) (t : Fin cfg0.N) (h : Fin 4) (r : Fin 256) (d : Fin 128) :
    outsAt0 m c t.val t.isLt (ix3 0 r ⟨128 * h.val + d.val, by omega⟩)
      = blkAt (t.val % 32) (iblk m c 0 t) (iblk m c 1 t) (iblk m c 2 t) (iblk m c 3 t) (iblk m c 4 t) (iblk m c 5 t) (iblk m c 6 t) (iblk m c 7 t) (iblk m c 8 t) (iblk m c 9 t) h r d := by
  have e : (grid0.coords t 2).val = t.val % 32 := by have := idx t; tauto
  rw [← e]
  by_cases h0 : t.val % 2 = 1 <;> by_cases h1 : 2 ≤ t.val % 32
  · rw [outsAt0_D m c t h0 h1]; apply blkD
  · rw [outsAt0_B m c t h0 h1]; apply blkB
  · rw [outsAt0_C m c t h0 h1]; apply blkC
  · rw [outsAt0_A m c t h0 h1]; apply blkA

/-- The kernel's result. -/
theorem final (c : Dev nD) : (dats m 0 c).arrAt 10 (cfgs 0).N = (fun j : S2x8192x2048.Idx =>
    layerAt (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7)) (m ((c : Thread nD τ).loc main_arg8))
        (j 0) (j 1) (j 2)) := by
  refine (dats m 0 c).arrAt_eq_of_covers 10 _ (by decide +kernel) fun t hf y => ?_
  blk_simp
  rw [after0_10]
  have ht : t.val < 256 := lt_of_lt_of_eq t.isLt N_0
  idx_vars y
  have hy : y2.val < 512 := y2.isLt
  have p := (point m c t ⟨y2.val / 128, by omega⟩ y1 ⟨y2.val % 128, by omega⟩).trans
    (blk_layer m c t ⟨t.val / 128, by omega⟩ ⟨t.val / 32 % 4, by omega⟩ ⟨t.val % 32, by omega⟩ rfl rfl rfl _ _ _)
  have ey : (⟨128 * (y2.val / 128) + y2.val % 128, by omega⟩ : Fin 512) = y2 := Fin.ext (by dsimp only; omega)
  have e0 : y0 = 0 := Subsingleton.elim _ _
  subst e0
  simp only [ey] at p
  refine p.trans ?_
  unfold layerAt
  congr 1 <;> refine Fin.ext ?_ <;> blk_simp [idx t] <;> first | rfl | (dsimp only; omega)

end Cert.Kernel7Ideal.Value
-- ==== Proof.SelRef.lean ====
module

public import proofs.«01_k».proof.Proof.SelLayer
public import proofs.«01_k».proof.Proof.Gen.Reference7Ideal.Run
public import Idealize.ShloMosaic.Lib.Pointwise

@[expose] public section

set_option maxRecDepth 16384

noncomputable section

namespace Cert.Sel

open Idealize.ShloMosaic Cert.Flash

/-- A common real factor cancels. -/
theorem div_cancel (x : ℝ) (hx : 0 < x) (a l : EReal) : Ideal.div ((x : EReal) * a) ((x : EReal) * l) = Ideal.div a l := by
  have hx' : (0 : EReal) < x := by exact_mod_cast hx
  have h0 : (x : EReal) * l = 0 ↔ l = 0 := by rw [mul_eq_zero]; exact or_iff_right hx'.ne'
  unfold Ideal.div
  by_cases hl : l = 0
  · rw [if_pos (h0.mpr hl), if_pos hl]
    have : (0 : EReal) < x * a ↔ 0 < a := by
      rw [EReal.mul_pos_iff]
      constructor
      · rintro (h | h)
        · exact h.2
        · exact absurd h.1 (not_lt.mpr hx'.le)
      · exact fun h => Or.inl ⟨hx', h⟩
    simp only [this]
  · rw [if_neg (fun h => hl (h0.mp h)), if_neg hl, EReal.mul_inv]
    have e : (x : EReal) * (x : EReal)⁻¹ = 1 := by
      rw [← EReal.coe_inv, ← EReal.coe_mul, mul_inv_cancel₀ hx.ne']; rfl
    calc (x : EReal) * a * ((x : EReal)⁻¹ * l⁻¹) = ((x : EReal) * (x : EReal)⁻¹) * (a * l⁻¹) := mul_mul_mul_comm _ _ _ _
      _ = a * l⁻¹ := by rw [e, one_mul]

/-- Weights about a greater level than the maximum: the quotient is the same. -/
theorem attn_shift (σ v : Fin 8192 → EReal) (M : EReal) (hM : M = Finset.univ.sup σ ∨ Finset.univ.sup σ ≤ M ∧ ∃ x : ℝ, M = x) :
    Ideal.div (∑ k, Ideal.exp (σ k - M) * v k) (∑ k, Ideal.exp (σ k - M)) = attnAt σ v := by
  rcases hM with rfl | ⟨hle, y, rfl⟩
  · rfl
  unfold attnAt
  have hs : ∀ k, σ k ≤ Finset.univ.sup σ := fun k => Finset.le_sup (Finset.mem_univ k)
  generalize Finset.univ.sup σ = s at *
  induction s with
  | top => exact absurd (top_le_iff.mp hle) (EReal.coe_ne_top y)
  | bot =>
    have e : ∀ k, σ k = ⊥ := fun k => le_bot_iff.mp (hs k)
    have e' : ∀ x : EReal, ⊥ - x = ⊥ := fun x => EReal.bot_add (-x)
    simp only [e, e']
  | coe s =>
    have r : ∀ k, Ideal.exp (σ k - (y : EReal)) = ((Real.exp (s - y) : ℝ) : EReal) * Ideal.exp (σ k - (s : EReal)) := by
      intro k
      rw [← rescale (hs k) hle, ← EReal.coe_sub, exp_coe]
    have hp : (0 : EReal) ≤ ((Real.exp (s - y) : ℝ) : EReal) := by exact_mod_cast (Real.exp_pos _).le
    simp only [r, mul_assoc]
    rw [← mul_sum _ hp (EReal.coe_ne_top _), ← mul_sum _ hp (EReal.coe_ne_top _)]
    exact div_cancel _ (Real.exp_pos _) _ _

/-- A softmax whose masked scores are a finite literal and whose masked weights are zero. -/
theorem soft (c : Fin 8192 → BitVec 1) (p : Fin 8192 → Prop) [DecidablePred p] (hc : ∀ k, c k = 1#1 ↔ p k) (s v : Fin 8192 → EReal)
    (N Z B : EReal) (hN : ∃ x : ℝ, N = x) (hZ : Z = 0) (hB : B = ⊥) :
    Ideal.div
      (∑ k, Scalar.select (c k) (Ideal.exp (Scalar.select (c k) (s k) N - Finset.fold max B (fun k => Scalar.select (c k) (s k) N) Finset.univ)) Z * v k)
      (∑ k, Scalar.select (c k) (Ideal.exp (Scalar.select (c k) (s k) N - Finset.fold max B (fun k => Scalar.select (c k) (s k) N) Finset.univ)) Z)
      = attnAt (fun k => if p k then s k else ⊥) v := by
  subst hZ hB
  obtain ⟨x, rfl⟩ := hN
  have hs : ∀ (k : Fin 8192) (a b : EReal), Scalar.select (c k) a b = if p k then a else b := fun k a b => if_congr (hc k) rfl rfl
  simp only [hs]
  have hf : ∀ f : Fin 8192 → EReal, Finset.fold max ⊥ f Finset.univ = Finset.univ.sup f := fun f => rfl
  rw [hf]
  rw [← attn_shift _ v (Finset.univ.sup fun k => if p k then s k else (x : EReal)) ?_]
  · have e : ∀ (k : Fin 8192) (M : EReal), (if p k then Ideal.exp ((if p k then s k else (x : EReal)) - M) else 0) = Ideal.exp ((if p k then s k else ⊥) - M) := by
      intro k M
      by_cases h : p k
      · simp only [if_pos h]
      · have e' : ∀ x : EReal, ⊥ - x = ⊥ := fun x => EReal.bot_add (-x)
        simp only [if_neg h, e', exp_bot]
    simp only [e]
  · have hle : (Finset.univ.sup fun k => if p k then s k else ⊥) ≤ Finset.univ.sup fun k => if p k then s k else (x : EReal) := by
      refine Finset.sup_mono_fun fun k _ => ?_
      by_cases h : p k
      · simp only [if_pos h]; exact le_refl _
      · simp only [if_neg h]; exact bot_le
    by_cases hx : (x : EReal) ≤ Finset.univ.sup fun k => if p k then s k else ⊥
    · refine Or.inl (le_antisymm (Finset.sup_le fun k _ => ?_) hle)
      by_cases h : p k
      · have := Finset.le_sup (f := fun k => if p k then s k else ⊥) (Finset.mem_univ k)
        simp only [if_pos h] at this ⊢
        exact this
      · simp only [if_neg h]; exact hx
    · by_cases hm : ∃ k, ¬ p k
      · refine Or.inr ⟨hle, x, le_antisymm (Finset.sup_le fun k _ => ?_) ?_⟩
        · by_cases h : p k
          · have := Finset.le_sup (f := fun k => if p k then s k else ⊥) (Finset.mem_univ k)
            simp only [if_pos h] at this ⊢
            exact this.trans (not_le.mp hx).le
          · simp only [if_neg h]; exact le_refl _
        · obtain ⟨k, hk⟩ := hm
          have := Finset.le_sup (f := fun k => if p k then s k else (x : EReal)) (Finset.mem_univ k)
          simp only [if_neg hk] at this
          exact this
      · refine Or.inl (congrArg _ (funext fun k => ?_))
        have h : p k := not_not.mp fun h => hm ⟨k, h⟩
        simp only [if_pos h]

/-- A key's number as a word. -/
theorem key_word (a : ℕ) (ha : a < 8192) : (BitVec.ofNat 32 a).toInt = (a : ℤ) := by
  have h : (BitVec.ofNat 32 a).toNat = a := by rw [BitVec.toNat_ofNat]; omega
  rw [BitVec.toInt_eq_toNat_of_lt (by omega), h]

theorem bit_iff (b : Bool) : BitVec.ofBool b = 1#1 ↔ b = true := by cases b <;> decide

/-- The key is not after the token. -/
theorem mask_sel (n t : Fin 8192) : IntOp.cmpi CmpIPredicate.sle (BitVec.ofNat 32 n.val) (BitVec.ofNat 32 t.val) = 1#1 ↔ n.val ≤ t.val := by
  show BitVec.ofBool (BitVec.sle _ _) = 1#1 ↔ _
  rw [bit_iff, BitVec.sle, key_word _ n.isLt, key_word _ t.isLt, decide_eq_true_iff]
  exact Int.ofNat_le

/-- The key is in the token's window. -/
theorem mask_win (n t : Fin 8192) :
    IntOp.andi (IntOp.cmpi CmpIPredicate.sle (BitVec.ofNat 32 n.val) (BitVec.ofNat 32 t.val))
      (IntOp.cmpi CmpIPredicate.sgt (BitVec.ofNat 32 n.val) (IntOp.subi (BitVec.ofNat 32 t.val) 512#32)) = 1#1 ↔ n.val ≤ t.val ∧ t.val < n.val + 512 := by
  have h2 : IntOp.cmpi CmpIPredicate.sgt (BitVec.ofNat 32 n.val) (IntOp.subi (BitVec.ofNat 32 t.val) 512#32) = 1#1 ↔ t.val < n.val + 512 := by
    show BitVec.ofBool (BitVec.slt (BitVec.ofNat 32 t.val - 512#32) _) = 1#1 ↔ _
    have hn := n.isLt
    have ht := t.isLt
    have e : (BitVec.ofNat 32 t.val - 512#32).toInt = (t.val : ℤ) - 512 := by
      rw [BitVec.toInt_sub, key_word _ ht, show (512#32 : BitVec 32).toInt = 512 from by decide, Int.bmod_def]
      split <;> omega
    rw [bit_iff, BitVec.slt, key_word _ hn, e, decide_eq_true_iff]
    omega
  rw [← mask_sel, ← h2]
  generalize IntOp.cmpi CmpIPredicate.sle _ _ = a
  generalize IntOp.cmpi CmpIPredicate.sgt _ _ = b
  revert a b
  decide

/-- The reference's literal for a masked score is a number. -/
theorem neg_real : ∃ x : ℝ, Ideal.ofBits .f32 0xF149F2CA#32 = (x : EReal) := by
  show ∃ x : ℝ, Ideal.ieee 8 23 0xF149F2CA#32 = (x : EReal)
  unfold Ideal.ieee
  dsimp only
  rw [if_neg (by decide), if_neg (by decide)]
  exact ⟨_, rfl⟩

theorem inf_bot : Ideal.ofBits .f32 0xFF800000#32 = ⊥ := by
  simp [Ideal.ofBits, Ideal.ieee]

end Cert.Sel

namespace Cert.Reference7Ideal.Value

open Cert.Sel Cert.Reference7Ideal Idealize.ShloMosaic Idealize.ShloMosaic.TcCoe Idealize.SL.Sem

/-- The reference's result, entry by entry. -/
theorem out_at (m : (ℓ : Loc nD τ sig) → Buf (Elt Ideal) ℓ) (c : Dev nD) (b : Fin 2) (t : Fin 8192) (j : Fin 2048) :
    res_main_v78 m c (ix3 b t j) = layerAt (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6))
      (m ((c.tc : Thread nD τ).loc main_arg7)) (m ((c.tc : Thread nD τ).loc main_arg8)) b t j := by
  unfold layerAt headAt gateAt Ideal.logistic selScore winScore
  rw [← soft _ _ (fun k => mask_sel k t) _ _ (id (constant (F := Ideal) S_ FTy.f32 0xF149F2CA#32) ix0) (id (constant (F := Ideal) S_ FTy.f32 0x00000000#32) ix0) (Ideal.ofBits .f32 0xFF800000#32) neg_real Ideal.ofBits_zero_f32 inf_bot,
    ← soft _ _ (fun k => mask_win k t) _ _ (id (constant (F := Ideal) S_ FTy.f32 0xF149F2CA#32) ix0) (id (constant (F := Ideal) S_ FTy.f32 0x00000000#32) ix0) (Ideal.ofBits .f32 0xFF800000#32) neg_real Ideal.ofBits_zero_f32 inf_bot]
  simp only [Nat.mul_comm 3]
  unfold res_main_v78
  pointwise

/-- The reference's result; the arguments stay. -/
theorem run_at (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v78) = (fun j : S2x8192x2048.Idx =>
        layerAt (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) (m ((c.tc : Thread nD τ).loc main_arg6))
          (m ((c.tc : Thread nD τ).loc main_arg7)) (m ((c.tc : Thread nD τ).loc main_arg8)) (j 0) (j 1) (j 2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8) := by
  refine (θ_run defs _ _).mono (fun _ h c => ⟨(h c).1.trans ?_, (h c).2⟩) (run (F := Ideal) m ρ)
  funext j
  idx_vars j
  exact out_at m c j0 j1 j2

end Cert.Reference7Ideal.Value
-- ==== Proof.FfnBody.lean ====
module

public import proofs.«01_k».proof.Proof.Gen.Kernel2Ideal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel2Ideal.Value

open Cert.Kernel2Ideal Cert.Kernel2Ideal.Gen Idealize.ShloMosaic Idealize.ShloMosaic.TcCoe Idealize.SL.Sem

variable (m : (ℓ : Loc nD τ sig) → Buf (Elt Ideal) ℓ)

/-- Where the six blocks of the grid point lie: rows by the quotient by 22, weight columns by the remainder. -/
theorem idx : ∀ t : Fin cfg0.N,
    win0_0.index t = ![t.val / 22, 0] ∧ win0_1.index t = ![0, 0] ∧ win0_2.index t = ![0, t.val % 22] ∧
      win0_3.index t = ![0, t.val % 22] ∧ win0_4.index t = ![t.val % 22, 0] ∧ win0_5.index t = ![t.val / 22, 0] :=
  (by decide +kernel : ∀ t : Fin grid0.N, _)

/-- The input entry `(R, l)`. -/
def input (c : Dev nD) (R : Fin 16384) (l : Fin 2048) : EReal := m ((c : Thread nD τ).loc main_arg0) (ix2 R l)

theorem block0 (c : Dev nD) (t : Fin cfg0.N) (r : Fin 1024) (l : Fin 2048) (h : t.val / 22 * 1024 + r.val < 16384) :
    iblk m c 0 t (ix2 r l) = input m c ⟨t.val / 22 * 1024 + r.val, h⟩ l := by
  unfold input
  blk_ext! [iblk, V, idx t]

/-- A matrix padded with zeros on the right, at an index: the matrix inside, zero outside. -/
theorem padded_cols (x : Vec Ideal S2048x5504 .f32) (i : S2048x5632.Idx) :
    (pad S2048x5632 ![0, 0] ![0, 128] ![0, 0] x (sitofp (F := Ideal) .f32 (constantI S_ 32 0#32))
      pads_S2048x5504_S2048x5632_000_01280 h_S_ : FVec Ideal _ .f32) i
      = if h : (i 1).val < 5504 then x (ix2 (i 0) ⟨i 1, h⟩) else (0 : EReal) := by
  pointwise
  rw [show FloatOps.sitofp (F := Ideal) FTy.f32 0#32 = (0 : EReal) from (by
    show ((((0#32 : BitVec 32).toInt : ℤ) : ℝ) : EReal) = 0
    simp)]

/-- A matrix padded with zeros below, at an index: the matrix inside, zero outside. -/
theorem padded_rows (x : Vec Ideal S5504x2048 .f32) (i : S5632x2048.Idx) :
    (pad S5632x2048 ![0, 0] ![128, 0] ![0, 0] x (sitofp (F := Ideal) .f32 (constantI S_ 32 0#32))
      pads_S5504x2048_S5632x2048_01280_000 h_S_ : FVec Ideal _ .f32) i
      = if h : (i 0).val < 5504 then x (ix2 ⟨i 0, h⟩ (i 1)) else (0 : EReal) := by
  pointwise
  rw [show FloatOps.sitofp (F := Ideal) FTy.f32 0#32 = (0 : EReal) from (by
    show ((((0#32 : BitVec 32).toInt : ℤ) : ℝ) : EReal) = 0
    simp)]

theorem entry1 (c : Dev nD) (i : S1x2048.Idx) : V m c main_v0 i = m ((c : Thread nD τ).loc main_arg1) (ix1 (i 1)) := by
  unfold V hostOps0 hostOps0_1 hostOps0_2 hostOps0_3 hostOps0_4 hostOps0_5 hostOps0_6
  simp only [List.flatten_cons, List.flatten_nil, List.cons_append, List.nil_append, List.append_nil]
  after_results
  show (shapeCast S1x2048 (m ((c : Thread nD τ).loc main_arg1) : FVec Ideal S2048 .f32) shapeCasts_S2048_S1x2048 : FVec Ideal _ .f32) i = _
  pointwise

theorem entry2 (c : Dev nD) (i : S2048x5632.Idx) :
    V m c main_v2 i = if h : (i 1).val < 5504 then m ((c : Thread nD τ).loc main_arg2) (ix2 (i 0) ⟨i 1, h⟩) else (0 : EReal) := by
  unfold V hostOps0 hostOps0_1 hostOps0_2 hostOps0_3 hostOps0_4 hostOps0_5 hostOps0_6
  simp only [List.flatten_cons, List.flatten_nil, List.cons_append, List.nil_append, List.append_nil]
  after_results
  show (pad S2048x5632 ![0, 0] ![0, 128] ![0, 0] (m ((c : Thread nD τ).loc main_arg2) : FVec Ideal _ .f32)
    (sitofp (F := Ideal) .f32 (constantI S_ 32 0#32)) pads_S2048x5504_S2048x5632_000_01280 h_S_ : FVec Ideal _ .f32) i = _
  exact padded_cols _ i

theorem entry3 (c : Dev nD) (i : S2048x5632.Idx) :
    V m c main_v4 i = if h : (i 1).val < 5504 then m ((c : Thread nD τ).loc main_arg3) (ix2 (i 0) ⟨i 1, h⟩) else (0 : EReal) := by
  unfold V hostOps0 hostOps0_1 hostOps0_2 hostOps0_3 hostOps0_4 hostOps0_5 hostOps0_6
  simp only [List.flatten_cons, List.flatten_nil, List.cons_append, List.nil_append, List.append_nil]
  after_results
  show (pad S2048x5632 ![0, 0] ![0, 128] ![0, 0] (m ((c : Thread nD τ).loc main_arg3) : FVec Ideal _ .f32)
    (sitofp (F := Ideal) .f32 (constantI S_ 32 0#32)) pads_S2048x5504_S2048x5632_000_01280 h_S_ : FVec Ideal _ .f32) i = _
  exact padded_cols _ i

theorem entry4 (c : Dev nD) (i : S5632x2048.Idx) :
    V m c main_v6 i = if h : (i 0).val < 5504 then m ((c : Thread nD τ).loc main_arg4) (ix2 ⟨i 0, h⟩ (i 1)) else (0 : EReal) := by
  unfold V hostOps0 hostOps0_1 hostOps0_2 hostOps0_3 hostOps0_4 hostOps0_5 hostOps0_6
  simp only [List.flatten_cons, List.flatten_nil, List.cons_append, List.nil_append, List.append_nil]
  after_results
  show (pad S5632x2048 ![0, 0] ![128, 0] ![0, 0] (m ((c : Thread nD τ).loc main_arg4) : FVec Ideal _ .f32)
    (sitofp (F := Ideal) .f32 (constantI S_ 32 0#32)) pads_S5504x2048_S5632x2048_01280_000 h_S_ : FVec Ideal _ .f32) i = _
  exact padded_rows _ i

theorem block1 (c : Dev nD) (t : Fin cfg0.N) (l : Fin 2048) :
    iblk m c 1 t (ix2 0 l) = m ((c : Thread nD τ).loc main_arg1) (ix1 l) := by
  show V m c main_v0 _ = _
  rw [entry1]
  blk_ext [idx t]

theorem block2 (c : Dev nD) (t : Fin cfg0.N) (k : Fin 2048) (f : Fin 256) :
    iblk m c 2 t (ix2 k f) = if h : t.val % 22 * 256 + f.val < 5504 then m ((c : Thread nD τ).loc main_arg2) (ix2 k ⟨t.val % 22 * 256 + f.val, h⟩) else (0 : EReal) := by
  show V m c main_v2 _ = _
  rw [entry2]
  blk_simp [idx t]
  split
  · blk_ext [idx t]
  · rfl

theorem block3 (c : Dev nD) (t : Fin cfg0.N) (k : Fin 2048) (f : Fin 256) :
    iblk m c 3 t (ix2 k f) = if h : t.val % 22 * 256 + f.val < 5504 then m ((c : Thread nD τ).loc main_arg3) (ix2 k ⟨t.val % 22 * 256 + f.val, h⟩) else (0 : EReal) := by
  show V m c main_v4 _ = _
  rw [entry3]
  blk_simp [idx t]
  split
  · blk_ext [idx t]
  · rfl

theorem block4 (c : Dev nD) (t : Fin cfg0.N) (f : Fin 256) (l : Fin 2048) :
    iblk m c 4 t (ix2 f l) = if h : t.val % 22 * 256 + f.val < 5504 then m ((c : Thread nD τ).loc main_arg4) (ix2 ⟨t.val % 22 * 256 + f.val, h⟩ l) else (0 : EReal) := by
  show V m c main_v6 _ = _
  rw [entry4]
  blk_simp [idx t]
  split
  · blk_ext [idx t]
  · rfl

theorem scratchA (c : Dev nD) (t : Fin cfg0.N) (h0 : t.val % 22 = 0) :
    (outsAt0 m c t.val t.isLt).2 = k0_pay1 (iblk m c 0 t) (iblk m c 1 t) := by
  rw [outsAt0_A m c t h0]
  dsimp only
  frame_out

theorem scratchB (c : Dev nD) (t : Fin cfg0.N) (h0 : ¬t.val % 22 = 0) :
    (outsAt0 m c t.val t.isLt).2 = (outsAt0 m c (t.val - 1) (Nat.lt_of_le_of_lt (Nat.sub_le _ _) t.isLt)).2 := by
  rw [outsAt0_B m c t h0]
  rfl

theorem outA (c : Dev nD) (t : Fin cfg0.N) (h0 : t.val % 22 = 0) :
    (outsAt0 m c t.val t.isLt).1 = k0_pay2 (k0_pay1 (iblk m c 0 t) (iblk m c 1 t)) (iblk m c 2 t) (iblk m c 3 t) (iblk m c 0 t) (iblk m c 4 t) := by
  rw [outsAt0_A m c t h0]
  dsimp only
  frame_out

theorem outB (c : Dev nD) (t : Fin cfg0.N) (h0 : ¬t.val % 22 = 0) :
    (outsAt0 m c t.val t.isLt).1 = k0_pay2 (outsAt0 m c (t.val - 1) (Nat.lt_of_le_of_lt (Nat.sub_le _ _) t.isLt)).2 (iblk m c 2 t) (iblk m c 3 t) (outsAt0 m c (t.val - 1) (Nat.lt_of_le_of_lt (Nat.sub_le _ _) t.isLt)).1 (iblk m c 4 t) := by
  rw [outsAt0_B m c t h0]
  dsimp only
  frame_out
  rw [read_unread_whole]

/-- One entry of the normalized row block. -/
theorem pay1_apply (x : Vec Ideal S1024x2048 .f32) (w : Vec Ideal S1x2048 .f32) (r : Fin 1024) (k : Fin 2048) :
    k0_pay1 x w (ix2 r k) = x (ix2 r k) * Ideal.rsqrt (Ideal.div (∑ k', x (ix2 r k') * x (ix2 r k'))
      (Ideal.ofBits FTy.f32 1157627904#32) + Ideal.ofBits FTy.f32 897988541#32) * w (ix2 0 k) := by
  pointwise [k0_pay1]

/-- One entry of the block a grid point stores: what was there and half of this tile's part of the product. -/
theorem pay2_apply (v3 : Vec Ideal S1024x2048 .bf16) (v4 : Vec Ideal S2048x256 .bf16) (v7 : Vec Ideal S2048x256 .bf16)
    (v14 : Vec Ideal S1024x2048 .f32) (v16 : Vec Ideal S256x2048 .bf16) (r : Fin 1024) (l : Fin 2048) :
    k0_pay2 v3 v4 v7 v14 v16 (ix2 r l) = v14 (ix2 r l) + Ideal.ofBits FTy.f32 1056964608#32 *
      ∑ f, ((∑ k, v3 (ix2 r k) * v4 (ix2 k f)) * Ideal.logistic (∑ k, v3 (ix2 r k) * v4 (ix2 k f)) *
        ∑ k, v3 (ix2 r k) * v7 (ix2 k f)) * v16 (ix2 f l) := by
  pointwise [k0_pay2]

/-- The normalized input, entry `(R, k)`. -/
def normed (X : Vec Ideal S16384x2048 .f32) (W : Vec Ideal S2048 .f32) (R : Fin 16384) (k : Fin 2048) : EReal :=
  X (ix2 R k) * Ideal.rsqrt (Ideal.div (∑ k', X (ix2 R k') * X (ix2 R k'))
      (Ideal.ofBits FTy.f32 1157627904#32) + Ideal.ofBits FTy.f32 897988541#32) * W (ix1 k)

/-- The gated hidden unit `g` of row `R`. -/
def hidden (X : Vec Ideal S16384x2048 .f32) (W : Vec Ideal S2048 .f32) (A B : Vec Ideal S2048x5504 .f32)
    (R : Fin 16384) (g : Fin 5504) : EReal :=
  (∑ k, normed X W R k * A (ix2 k g)) * Ideal.logistic (∑ k, normed X W R k * A (ix2 k g)) *
    ∑ k, normed X W R k * B (ix2 k g)

/-- The hidden unit's share of the output entry `(R, l)`, zero past the last unit. -/
def share (X : Vec Ideal S16384x2048 .f32) (W : Vec Ideal S2048 .f32) (A B : Vec Ideal S2048x5504 .f32)
    (D : Vec Ideal S5504x2048 .f32) (R : Fin 16384) (l : Fin 2048) (g : ℕ) : EReal :=
  if h : g < 5504 then hidden X W A B R ⟨g, h⟩ * D (ix2 ⟨g, h⟩ l) else 0

/-- The feed-forward layer's entry `(R, l)`. -/
def ffnAt (X : Vec Ideal S16384x2048 .f32) (W : Vec Ideal S2048 .f32) (A B : Vec Ideal S2048x5504 .f32)
    (D : Vec Ideal S5504x2048 .f32) (R : Fin 16384) (l : Fin 2048) : EReal :=
  X (ix2 R l) + Ideal.ofBits FTy.f32 1056964608#32 * ∑ g, hidden X W A B R g * D (ix2 g l)

theorem half_eq : Ideal.ofBits FTy.f32 1056964608#32 = ((1 / 2 : ℝ) : EReal) := by
  simp [Ideal.ofBits, Ideal.ieee, -EReal.coe_mul]; norm_num

theorem half_mul_add (x y : EReal) : Ideal.ofBits FTy.f32 1056964608#32 * (x + y)
    = Ideal.ofBits FTy.f32 1056964608#32 * x + Ideal.ofBits FTy.f32 1056964608#32 * y := by
  rw [half_eq]
  exact EReal.left_distrib_of_nonneg_of_ne_top (by exact_mod_cast (by norm_num : (0:ℝ) ≤ 1 / 2)) (EReal.coe_ne_top _) _ _

/-- The shares summed tile by tile are the sum over the hidden units. -/
theorem sum_share (X : Vec Ideal S16384x2048 .f32) (W : Vec Ideal S2048 .f32) (A B : Vec Ideal S2048x5504 .f32)
    (D : Vec Ideal S5504x2048 .f32) (R : Fin 16384) (l : Fin 2048) :
    ∑ s ∈ Finset.range 22, ∑ f : Fin 256, share X W A B D R l (s * 256 + f.val) = ∑ g, hidden X W A B R g * D (ix2 g l) := by
  have h1 : ∀ s : ℕ, ∑ f : Fin 256, share X W A B D R l (s * 256 + f.val)
      = ∑ f ∈ Finset.range 256, share X W A B D R l (s * 256 + f) := fun s =>
    Fin.sum_univ_eq_sum_range (fun f => share X W A B D R l (s * 256 + f)) 256
  simp only [h1]
  rw [Finset.sum_range_range_mul_add 22 256 (share X W A B D R l)]
  rw [show 22 * 256 = 5504 + 128 from rfl, Finset.sum_range_add, Finset.sum_eq_zero (s := Finset.range 128), add_zero,
    ← Fin.sum_univ_eq_sum_range]
  · refine Finset.sum_congr rfl fun g _ => ?_
    unfold share
    rw [dif_pos g.isLt]
  · intro x _
    unfold share
    rw [dif_neg (by omega)]

/-- What a grid point adds, from the blocks it reads: half of its tile's shares. -/
theorem step_apply (c : Dev nD) (t : Fin cfg0.N) (v3 : Vec Ideal S1024x2048 .bf16) (v14 : Vec Ideal S1024x2048 .f32) (r : Fin 1024) (l : Fin 2048)
    (R : Fin 16384)
    (h3 : ∀ k, v3 (ix2 r k) = normed (m ((c : Thread nD τ).loc main_arg0)) (m ((c : Thread nD τ).loc main_arg1)) R k) :
    k0_pay2 v3 (iblk m c 2 t) (iblk m c 3 t) v14 (iblk m c 4 t) (ix2 r l) = v14 (ix2 r l) + Ideal.ofBits FTy.f32 1056964608#32 *
      ∑ f : Fin 256, share (m ((c : Thread nD τ).loc main_arg0)) (m ((c : Thread nD τ).loc main_arg1)) (m ((c : Thread nD τ).loc main_arg2))
        (m ((c : Thread nD τ).loc main_arg3)) (m ((c : Thread nD τ).loc main_arg4)) R l (t.val % 22 * 256 + f.val) := by
  rw [pay2_apply]
  congr 2
  refine Finset.sum_congr rfl fun f _ => ?_
  rw [block4]
  simp only [block2, block3, h3]
  unfold share
  by_cases h : t.val % 22 * 256 + f.val < 5504
  · simp only [dif_pos h]
    rfl
  · simp only [dif_neg h, mul_zero]

/-- The normalized block of a run's first point, entry by entry. -/
theorem pay1_block (c : Dev nD) (t : Fin cfg0.N) (r : Fin 1024) (k : Fin 2048) (h : t.val / 22 * 1024 + r.val < 16384) :
    k0_pay1 (iblk m c 0 t) (iblk m c 1 t) (ix2 r k)
      = normed (m ((c : Thread nD τ).loc main_arg0)) (m ((c : Thread nD τ).loc main_arg1)) ⟨t.val / 22 * 1024 + r.val, h⟩ k := by
  rw [pay1_apply, block1]
  simp only [block0 m c t r _ h]
  rfl

/-- After every grid point: the scratch holds the normalized rows, the block the rows and half of the tiles so far. -/
theorem outs_eq (c : Dev nD) (n : ℕ) : ∀ (hn : n < cfg0.N) (r : Fin 1024) (h : n / 22 * 1024 + r.val < 16384),
    (∀ k, (outsAt0 m c n hn).2 (ix2 r k) = normed (m ((c : Thread nD τ).loc main_arg0)) (m ((c : Thread nD τ).loc main_arg1)) ⟨n / 22 * 1024 + r.val, h⟩ k)
    ∧ ∀ l, (outsAt0 m c n hn).1 (ix2 r l) = input m c ⟨n / 22 * 1024 + r.val, h⟩ l + Ideal.ofBits FTy.f32 1056964608#32 *
      ∑ s ∈ Finset.range (n % 22 + 1), ∑ f : Fin 256, share (m ((c : Thread nD τ).loc main_arg0)) (m ((c : Thread nD τ).loc main_arg1)) (m ((c : Thread nD τ).loc main_arg2))
        (m ((c : Thread nD τ).loc main_arg3)) (m ((c : Thread nD τ).loc main_arg4)) ⟨n / 22 * 1024 + r.val, h⟩ l (s * 256 + f.val) := by
  induction n with
  | zero =>
    intro hn r h
    have e2 := scratchA m c ⟨0, hn⟩ rfl
    have e1 := outA m c ⟨0, hn⟩ rfl
    refine ⟨fun k => ?_, fun l => ?_⟩
    · rw [show (outsAt0 m c 0 hn).2 = _ from e2]
      exact pay1_block m c ⟨0, hn⟩ r k h
    · rw [show (outsAt0 m c 0 hn).1 = _ from e1, step_apply m c ⟨0, hn⟩ _ _ r l _ (fun k => pay1_block m c ⟨0, hn⟩ r k h),
        block0 m c ⟨0, hn⟩ r l h]
      simp
  | succ n ih =>
    intro hn r h
    by_cases h0 : (n + 1) % 22 = 0
    · have e2 := scratchA m c ⟨n + 1, hn⟩ h0
      have e1 := outA m c ⟨n + 1, hn⟩ h0
      refine ⟨fun k => ?_, fun l => ?_⟩
      · rw [show (outsAt0 m c (n + 1) hn).2 = _ from e2]
        exact pay1_block m c ⟨n + 1, hn⟩ r k h
      · rw [show (outsAt0 m c (n + 1) hn).1 = _ from e1, step_apply m c ⟨n + 1, hn⟩ _ _ r l _ (fun k => pay1_block m c ⟨n + 1, hn⟩ r k h),
          block0 m c ⟨n + 1, hn⟩ r l h]
        simp [h0]
    · have e2 := scratchB m c ⟨n + 1, hn⟩ h0
      have e1 : (outsAt0 m c (n + 1) hn).1 = k0_pay2 (outsAt0 m c n (Nat.lt_of_succ_lt hn)).2 (iblk m c 2 ⟨n + 1, hn⟩)
          (iblk m c 3 ⟨n + 1, hn⟩) (outsAt0 m c n (Nat.lt_of_succ_lt hn)).1 (iblk m c 4 ⟨n + 1, hn⟩) := outB m c ⟨n + 1, hn⟩ h0
      have hq : (n + 1) / 22 = n / 22 := by omega
      have hr : (n + 1) % 22 = n % 22 + 1 := by omega
      have h' : n / 22 * 1024 + r.val < 16384 := by omega
      obtain ⟨i2, i1⟩ := ih (Nat.lt_of_succ_lt hn) r h'
      have hR : (⟨(n + 1) / 22 * 1024 + r.val, h⟩ : Fin 16384) = ⟨n / 22 * 1024 + r.val, h'⟩ := by simp only [hq]
      rw [hR]
      refine ⟨fun k => ?_, fun l => ?_⟩
      · rw [show (outsAt0 m c (n + 1) hn).2 = _ from e2]
        exact i2 k
      · rw [e1, step_apply m c ⟨n + 1, hn⟩ _ _ r l _ i2]
        rw [show (n + 1) % 22 + 1 = n % 22 + 1 + 1 by omega, Finset.sum_range_succ, half_mul_add, ← add_assoc]
        rw [show (⟨n + 1, hn⟩ : Fin cfg0.N).val % 22 = n % 22 + 1 from hr]
        exact congrArg (· + _) (i1 l)

/-- The kernel's result, entry by entry. -/
theorem result (c : Dev nD) (R : Fin 16384) (l : Fin 2048) :
    G5 m c (ix2 R l) = ffnAt (m ((c : Thread nD τ).loc main_arg0)) (m ((c : Thread nD τ).loc main_arg1)) (m ((c : Thread nD τ).loc main_arg2))
        (m ((c : Thread nD τ).loc main_arg3)) (m ((c : Thread nD τ).loc main_arg4)) R l := by
  unfold G5
  have hp : pt5Of (ix2 R l) = 22 * (R.val / 1024) + 21 := by
    show 22 * (1 * (R.val / 1024 - 0) + 1 * (l.val / 2048 - 0)) + 21 = _
    omega
  have hlt : pt5Of (ix2 R l) < cfg0.N := by
    rw [show cfg0.N = 352 from N_0]
    omega
  have hrow : pt5Of (ix2 R l) / 22 * 1024 + R.val % 1024 = R.val := by omega
  have hloc : loc5Of (ix2 R l) = ix2 ⟨R.val % 1024, Nat.mod_lt _ (by decide)⟩ l := by
    funext a
    match a with
    | ⟨0, _⟩ => rfl
    | ⟨1, _⟩ => exact Fin.ext (Nat.mod_eq_of_lt l.isLt)
  rw [dif_pos hlt, ← outsAt0_sweep m c _ hlt, hloc]
  refine ((outs_eq m c _ hlt ⟨R.val % 1024, Nat.mod_lt _ (by decide)⟩ (by omega)).2 l).trans ?_
  have hR : (⟨pt5Of (ix2 R l) / 22 * 1024 + R.val % 1024, by omega⟩ : Fin 16384) = R := Fin.ext hrow
  rw [hR, show pt5Of (ix2 R l) % 22 + 1 = 22 by omega, sum_share]
  rfl

end Cert.Kernel2Ideal.Value
-- ==== Proof.FfnRef.lean ====
module

public import proofs.«01_k».proof.Proof.FfnBody
public import proofs.«01_k».proof.Proof.Gen.Reference2Ideal.Run

@[expose] public section

set_option maxRecDepth 16384

noncomputable section

namespace Cert.Reference2Ideal.Value

open Cert.Reference2Ideal Idealize.ShloMosaic Idealize.ShloMosaic.TcCoe Idealize.SL.Sem

/-- The reference's result, entry by entry, is the feed-forward layer's; the arguments stay. -/
theorem run_at (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v20) = (fun j : S16384x2048.Idx => Cert.Kernel2Ideal.Value.ffnAt
        (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (j 0) (j 1))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4) := by
  refine (θ_run defs _ _).mono (fun _ h c => ⟨(h c).1.trans ?_, (h c).2⟩) (run (F := Ideal) m ρ)
  funext j
  idx_vars j
  unfold Cert.Kernel2Ideal.Value.ffnAt Cert.Kernel2Ideal.Value.hidden Cert.Kernel2Ideal.Value.normed
  unfold Ideal.logistic
  pointwise!

end Cert.Reference2Ideal.Value
-- ==== Proof.ProjAB.lean ====
module

public import proofs.«01_k».proof.Proof.Gen.Kernel3Ideal.Value
public import proofs.«01_k».proof.Proof.Gen.Reference3Ideal.Run
public import proofs.«01_k».proof.Proof.FfnBody
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel3Ideal.Value

open Cert.Kernel3Ideal Cert.Kernel3Ideal.Gen Idealize.ShloMosaic Idealize.ShloMosaic.TcCoe Idealize.SL.Sem
open Cert.Kernel2Ideal.Value (normed)

variable (m : (ℓ : Loc nD τ sig) → Buf (Elt Ideal) ℓ)

/-- Where the blocks of the grid point lie: rows by the quotient by 14, weight columns by the remainder. -/
theorem idx : ∀ t : Fin cfg0.N,
    win0_0.index t = ![t.val / 14, 0] ∧ win0_1.index t = ![0, 0] ∧ win0_2.index t = ![0, t.val % 14] ∧
      win0_3.index t = ![t.val / 14, t.val % 14] :=
  (by decide +kernel : ∀ t : Fin grid0.N, _)

/-- The column of the weight a result column reads. -/
def col (j : Fin 7168) : Fin 7176 := ⟨if j.val < 3072 then j.val else j.val + 8, by split <;> omega⟩

theorem block0 (c : Dev nD) (t : Fin cfg0.N) (r : Fin 1024) (l : Fin 2048) (h : t.val / 14 * 1024 + r.val < 16384) :
    iblk m c 0 t (ix2 r l) = m ((c : Thread nD τ).loc main_arg0) (ix2 ⟨t.val / 14 * 1024 + r.val, h⟩ l) := by
  blk_ext! [iblk, V, idx t]

theorem entry1 (c : Dev nD) (i : S1x2048.Idx) : V m c main_v4 i = m ((c : Thread nD τ).loc main_arg1) (ix1 (i 1)) := by
  unfold V hostOps0
  simp only [List.flatten_cons, List.flatten_nil, List.cons_append, List.nil_append, List.append_nil]
  after_results
  show (shapeCast S1x2048 (m ((c : Thread nD τ).loc main_arg1) : FVec Ideal S2048 .f32) shapeCasts_S2048_S1x2048 : FVec Ideal _ .f32) i = _
  pointwise

theorem entry2 (c : Dev nD) (i : S2048x7168.Idx) : V m c main_v3 i = m ((c : Thread nD τ).loc main_arg2) (ix2 (i 0) (col (i 1))) := by
  unfold V hostOps0
  simp only [List.flatten_cons, List.flatten_nil, List.cons_append, List.nil_append, List.append_nil]
  after_results
  show (concatenate S2048x7168 1 [⟨S2048x3072, (extractStridedSlice S2048x3072 ![0, 0] (m ((c : Thread nD τ).loc main_arg2) : FVec Ideal S2048x7176 .f32) slices_S2048x7176_S2048x3072_0_0 : FVec Ideal _ .f32)⟩,
    ⟨S2048x4096, (extractStridedSlice S2048x4096 ![0, 3080] (m ((c : Thread nD τ).loc main_arg2) : FVec Ideal S2048x7176 .f32) slices_S2048x7176_S2048x4096_0_3080 : FVec Ideal _ .f32)⟩]
    concatenates_S2048x3072_S2048x4096_S2048x7168_d1 : FVec Ideal _ .f32) i = _
  unfold col
  pointwise
  by_cases h : (i 1).val < 3072
  · simp only [dif_pos h, if_pos h]
  · simp only [dif_neg h, if_neg h]
    congr 2
    exact Fin.ext (by show 3080 + ((i 1).val - 3072) = (i 1).val + 8; omega)

theorem block1 (c : Dev nD) (t : Fin cfg0.N) (l : Fin 2048) :
    iblk m c 1 t (ix2 0 l) = m ((c : Thread nD τ).loc main_arg1) (ix1 l) := by
  show V m c main_v4 _ = _
  rw [entry1]
  blk_ext [idx t]

theorem block2 (c : Dev nD) (t : Fin cfg0.N) (k : Fin 2048) (f : Fin 512) (h : t.val % 14 * 512 + f.val < 7168) :
    iblk m c 2 t (ix2 k f) = m ((c : Thread nD τ).loc main_arg2) (ix2 k (col ⟨t.val % 14 * 512 + f.val, h⟩)) := by
  show V m c main_v3 _ = _
  rw [entry2]
  blk_ext [idx t, col]

theorem scratchA (c : Dev nD) (t : Fin cfg0.N) (h0 : t.val % 14 = 0) :
    (outsAt0 m c t.val t.isLt).2 = k0_pay1 (iblk m c 0 t) (iblk m c 1 t) := by
  rw [outsAt0_A m c t h0]
  dsimp only
  frame_out

theorem scratchB (c : Dev nD) (t : Fin cfg0.N) (h0 : ¬t.val % 14 = 0) :
    (outsAt0 m c t.val t.isLt).2 = (outsAt0 m c (t.val - 1) (Nat.lt_of_le_of_lt (Nat.sub_le _ _) t.isLt)).2 := by
  rw [outsAt0_B m c t h0]
  rfl

theorem outA (c : Dev nD) (t : Fin cfg0.N) (h0 : t.val % 14 = 0) :
    (outsAt0 m c t.val t.isLt).1 = k0_pay2 (k0_pay1 (iblk m c 0 t) (iblk m c 1 t)) (iblk m c 2 t) := by
  rw [outsAt0_A m c t h0]
  dsimp only
  frame_out

theorem outB (c : Dev nD) (t : Fin cfg0.N) (h0 : ¬t.val % 14 = 0) :
    (outsAt0 m c t.val t.isLt).1 = k0_pay2 (outsAt0 m c (t.val - 1) (Nat.lt_of_le_of_lt (Nat.sub_le _ _) t.isLt)).2 (iblk m c 2 t) := by
  rw [outsAt0_B m c t h0]
  dsimp only
  frame_out
  rw [read_unread_whole]

/-- One entry of the normalized row block. -/
theorem pay1_apply (x : Vec Ideal S1024x2048 .f32) (w : Vec Ideal S1x2048 .f32) (r : Fin 1024) (k : Fin 2048) :
    k0_pay1 x w (ix2 r k) = x (ix2 r k) * Ideal.rsqrt (Ideal.div (∑ k', x (ix2 r k') * x (ix2 r k'))
      (Ideal.ofBits FTy.f32 1157627904#32) + Ideal.ofBits FTy.f32 897988541#32) * w (ix2 0 k) := by
  pointwise [k0_pay1]

/-- One entry of the block a grid point stores: the product of its rows and columns. -/
theorem pay2_apply (v3 : Vec Ideal S1024x2048 .bf16) (v4 : Vec Ideal S2048x512 .bf16) (r : Fin 1024) (l : Fin 512) :
    k0_pay2 v3 v4 (ix2 r l) = ∑ k, v3 (ix2 r k) * v4 (ix2 k l) := by
  pointwise [k0_pay2]

/-- The projection's entry `(R, l)`. -/
def projAt (X : Vec Ideal S16384x2048 .f32) (W : Vec Ideal S2048 .f32) (A : Vec Ideal S2048x7176 .f32)
    (R : Fin 16384) (l : Fin 7168) : EReal := ∑ k, normed X W R k * A (ix2 k (col l))

/-- The normalized block of a run's first point, entry by entry. -/
theorem pay1_block (c : Dev nD) (t : Fin cfg0.N) (r : Fin 1024) (k : Fin 2048) (h : t.val / 14 * 1024 + r.val < 16384) :
    k0_pay1 (iblk m c 0 t) (iblk m c 1 t) (ix2 r k)
      = normed (m ((c : Thread nD τ).loc main_arg0)) (m ((c : Thread nD τ).loc main_arg1)) ⟨t.val / 14 * 1024 + r.val, h⟩ k := by
  rw [pay1_apply, block1]
  simp only [block0 m c t r _ h]
  rfl

/-- After every grid point the scratch holds the normalized rows. -/
theorem scratch_eq (c : Dev nD) (n : ℕ) : ∀ (hn : n < cfg0.N) (r : Fin 1024) (h : n / 14 * 1024 + r.val < 16384) (k : Fin 2048),
    (outsAt0 m c n hn).2 (ix2 r k) = normed (m ((c : Thread nD τ).loc main_arg0)) (m ((c : Thread nD τ).loc main_arg1)) ⟨n / 14 * 1024 + r.val, h⟩ k := by
  induction n with
  | zero =>
    intro hn r h k
    rw [show (outsAt0 m c 0 hn).2 = _ from scratchA m c ⟨0, hn⟩ rfl]
    exact pay1_block m c ⟨0, hn⟩ r k h
  | succ n ih =>
    intro hn r h k
    by_cases h0 : (n + 1) % 14 = 0
    · rw [show (outsAt0 m c (n + 1) hn).2 = _ from scratchA m c ⟨n + 1, hn⟩ h0]
      exact pay1_block m c ⟨n + 1, hn⟩ r k h
    · have hq : (n + 1) / 14 = n / 14 := by omega
      have h' : n / 14 * 1024 + r.val < 16384 := by omega
      have hR : (⟨(n + 1) / 14 * 1024 + r.val, h⟩ : Fin 16384) = ⟨n / 14 * 1024 + r.val, h'⟩ := by simp only [hq]
      rw [hR, show (outsAt0 m c (n + 1) hn).2 = _ from scratchB m c ⟨n + 1, hn⟩ h0]
      exact ih (Nat.lt_of_succ_lt hn) r h' k

/-- What every grid point stores. -/
theorem out_eq (c : Dev nD) (t : Fin cfg0.N) (r : Fin 1024) (l : Fin 512) (h : t.val / 14 * 1024 + r.val < 16384)
    (hc : t.val % 14 * 512 + l.val < 7168) :
    (outsAt0 m c t.val t.isLt).1 (ix2 r l) = projAt (m ((c : Thread nD τ).loc main_arg0)) (m ((c : Thread nD τ).loc main_arg1))
      (m ((c : Thread nD τ).loc main_arg2)) ⟨t.val / 14 * 1024 + r.val, h⟩ ⟨t.val % 14 * 512 + l.val, hc⟩ := by
  have key : ∀ v3 : Vec Ideal S1024x2048 .bf16, (∀ k, v3 (ix2 r k) = normed (m ((c : Thread nD τ).loc main_arg0)) (m ((c : Thread nD τ).loc main_arg1)) ⟨t.val / 14 * 1024 + r.val, h⟩ k) →
      k0_pay2 v3 (iblk m c 2 t) (ix2 r l) = projAt (m ((c : Thread nD τ).loc main_arg0)) (m ((c : Thread nD τ).loc main_arg1))
      (m ((c : Thread nD τ).loc main_arg2)) ⟨t.val / 14 * 1024 + r.val, h⟩ ⟨t.val % 14 * 512 + l.val, hc⟩ := by
    intro v3 h3
    rw [pay2_apply]
    simp only [h3, block2 m c t _ l hc]
    rfl
  by_cases h0 : t.val % 14 = 0
  · rw [outA m c t h0]
    exact key _ fun k => pay1_block m c t r k h
  · rw [outB m c t h0]
    refine key _ fun k => ?_
    rw [← scratchB m c t h0]
    exact scratch_eq m c t.val t.isLt r h k

/-- The kernel's result, entry by entry. -/
theorem result (c : Dev nD) (R : Fin 16384) (l : Fin 7168) :
    G3 m c (ix2 R l) = projAt (m ((c : Thread nD τ).loc main_arg0)) (m ((c : Thread nD τ).loc main_arg1)) (m ((c : Thread nD τ).loc main_arg2)) R l := by
  unfold G3
  have hp : pt3Of (ix2 R l) = 14 * (R.val / 1024) + l.val / 512 := by
    show 14 * (R.val / 1024 - 0) + 1 * (l.val / 512 - 0) = _
    omega
  have hlt : pt3Of (ix2 R l) < cfg0.N := by
    rw [show cfg0.N = 224 from N_0]
    omega
  have hrow : pt3Of (ix2 R l) / 14 * 1024 + R.val % 1024 = R.val := by omega
  have hcol : pt3Of (ix2 R l) % 14 * 512 + l.val % 512 = l.val := by omega
  have hloc : loc3Of (ix2 R l) = ix2 ⟨R.val % 1024, Nat.mod_lt _ (by decide)⟩ ⟨l.val % 512, Nat.mod_lt _ (by decide)⟩ := by
    funext a
    match a with
    | ⟨0, _⟩ => rfl
    | ⟨1, _⟩ => rfl
  rw [dif_pos hlt, ← outsAt0_sweep m c _ hlt, hloc]
  refine (out_eq m c ⟨_, hlt⟩ ⟨R.val % 1024, Nat.mod_lt _ (by decide)⟩ ⟨l.val % 512, Nat.mod_lt _ (by decide)⟩
    (by show pt3Of (ix2 R l) / 14 * 1024 + R.val % 1024 < 16384; omega) (by show pt3Of (ix2 R l) % 14 * 512 + l.val % 512 < 7168; omega)).trans ?_
  congr 1
  · exact Fin.ext hrow
  · exact Fin.ext hcol

end Cert.Kernel3Ideal.Value

namespace Cert.Reference3Ideal.Value

open Cert.Reference3Ideal Idealize.ShloMosaic Idealize.ShloMosaic.TcCoe Idealize.SL.Sem

/-- The reference's result, entry by entry, is the projection's; the arguments stay. -/
theorem run_at (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v16) = (fun j : S16384x7168.Idx => Cert.Kernel3Ideal.Value.projAt
        (m ((c.tc : Thread nD τ).loc main_arg0)) (m ((c.tc : Thread nD τ).loc main_arg1)) (m ((c.tc : Thread nD τ).loc main_arg2)) (j 0) (j 1))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2) := by
  refine (θ_run defs _ _).mono (fun _ h c => ⟨(h c).1.trans ?_, (h c).2⟩) (run (F := Ideal) m ρ)
  funext j
  idx_vars j
  unfold Cert.Kernel3Ideal.Value.projAt Cert.Kernel2Ideal.Value.normed
  unfold Cert.Kernel3Ideal.Value.col
  pointwise
  by_cases h : j1.val < 3072
  · simp only [dif_pos h, if_pos h]
  · have e : 3080 + (j1.val - 3072) = j1.val + 8 := by omega
    simp only [dif_neg h, if_neg h, e]

end Cert.Reference3Ideal.Value
-- ==== Proof.ProjC.lean ====
module

public import proofs.«01_k».proof.Proof.Gen.Kernel4Ideal.Value
public import proofs.«01_k».proof.Proof.Gen.Reference4Ideal.Run
public import proofs.«01_k».proof.Proof.FfnBody
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel4Ideal.Value

open Cert.Kernel4Ideal Cert.Kernel4Ideal.Gen Idealize.ShloMosaic Idealize.ShloMosaic.TcCoe Idealize.SL.Sem
open Cert.Kernel2Ideal.Value (normed)

variable (m : (ℓ : Loc nD τ sig) → Buf (Elt Ideal) ℓ)

/-- Where the blocks of the grid point lie: rows by the quotient by 10, weight columns by the remainder. -/
theorem idx : ∀ t : Fin cfg0.N,
    win0_0.index t = ![t.val / 10, 0] ∧ win0_1.index t = ![0, 0] ∧ win0_2.index t = ![0, t.val % 10] ∧
      win0_3.index t = ![t.val / 10, t.val % 10] :=
  (by decide +kernel : ∀ t : Fin grid0.N, _)

/-- The column of the weight a result column reads. -/
def col (j : Fin 5120) : Fin 5168 := ⟨j.val, by omega⟩

theorem block0 (c : Dev nD) (t : Fin cfg0.N) (r : Fin 1024) (l : Fin 2048) (h : t.val / 10 * 1024 + r.val < 16384) :
    iblk m c 0 t (ix2 r l) = m ((c : Thread nD τ).loc main_arg0) (ix2 ⟨t.val / 10 * 1024 + r.val, h⟩ l) := by
  blk_ext! [iblk, V, idx t]

theorem entry1 (c : Dev nD) (i : S1x2048.Idx) : V m c main_v0 i = m ((c : Thread nD τ).loc main_arg1) (ix1 (i 1)) := by
  unfold V hostOps0
  simp only [List.flatten_cons, List.flatten_nil, List.cons_append, List.nil_append, List.append_nil]
  after_results
  show (shapeCast S1x2048 (m ((c : Thread nD τ).loc main_arg1) : FVec Ideal S2048 .f32) shapeCasts_S2048_S1x2048 : FVec Ideal _ .f32) i = _
  pointwise

theorem entry2 (c : Dev nD) (i : S2048x5120.Idx) : V m c main_v2 i = m ((c : Thread nD τ).loc main_arg2) (ix2 (i 0) (col (i 1))) := by
  unfold V hostOps0
  simp only [List.flatten_cons, List.flatten_nil, List.cons_append, List.nil_append, List.append_nil]
  after_results
  show (extractStridedSlice S2048x5120 ![0, 0] (m ((c : Thread nD τ).loc main_arg2) : FVec Ideal S2048x5168 .f32) slices_S2048x5168_S2048x5120_0_0 : FVec Ideal _ .f32) i = _
  unfold col
  pointwise

theorem block1 (c : Dev nD) (t : Fin cfg0.N) (l : Fin 2048) :
    iblk m c 1 t (ix2 0 l) = m ((c : Thread nD τ).loc main_arg1) (ix1 l) := by
  show V m c main_v0 _ = _
  rw [entry1]
  blk_ext [idx t]

theorem block2 (c : Dev nD) (t : Fin cfg0.N) (k : Fin 2048) (f : Fin 512) (h : t.val % 10 * 512 + f.val < 5120) :
    iblk m c 2 t (ix2 k f) = m ((c : Thread nD τ).loc main_arg2) (ix2 k (col ⟨t.val % 10 * 512 + f.val, h⟩)) := by
  show V m c main_v2 _ = _
  rw [entry2]
  blk_ext [idx t, col]

theorem scratchA (c : Dev nD) (t : Fin cfg0.N) (h0 : t.val % 10 = 0) :
    (outsAt0 m c t.val t.isLt).2 = k0_pay1 (iblk m c 0 t) (iblk m c 1 t) := by
  rw [outsAt0_A m c t h0]
  dsimp only
  frame_out

theorem scratchB (c : Dev nD) (t : Fin cfg0.N) (h0 : ¬t.val % 10 = 0) :
    (outsAt0 m c t.val t.isLt).2 = (outsAt0 m c (t.val - 1) (Nat.lt_of_le_of_lt (Nat.sub_le _ _) t.isLt)).2 := by
  rw [outsAt0_B m c t h0]
  rfl

theorem outA (c : Dev nD) (t : Fin cfg0.N) (h0 : t.val % 10 = 0) :
    (outsAt0 m c t.val t.isLt).1 = k0_pay2 (k0_pay1 (iblk m c 0 t) (iblk m c 1 t)) (iblk m c 2 t) := by
  rw [outsAt0_A m c t h0]
  dsimp only
  frame_out

theorem outB (c : Dev nD) (t : Fin cfg0.N) (h0 : ¬t.val % 10 = 0) :
    (outsAt0 m c t.val t.isLt).1 = k0_pay2 (outsAt0 m c (t.val - 1) (Nat.lt_of_le_of_lt (Nat.sub_le _ _) t.isLt)).2 (iblk m c 2 t) := by
  rw [outsAt0_B m c t h0]
  dsimp only
  frame_out
  rw [read_unread_whole]

/-- One entry of the normalized row block. -/
theorem pay1_apply (x : Vec Ideal S1024x2048 .f32) (w : Vec Ideal S1x2048 .f32) (r : Fin 1024) (k : Fin 2048) :
    k0_pay1 x w (ix2 r k) = x (ix2 r k) * Ideal.rsqrt (Ideal.div (∑ k', x (ix2 r k') * x (ix2 r k'))
      (Ideal.ofBits FTy.f32 1157627904#32) + Ideal.ofBits FTy.f32 897988541#32) * w (ix2 0 k) := by
  pointwise [k0_pay1]

/-- One entry of the block a grid point stores: the product of its rows and columns. -/
theorem pay2_apply (v3 : Vec Ideal S1024x2048 .bf16) (v4 : Vec Ideal S2048x512 .bf16) (r : Fin 1024) (l : Fin 512) :
    k0_pay2 v3 v4 (ix2 r l) = ∑ k, v3 (ix2 r k) * v4 (ix2 k l) := by
  pointwise [k0_pay2]

/-- The projection's entry `(R, l)`. -/
def projAt (X : Vec Ideal S16384x2048 .f32) (W : Vec Ideal S2048 .f32) (A : Vec Ideal S2048x5168 .f32)
    (R : Fin 16384) (l : Fin 5120) : EReal := ∑ k, normed X W R k * A (ix2 k (col l))

/-- The normalized block of a run's first point, entry by entry. -/
theorem pay1_block (c : Dev nD) (t : Fin cfg0.N) (r : Fin 1024) (k : Fin 2048) (h : t.val / 10 * 1024 + r.val < 16384) :
    k0_pay1 (iblk m c 0 t) (iblk m c 1 t) (ix2 r k)
      = normed (m ((c : Thread nD τ).loc main_arg0)) (m ((c : Thread nD τ).loc main_arg1)) ⟨t.val / 10 * 1024 + r.val, h⟩ k := by
  rw [pay1_apply, block1]
  simp only [block0 m c t r _ h]
  rfl

/-- After every grid point the scratch holds the normalized rows. -/
theorem scratch_eq (c : Dev nD) (n : ℕ) : ∀ (hn : n < cfg0.N) (r : Fin 1024) (h : n / 10 * 1024 + r.val < 16384) (k : Fin 2048),
    (outsAt0 m c n hn).2 (ix2 r k) = normed (m ((c : Thread nD τ).loc main_arg0)) (m ((c : Thread nD τ).loc main_arg1)) ⟨n / 10 * 1024 + r.val, h⟩ k := by
  induction n with
  | zero =>
    intro hn r h k
    rw [show (outsAt0 m c 0 hn).2 = _ from scratchA m c ⟨0, hn⟩ rfl]
    exact pay1_block m c ⟨0, hn⟩ r k h
  | succ n ih =>
    intro hn r h k
    by_cases h0 : (n + 1) % 10 = 0
    · rw [show (outsAt0 m c (n + 1) hn).2 = _ from scratchA m c ⟨n + 1, hn⟩ h0]
      exact pay1_block m c ⟨n + 1, hn⟩ r k h
    · have hq : (n + 1) / 10 = n / 10 := by omega
      have h' : n / 10 * 1024 + r.val < 16384 := by omega
      have hR : (⟨(n + 1) / 10 * 1024 + r.val, h⟩ : Fin 16384) = ⟨n / 10 * 1024 + r.val, h'⟩ := by simp only [hq]
      rw [hR, show (outsAt0 m c (n + 1) hn).2 = _ from scratchB m c ⟨n + 1, hn⟩ h0]
      exact ih (Nat.lt_of_succ_lt hn) r h' k

/-- What every grid point stores. -/
theorem out_eq (c : Dev nD) (t : Fin cfg0.N) (r : Fin 1024) (l : Fin 512) (h : t.val / 10 * 1024 + r.val < 16384)
    (hc : t.val % 10 * 512 + l.val < 5120) :
    (outsAt0 m c t.val t.isLt).1 (ix2 r l) = projAt (m ((c : Thread nD τ).loc main_arg0)) (m ((c : Thread nD τ).loc main_arg1))
      (m ((c : Thread nD τ).loc main_arg2)) ⟨t.val / 10 * 1024 + r.val, h⟩ ⟨t.val % 10 * 512 + l.val, hc⟩ := by
  have key : ∀ v3 : Vec Ideal S1024x2048 .bf16, (∀ k, v3 (ix2 r k) = normed (m ((c : Thread nD τ).loc main_arg0)) (m ((c : Thread nD τ).loc main_arg1)) ⟨t.val / 10 * 1024 + r.val, h⟩ k) →
      k0_pay2 v3 (iblk m c 2 t) (ix2 r l) = projAt (m ((c : Thread nD τ).loc main_arg0)) (m ((c : Thread nD τ).loc main_arg1))
      (m ((c : Thread nD τ).loc main_arg2)) ⟨t.val / 10 * 1024 + r.val, h⟩ ⟨t.val % 10 * 512 + l.val, hc⟩ := by
    intro v3 h3
    rw [pay2_apply]
    simp only [h3, block2 m c t _ l hc]
    rfl
  by_cases h0 : t.val % 10 = 0
  · rw [outA m c t h0]
    exact key _ fun k => pay1_block m c t r k h
  · rw [outB m c t h0]
    refine key _ fun k => ?_
    rw [← scratchB m c t h0]
    exact scratch_eq m c t.val t.isLt r h k

/-- The kernel's result, entry by entry. -/
theorem result (c : Dev nD) (R : Fin 16384) (l : Fin 5120) :
    G3 m c (ix2 R l) = projAt (m ((c : Thread nD τ).loc main_arg0)) (m ((c : Thread nD τ).loc main_arg1)) (m ((c : Thread nD τ).loc main_arg2)) R l := by
  unfold G3
  have hp : pt3Of (ix2 R l) = 10 * (R.val / 1024) + l.val / 512 := by
    show 10 * (R.val / 1024 - 0) + 1 * (l.val / 512 - 0) = _
    omega
  have hlt : pt3Of (ix2 R l) < cfg0.N := by
    rw [show cfg0.N = 160 from N_0]
    omega
  have hrow : pt3Of (ix2 R l) / 10 * 1024 + R.val % 1024 = R.val := by omega
  have hcol : pt3Of (ix2 R l) % 10 * 512 + l.val % 512 = l.val := by omega
  have hloc : loc3Of (ix2 R l) = ix2 ⟨R.val % 1024, Nat.mod_lt _ (by decide)⟩ ⟨l.val % 512, Nat.mod_lt _ (by decide)⟩ := by
    funext a
    match a with
    | ⟨0, _⟩ => rfl
    | ⟨1, _⟩ => rfl
  rw [dif_pos hlt, ← outsAt0_sweep m c _ hlt, hloc]
  refine (out_eq m c ⟨_, hlt⟩ ⟨R.val % 1024, Nat.mod_lt _ (by decide)⟩ ⟨l.val % 512, Nat.mod_lt _ (by decide)⟩
    (by show pt3Of (ix2 R l) / 10 * 1024 + R.val % 1024 < 16384; omega) (by show pt3Of (ix2 R l) % 10 * 512 + l.val % 512 < 5120; omega)).trans ?_
  congr 1
  · exact Fin.ext hrow
  · exact Fin.ext hcol

end Cert.Kernel4Ideal.Value

namespace Cert.Reference4Ideal.Value

open Cert.Reference4Ideal Idealize.ShloMosaic Idealize.ShloMosaic.TcCoe Idealize.SL.Sem

/-- The reference's result, entry by entry, is the projection's; the arguments stay. -/
theorem run_at (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v14) = (fun j : S16384x5120.Idx => Cert.Kernel4Ideal.Value.projAt
        (m ((c.tc : Thread nD τ).loc main_arg0)) (m ((c.tc : Thread nD τ).loc main_arg1)) (m ((c.tc : Thread nD τ).loc main_arg2)) (j 0) (j 1))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2) := by
  refine (θ_run defs _ _).mono (fun _ h c => ⟨(h c).1.trans ?_, (h c).2⟩) (run (F := Ideal) m ρ)
  funext j
  idx_vars j
  unfold Cert.Kernel4Ideal.Value.projAt Cert.Kernel2Ideal.Value.normed
  unfold Cert.Kernel4Ideal.Value.col
  pointwise

end Cert.Reference4Ideal.Value
-- ==== Proof.OutAB.lean ====
module

public import proofs.«01_k».proof.Proof.Gen.Kernel5Ideal.Value
public import proofs.«01_k».proof.Proof.Gen.Reference5Ideal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel5Ideal.Value

open Cert.Kernel5Ideal Cert.Kernel5Ideal.Gen Idealize.ShloMosaic Idealize.ShloMosaic.TcCoe Idealize.SL.Sem

variable (m : (ℓ : Loc nD τ sig) → Buf (Elt Ideal) ℓ)

/-- Where the blocks of the grid point lie. -/
theorem idx : ∀ t : Fin cfg0.N,
    win0_0.index t = ![t.val, 0] ∧ win0_1.index t = ![t.val, 0] ∧ win0_2.index t = ![t.val, 0] ∧
      win0_3.index t = ![0, 0] ∧ win0_4.index t = ![0, 0] ∧ win0_5.index t = ![t.val, 0] :=
  (by decide +kernel : ∀ t : Fin grid0.N, _)

/-- The entry `(R, l)` of the input and the two parts' product with the two halves of the weight. -/
def outAt (H : Vec Ideal S16384x2048 .f32) (A B : Vec Ideal S16384x1024 .bf16) (W : Vec Ideal S2048x2048 .f32)
    (R : Fin 16384) (l : Fin 2048) : EReal :=
  H (ix2 R l) + ∑ k : Fin 1024, A (ix2 R k) * W (ix2 ⟨k.val, by omega⟩ l) + ∑ k : Fin 1024, B (ix2 R k) * W (ix2 ⟨1024 + k.val, by omega⟩ l)

theorem entry3 (c : Dev nD) (i : S1024x2048.Idx) : V m c main_v1 i = m ((c : Thread nD τ).loc main_arg3) (ix2 ⟨(i 0).val, by have : (i 0).val < 1024 := (i 0).isLt; omega⟩ (i 1)) := by
  unfold V hostOps0
  simp only [List.flatten_cons, List.flatten_nil, List.cons_append, List.nil_append, List.append_nil]
  after_results
  show (extractStridedSlice S1024x2048 ![0, 0] (m ((c : Thread nD τ).loc main_arg3) : FVec Ideal S2048x2048 .f32) slices_S2048x2048_S1024x2048_0_0 : FVec Ideal _ .f32) i = _
  pointwise

theorem entry4 (c : Dev nD) (i : S1024x2048.Idx) : V m c main_v2 i = m ((c : Thread nD τ).loc main_arg3) (ix2 ⟨1024 + (i 0).val, by have : (i 0).val < 1024 := (i 0).isLt; omega⟩ (i 1)) := by
  unfold V hostOps0
  simp only [List.flatten_cons, List.flatten_nil, List.cons_append, List.nil_append, List.append_nil]
  after_results
  show (extractStridedSlice S1024x2048 ![1024, 0] (m ((c : Thread nD τ).loc main_arg3) : FVec Ideal S2048x2048 .f32) slices_S2048x2048_S1024x2048_1024_0 : FVec Ideal _ .f32) i = _
  pointwise

theorem block3 (c : Dev nD) (t : Fin cfg0.N) (k : Fin 1024) (l : Fin 2048) :
    iblk m c 3 t (ix2 k l) = m ((c : Thread nD τ).loc main_arg3) (ix2 ⟨k.val, by omega⟩ l) := by
  show V m c main_v1 _ = _
  rw [entry3]
  blk_ext [idx t]

theorem block4 (c : Dev nD) (t : Fin cfg0.N) (k : Fin 1024) (l : Fin 2048) :
    iblk m c 4 t (ix2 k l) = m ((c : Thread nD τ).loc main_arg3) (ix2 ⟨1024 + k.val, by omega⟩ l) := by
  show V m c main_v2 _ = _
  rw [entry4]
  blk_ext [idx t]

/-- One entry of the block a grid point stores. -/
theorem pay1_apply (h : Vec Ideal S512x2048 .f32) (a : Vec Ideal S512x1024 .bf16) (u : Vec Ideal S1024x2048 .bf16)
    (b : Vec Ideal S512x1024 .bf16) (v : Vec Ideal S1024x2048 .bf16) (r : Fin 512) (l : Fin 2048) :
    k0_pay1 h a u b v (ix2 r l) = h (ix2 r l) + ∑ k, a (ix2 r k) * u (ix2 k l) + ∑ k, b (ix2 r k) * v (ix2 k l) := by
  pointwise [k0_pay1]

/-- What a grid point writes, entry by entry. -/
theorem point (c : Dev nD) (t : Fin cfg0.N) (r : Fin 512) (l : Fin 2048) (h : t.val * 512 + r.val < 16384) :
    k0_pay1 (iblk m c 0 t) (iblk m c 1 t) (iblk m c 3 t) (iblk m c 2 t) (iblk m c 4 t) (ix2 r l)
      = outAt (m ((c : Thread nD τ).loc main_arg0)) (m ((c : Thread nD τ).loc main_arg1)) (m ((c : Thread nD τ).loc main_arg2))
        (m ((c : Thread nD τ).loc main_arg3)) ⟨t.val * 512 + r.val, h⟩ l := by
  have b0 : iblk m c 0 t (ix2 r l) = m ((c : Thread nD τ).loc main_arg0) (ix2 ⟨t.val * 512 + r.val, h⟩ l) := by
    blk_ext! [iblk, V, idx t]
  have b1 : ∀ k : Fin 1024, iblk m c 1 t (ix2 r k) = m ((c : Thread nD τ).loc main_arg1) (ix2 ⟨t.val * 512 + r.val, h⟩ k) := by
    intro k
    blk_ext! [iblk, V, idx t]
  have b2 : ∀ k : Fin 1024, iblk m c 2 t (ix2 r k) = m ((c : Thread nD τ).loc main_arg2) (ix2 ⟨t.val * 512 + r.val, h⟩ k) := by
    intro k
    blk_ext! [iblk, V, idx t]
  rw [pay1_apply]
  simp only [b0, b1, b2, block3, block4]
  rfl

/-- The block a grid point writes is the payload of its input blocks. -/
theorem out_eq (x0 : Vec Ideal S512x2048 .f32) (x1 x2 : Vec Ideal S512x1024 .bf16) (x3 x4 : Vec Ideal S1024x2048 .bf16) : out0_5 x0 x1 x2 x3 x4 = k0_pay1 x0 x1 x3 x2 x4 := by
  unfold out0_5
  rw [View.canon_cons_unit_lit _ _ _ (by decide)]
  congr 1 <;> exact View.ld_unit_lit _ _ (by decide)

/-- The kernel's result. -/
theorem final (c : Dev nD) : (dats m 0 c).arrAt 5 (cfgs 0).N = (fun j : S16384x2048.Idx =>
    outAt (m ((c : Thread nD τ).loc main_arg0)) (m ((c : Thread nD τ).loc main_arg1)) (m ((c : Thread nD τ).loc main_arg2)) (m ((c : Thread nD τ).loc main_arg3)) (j 0) (j 1)) := by
  refine (dats m 0 c).arrAt_eq_of_covers 5 _ (by decide +kernel) fun t hf y => ?_
  blk_simp
  rw [after0_5]
  have ht : t.val < 32 := lt_of_lt_of_eq t.isLt N_0
  idx_vars y
  rw [out_eq]
  refine (point m c t y0 y1 (by omega)).trans ?_
  refine congrArg₂ (outAt _ _ _ _) (Fin.ext ?_) (Fin.ext ?_)
  · blk_simp [idx t]
  · blk_simp [idx t]

end Cert.Kernel5Ideal.Value

namespace Cert.Reference5Ideal.Value

open Cert.Reference5Ideal Idealize.ShloMosaic Idealize.ShloMosaic.TcCoe Idealize.SL.Sem

/-- The reference's result, entry by entry; the arguments stay. -/
theorem run_at (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4) = (fun j : S16384x2048.Idx => Cert.Kernel5Ideal.Value.outAt (m ((c.tc : Thread nD τ).loc main_arg0)) (m ((c.tc : Thread nD τ).loc main_arg1)) (m ((c.tc : Thread nD τ).loc main_arg2)) (m ((c.tc : Thread nD τ).loc main_arg3)) (j 0) (j 1))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3) := by
  refine (θ_run defs _ _).mono (fun _ h c => ⟨(h c).1.trans ?_, (h c).2⟩) (run (F := Ideal) m ρ)
  funext j
  idx_vars j
  unfold Cert.Kernel5Ideal.Value.outAt
  pointwise
  exact (add_assoc (_ : EReal) _ _).symm

end Cert.Reference5Ideal.Value
-- ==== Proof.OutC.lean ====
module

public import proofs.«01_k».proof.Proof.Gen.Kernel6Ideal.Value
public import proofs.«01_k».proof.Proof.Gen.Reference6Ideal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel6Ideal.Value

open Cert.Kernel6Ideal Cert.Kernel6Ideal.Gen Idealize.ShloMosaic Idealize.ShloMosaic.TcCoe Idealize.SL.Sem

variable (m : (ℓ : Loc nD τ sig) → Buf (Elt Ideal) ℓ)

/-- Where the blocks of the grid point lie. -/
theorem idx : ∀ t : Fin cfg0.N,
    win0_0.index t = ![t.val, 0] ∧ win0_1.index t = ![t.val, 0] ∧ win0_2.index t = ![0, 0] ∧ win0_3.index t = ![t.val, 0] :=
  (by decide +kernel : ∀ t : Fin grid0.N, _)

/-- The entry `(R, l)` of the input and the product with the weight. -/
def outAt (H : Vec Ideal S16384x2048 .f32) (A : Vec Ideal S16384x2048 .bf16) (W : Vec Ideal S2048x2048 .f32)
    (R : Fin 16384) (l : Fin 2048) : EReal := H (ix2 R l) + ∑ k : Fin 2048, A (ix2 R k) * W (ix2 k l)

theorem block2 (c : Dev nD) (t : Fin cfg0.N) (k : Fin 2048) (l : Fin 2048) :
    iblk m c 2 t (ix2 k l) = m ((c : Thread nD τ).loc main_arg2) (ix2 k l) := by
  have e : ∀ i : S2048x2048.Idx, V m c main_v0 i = m ((c : Thread nD τ).loc main_arg2) i := by
    intro i
    unfold V hostOps0
    simp only [List.flatten_cons, List.flatten_nil, List.cons_append, List.nil_append, List.append_nil]
    after_results
    rfl
  show V m c main_v0 _ = _
  rw [e]
  blk_ext [idx t]

/-- One entry of the block a grid point stores. -/
theorem pay1_apply (h : Vec Ideal S512x2048 .f32) (a : Vec Ideal S512x2048 .bf16) (u : Vec Ideal S2048x2048 .bf16) (r : Fin 512) (l : Fin 2048) :
    k0_pay1 h a u (ix2 r l) = h (ix2 r l) + ∑ k, a (ix2 r k) * u (ix2 k l) := by
  pointwise [k0_pay1]

/-- What a grid point writes, entry by entry. -/
theorem point (c : Dev nD) (t : Fin cfg0.N) (r : Fin 512) (l : Fin 2048) (h : t.val * 512 + r.val < 16384) :
    k0_pay1 (iblk m c 0 t) (iblk m c 1 t) (iblk m c 2 t) (ix2 r l)
      = outAt (m ((c : Thread nD τ).loc main_arg0)) (m ((c : Thread nD τ).loc main_arg1)) (m ((c : Thread nD τ).loc main_arg2))
        ⟨t.val * 512 + r.val, h⟩ l := by
  have b0 : iblk m c 0 t (ix2 r l) = m ((c : Thread nD τ).loc main_arg0) (ix2 ⟨t.val * 512 + r.val, h⟩ l) := by
    blk_ext! [iblk, V, idx t]
  have b1 : ∀ k : Fin 2048, iblk m c 1 t (ix2 r k) = m ((c : Thread nD τ).loc main_arg1) (ix2 ⟨t.val * 512 + r.val, h⟩ k) := by
    intro k
    blk_ext! [iblk, V, idx t]
  rw [pay1_apply]
  simp only [b0, b1, block2]
  rfl

/-- The block a grid point writes is the payload of its input blocks. -/
theorem out_eq (x0 : Vec Ideal S512x2048 .f32) (x1 : Vec Ideal S512x2048 .bf16) (x2 : Vec Ideal S2048x2048 .bf16) : out0_3 x0 x1 x2 = k0_pay1 x0 x1 x2 := by
  unfold out0_3
  rw [View.canon_cons_unit_lit _ _ _ (by decide)]
  congr 1 <;> exact View.ld_unit_lit _ _ (by decide)

/-- The kernel's result. -/
theorem final (c : Dev nD) : (dats m 0 c).arrAt 3 (cfgs 0).N = (fun j : S16384x2048.Idx =>
    outAt (m ((c : Thread nD τ).loc main_arg0)) (m ((c : Thread nD τ).loc main_arg1)) (m ((c : Thread nD τ).loc main_arg2)) (j 0) (j 1)) := by
  refine (dats m 0 c).arrAt_eq_of_covers 3 _ (by decide +kernel) fun t hf y => ?_
  blk_simp
  rw [after0_3]
  have ht : t.val < 32 := lt_of_lt_of_eq t.isLt N_0
  idx_vars y
  rw [out_eq]
  refine (point m c t y0 y1 (by omega)).trans ?_
  refine congrArg₂ (outAt _ _ _) (Fin.ext ?_) (Fin.ext ?_)
  · blk_simp [idx t]
  · blk_simp [idx t]

end Cert.Kernel6Ideal.Value

namespace Cert.Reference6Ideal.Value

open Cert.Reference6Ideal Idealize.ShloMosaic Idealize.ShloMosaic.TcCoe Idealize.SL.Sem

/-- The reference's result, entry by entry; the arguments stay. -/
theorem run_at (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2) = (fun j : S16384x2048.Idx => Cert.Kernel6Ideal.Value.outAt (m ((c.tc : Thread nD τ).loc main_arg0)) (m ((c.tc : Thread nD τ).loc main_arg1)) (m ((c.tc : Thread nD τ).loc main_arg2)) (j 0) (j 1))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2) := by
  refine (θ_run defs _ _).mono (fun _ h c => ⟨(h c).1.trans ?_, (h c).2⟩) (run (F := Ideal) m ρ)
  funext j
  idx_vars j
  unfold Cert.Kernel6Ideal.Value.outAt
  pointwise!

end Cert.Reference6Ideal.Value
-- ==== Proof.lean ====
module

public import proofs.«01_k».proof.Defs
public import proofs.«01_k».proof.Proof.Gen.Kernel7.Frame
public import proofs.«01_k».proof.Proof.SelFinal
public import proofs.«01_k».proof.Proof.SelRef
public import proofs.«01_k».proof.Proof.Gen.Kernel2.Frame
public import proofs.«01_k».proof.Proof.FfnRef
public import proofs.«01_k».proof.Proof.Gen.Kernel3.Frame
public import proofs.«01_k».proof.Proof.ProjAB
public import proofs.«01_k».proof.Proof.Gen.Kernel4.Frame
public import proofs.«01_k».proof.Proof.ProjC
public import proofs.«01_k».proof.Proof.Gen.Kernel5.Frame
public import proofs.«01_k».proof.Proof.OutAB
public import proofs.«01_k».proof.Proof.Gen.Kernel6.Frame
public import proofs.«01_k».proof.Proof.OutC
public import Idealize.ShloMosaic.Adequacy
public import Idealize.ShloMosaic.Init
public import Idealize.ShloMosaic.Lib.Quiescent
public import Idealize.ShloMosaic.Lib.Pointwise

@[expose] public section

noncomputable section

namespace Cert.Proof

open Idealize.ShloMosaic Idealize.ShloMosaic.TcCoe Idealize.SL.Sem

/-- The reference of the selected and windowed attention leaves its arguments as they were and no count pending. -/
theorem quiescent_Reference7Ideal : quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- Over the reals the selected and windowed attention and its reference give the same arrays. -/
theorem algebraic_Kernel7Ideal_Reference7Ideal : algebraic_Kernel7Ideal_Reference7Ideal := by
  intro m ρ m' ρ' _ hagree
  refine ⟨_, (θ_run Cert.Kernel7Ideal.defs _ _).mono (fun _ h c => ⟨(h c).1.trans (Cert.Kernel7Ideal.Value.final m c), (h c).2⟩) (Cert.Kernel7Ideal.Value.run_blocks (F := Ideal) m ρ), ?_⟩
  refine (θ_run Cert.Reference7Ideal.defs _ _).mono (fun _ h c => ⟨?_, (h c).2⟩) (Cert.Reference7Ideal.Value.run_at m' ρ')
  rw [(h c).1]
  simp only [hagree c]

/-- The reference of the feed-forward call leaves its arguments as they were and no count pending. -/
theorem quiescent_Reference2Ideal : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- Over the reals the feed-forward call and its reference give the same arrays. -/
theorem algebraic_Kernel2Ideal_Reference2Ideal : algebraic_Kernel2Ideal_Reference2Ideal := by
  intro m ρ m' ρ' _ hagree
  refine ⟨_, Cert.Kernel2Ideal.Value.run (F := Ideal) m ρ, ?_⟩
  refine (θ_run Cert.Reference2Ideal.defs _ _).mono (fun _ h c => ⟨?_, (h c).2⟩) (Cert.Reference2Ideal.Value.run_at m' ρ')
  rw [(h c).1]
  simp only [hagree c]
  funext j
  idx_vars j
  exact (Cert.Kernel2Ideal.Value.result m c _ _).symm

/-- The reference of the in-projection of the recurrent layers leaves its arguments as they were and no count pending. -/
theorem quiescent_Reference3Ideal : quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- Over the reals the in-projection of the recurrent layers and its reference give the same arrays. -/
theorem algebraic_Kernel3Ideal_Reference3Ideal : algebraic_Kernel3Ideal_Reference3Ideal := by
  intro m ρ m' ρ' _ hagree
  refine ⟨_, Cert.Kernel3Ideal.Value.run (F := Ideal) m ρ, ?_⟩
  refine (θ_run Cert.Reference3Ideal.defs _ _).mono (fun _ h c => ⟨?_, (h c).2⟩) (Cert.Reference3Ideal.Value.run_at m' ρ')
  rw [(h c).1]
  simp only [hagree c]
  funext j
  idx_vars j
  exact (Cert.Kernel3Ideal.Value.result m c _ _).symm

/-- The reference of the in-projection of the sparse attention leaves its arguments as they were and no count pending. -/
theorem quiescent_Reference4Ideal : quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- Over the reals the in-projection of the sparse attention and its reference give the same arrays. -/
theorem algebraic_Kernel4Ideal_Reference4Ideal : algebraic_Kernel4Ideal_Reference4Ideal := by
  intro m ρ m' ρ' _ hagree
  refine ⟨_, Cert.Kernel4Ideal.Value.run (F := Ideal) m ρ, ?_⟩
  refine (θ_run Cert.Reference4Ideal.defs _ _).mono (fun _ h c => ⟨?_, (h c).2⟩) (Cert.Reference4Ideal.Value.run_at m' ρ')
  rw [(h c).1]
  simp only [hagree c]
  funext j
  idx_vars j
  exact (Cert.Kernel4Ideal.Value.result m c _ _).symm

/-- The reference of the out-projection of the recurrent layers leaves its arguments as they were and no count pending. -/
theorem quiescent_Reference5Ideal : quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- Over the reals the out-projection of the recurrent layers and its reference give the same arrays. -/
theorem algebraic_Kernel5Ideal_Reference5Ideal : algebraic_Kernel5Ideal_Reference5Ideal := by
  intro m ρ m' ρ' _ hagree
  refine ⟨_, (θ_run Cert.Kernel5Ideal.defs _ _).mono (fun _ h c => ⟨(h c).1.trans (Cert.Kernel5Ideal.Value.final m c), (h c).2⟩) (Cert.Kernel5Ideal.Value.run_blocks (F := Ideal) m ρ), ?_⟩
  refine (θ_run Cert.Reference5Ideal.defs _ _).mono (fun _ h c => ⟨?_, (h c).2⟩) (Cert.Reference5Ideal.Value.run_at m' ρ')
  rw [(h c).1]
  simp only [hagree c]

/-- The reference of the out-projection of the sparse attention leaves its arguments as they were and no count pending. -/
theorem quiescent_Reference6Ideal : quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- Over the reals the out-projection of the sparse attention and its reference give the same arrays. -/
theorem algebraic_Kernel6Ideal_Reference6Ideal : algebraic_Kernel6Ideal_Reference6Ideal := by
  intro m ρ m' ρ' _ hagree
  refine ⟨_, (θ_run Cert.Kernel6Ideal.defs _ _).mono (fun _ h c => ⟨(h c).1.trans (Cert.Kernel6Ideal.Value.final m c), (h c).2⟩) (Cert.Kernel6Ideal.Value.run_blocks (F := Ideal) m ρ), ?_⟩
  refine (θ_run Cert.Reference6Ideal.defs _ _).mono (fun _ h c => ⟨?_, (h c).2⟩) (Cert.Reference6Ideal.Value.run_at m' ρ')
  rw [(h c).1]
  simp only [hagree c]

/-- The named constant of the selected and windowed attention is the printed number. -/
theorem preserves_Kernel7_Kernel7Ideal : preserves_Kernel7_Kernel7Ideal := IdealRules.named_const.statement Cert.Kernel7Ideal.κ "mask" .f32 0xF149F2CA#32 ⊥ rfl

/-- The whole claim. -/
theorem claim : Cert.Claim := ⟨Cert.Kernel7.Gen.facts, Cert.Kernel7Ideal.Gen.facts, Cert.Reference7Ideal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts,
  fun m ρ _ => Cert.Kernel7.Gen.frame m ρ, fun m ρ _ => Cert.Kernel7Ideal.Gen.frame m ρ, quiescent_Reference7Ideal,
  fun m ρ _ => Cert.Kernel2.Gen.frame m ρ, fun m ρ _ => Cert.Kernel2Ideal.Gen.frame m ρ, quiescent_Reference2Ideal,
  fun m ρ _ => Cert.Kernel3.Gen.frame m ρ, fun m ρ _ => Cert.Kernel3Ideal.Gen.frame m ρ, quiescent_Reference3Ideal,
  fun m ρ _ => Cert.Kernel4.Gen.frame m ρ, fun m ρ _ => Cert.Kernel4Ideal.Gen.frame m ρ, quiescent_Reference4Ideal,
  fun m ρ _ => Cert.Kernel5.Gen.frame m ρ, fun m ρ _ => Cert.Kernel5Ideal.Gen.frame m ρ, quiescent_Reference5Ideal,
  fun m ρ _ => Cert.Kernel6.Gen.frame m ρ, fun m ρ _ => Cert.Kernel6Ideal.Gen.frame m ρ, quiescent_Reference6Ideal,
  preserves_Kernel7_Kernel7Ideal, algebraic_Kernel7Ideal_Reference7Ideal,
  (trivial : preserves_Kernel2_Kernel2Ideal), algebraic_Kernel2Ideal_Reference2Ideal,
  (trivial : preserves_Kernel3_Kernel3Ideal), algebraic_Kernel3Ideal_Reference3Ideal,
  (trivial : preserves_Kernel4_Kernel4Ideal), algebraic_Kernel4Ideal_Reference4Ideal,
  (trivial : preserves_Kernel5_Kernel5Ideal), algebraic_Kernel5Ideal_Reference5Ideal,
  (trivial : preserves_Kernel6_Kernel6Ideal), algebraic_Kernel6Ideal_Reference6Ideal⟩

end Cert.Proof

end
